-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v108) = v0 c
          ∧ r.2.mem ((c.tc : Thread Cert.Reference3Ideal.nD Cert.Reference3Ideal.τ).loc Cert.Reference3Ideal.main_v109) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "cap" .f32 0x5368D4A5#32 ((2305843009213693952 / 2305843 : ℝ) : EReal)

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v183) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S4x128x8320 : Shape := ⟨3, ![4, 128, 8320]⟩
abbrev S1x128x6272 : Shape := ⟨3, ![1, 128, 6272]⟩
abbrev S1x128x32x64x64 : Shape := ⟨5, ![1, 128, 32, 64, 64]⟩
abbrev S1x6272 : Shape := ⟨2, ![1, 6272]⟩
abbrev S1x2048 : Shape := ⟨2, ![1, 2048]⟩
abbrev S1x64x2048 : Shape := ⟨3, ![1, 64, 2048]⟩
abbrev S1x32x64 : Shape := ⟨3, ![1, 32, 64]⟩
abbrev S_ : Shape := ⟨0, ![]⟩

class Facts : Prop where
  bcast_S_S4x128x8320 : S_.BroadcastsInDim S4x128x8320 (![] : Fin 0 → Fin S4x128x8320.rank)
  reducesTo_S4x128x8320_S_d0_1_2 : S4x128x8320.ReducesTo [0, 1, 2] S_
  h_S_ : 0 < S_.numel
  bcast_S_S1x128x6272 : S_.BroadcastsInDim S1x128x6272 (![] : Fin 0 → Fin S1x128x6272.rank)
  reducesTo_S1x128x6272_S_d0_1_2 : S1x128x6272.ReducesTo [0, 1, 2] S_
  bcast_S_S1x6272 : S_.BroadcastsInDim S1x6272 (![] : Fin 0 → Fin S1x6272.rank)
  reducesTo_S1x6272_S_d0_1 : S1x6272.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S4x128x8320 .f32) (main_arg1 : FVec F S1x128x6272 .f32) (main_arg2 : FVec F S1x128x32x64x64 .f32) (main_arg3 : FVec F S1x6272 .f32) (main_arg4 : FVec F S1x2048 .f32) (main_arg5 : FVec F S1x64x2048 .f32) (main_arg6 : FVec F S1x2048 .f32) (main_arg7 : FVec F S1x64x2048 .f32) (main_arg8 : FVec F S1x2048 .f32) (main_arg9 : FVec F S1x2048 .f32) (main_arg10 : FVec F S1x32x64 .f32) (main_arg11 : FVec F S1x2048 .f32) (main_arg12 : FVec F S1x2048 .f32) : IVec S_ 1 :=
  let main_v0 : FVec F S4x128x8320 .f32 := Host.absf main_arg0
  let main_cst : FVec F S_ .f32 := constant S_ .f32 0x7F800000#32
  let main_v1 : FVec F S4x128x8320 .f32 := broadcastInDim S4x128x8320 ![] bcast_S_S4x128x8320 main_cst
  let main_v2 : IVec S4x128x8320 1 := cmpf .olt main_v0 main_v1
  let main_c : IVec S_ 1 := constantI S_ 1 1#1
  let main_v3 : IVec S_ 1 := (fun x v => Host.reduce IntOp.andi x v reducesTo_S4x128x8320_S_d0_1_2 h_S_) main_v2 main_c
  let main_v4 : FVec F S1x128x6272 .f32 := Host.absf main_arg1
  let main_cst_0 : FVec F S_ .f32 := constant S_ .f32 0x7F800000#32
  let main_v5 : FVec F S1x128x6272 .f32 := broadcastInDim S1x128x6272 ![] bcast_S_S1x128x6272 main_cst_0
  let main_v6 : IVec S1x128x6272 1 := cmpf .olt main_v4 main_v5
  let main_c_1 : IVec S_ 1 := constantI S_ 1 1#1
  let main_v7 : IVec S_ 1 := (fun x v => Host.reduce IntOp.andi x v reducesTo_S1x128x6272_S_d0_1_2 h_S_) main_v6 main_c_1
  let main_v8 : IVec S_ 1 := andi main_v3 main_v7
  let main_v9 : FVec F S1x6272 .f32 := Host.absf main_arg3
  let main_cst_2 : FVec F S_ .f32 := constant S_ .f32 0x7F800000#32
  let main_v10 : FVec F S1x6272 .f32 := broadcastInDim S1x6272 ![] bcast_S_S1x6272 main_cst_2
  let main_v11 : IVec S1x6272 1 := cmpf .olt main_v9 main_v10
  let main_c_3 : IVec S_ 1 := constantI S_ 1 1#1
  let main_v12 : IVec S_ 1 := (fun x v => Host.reduce IntOp.andi x v reducesTo_S1x6272_S_d0_1 h_S_) main_v11 main_c_3
  let main_v13 : IVec S_ 1 := andi main_v8 main_v12
  let main_v14 : FVec F S1x2048 .f32 := Host.absf main_arg8
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Kernel.lean ====
abbrev S8x2048x1024 : Shape := ⟨3, ![8, 2048, 1024]⟩
abbrev S8x2048x2048 : Shape := ⟨3, ![8, 2048, 2048]⟩
abbrev S2x1024 : Shape := ⟨2, ![2, 1024]⟩
abbrev S1024 : Shape := ⟨1, ![1024]⟩
abbrev S1x2048x1024 : Shape := ⟨3, ![1, 2048, 1024]⟩
abbrev S1x1024x6144 : Shape := ⟨3, ![1, 1024, 6144]⟩
abbrev S1x2048 : Shape := ⟨2, ![1, 2048]⟩
abbrev S1x8x128x128 : Shape := ⟨4, ![1, 8, 128, 128]⟩
abbrev S1x8x128 : Shape := ⟨3, ![1, 8, 128]⟩
abbrev S16384x1024 : Shape := ⟨2, ![16384, 1024]⟩
abbrev S16384x2048 : Shape := ⟨2, ![16384, 2048]⟩
abbrev S2048x1024 : Shape := ⟨2, ![2048, 1024]⟩
abbrev S1024x6144 : Shape := ⟨2, ![1024, 6144]⟩
abbrev S8x128x128 : Shape := ⟨3, ![8, 128, 128]⟩
abbrev S1x1024 : Shape := ⟨2, ![1, 1024]⟩
abbrev S2048 : Shape := ⟨1, ![2048]⟩
abbrev S8x128 : Shape := ⟨2, ![8, 128]⟩
abbrev S8x128x1 : Shape := ⟨3, ![8, 128, 1]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x6144 : Shape := ⟨2, ![512, 6144]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩
abbrev S128x2048 : Shape := ⟨2, ![128, 2048]⟩

abbrev nBuf : Space → Nat
  | .hbm => 31
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .bf16⟩
  | .hbm, ⟨2, _⟩ => ⟨S2x1024, .f32⟩
  | .hbm, ⟨3, _⟩ => ⟨S1024, .f32⟩
  | .hbm, ⟨4, _⟩ => ⟨S1x2048x1024, .f32⟩
  | .hbm, ⟨5, _⟩ => ⟨S1x1024x6144, .f32⟩
  | .hbm, ⟨6, _⟩ => ⟨S1x2048, .f32⟩
  | .hbm, ⟨7, _⟩ => ⟨S1x2048, .f32⟩
  | .hbm, ⟨8, _⟩ => ⟨S1x8x128x128, .f32⟩
  | .hbm, ⟨9, _⟩ => ⟨S1x8x128, .f32⟩
  | .hbm, ⟨10, _⟩ => ⟨S1x2048x1024, .f32⟩
  | .hbm, ⟨11, _⟩ => ⟨S16384x1024, .f32⟩
  | .hbm, ⟨12, _⟩ => ⟨S16384x2048, .bf16⟩
  | .hbm, ⟨13, _⟩ => ⟨S2048x1024, .f32⟩
  | .hbm, ⟨14, _⟩ => ⟨S2048x1024, .bf16⟩
  | .hbm, ⟨15, _⟩ => ⟨S1024x6144, .f32⟩
  | .hbm, ⟨16, _⟩ => ⟨S1024x6144, .bf16⟩
  | .hbm, ⟨17, _⟩ => ⟨S2048x1024, .f32⟩
  | .hbm, ⟨18, _⟩ => ⟨S2048x1024, .bf16⟩
  | .hbm, ⟨19, _⟩ => ⟨S8x128x128, .f32⟩
  | .hbm, ⟨20, _⟩ => ⟨S1x1024, .f32⟩
  | .hbm, ⟨21, _⟩ => ⟨S1024, .f32⟩
  | .hbm, ⟨22, _⟩ => ⟨S2048, .f32⟩
  | .hbm, ⟨23, _⟩ => ⟨S2048, .f32⟩
  | .hbm, ⟨24, _⟩ => ⟨S8x128, .f32⟩
  | .hbm, ⟨25, _⟩ => ⟨S1x1024, .f32⟩
  | .hbm, ⟨26, _⟩ => ⟨S1x2048, .f32⟩
  | .hbm, ⟨27, _⟩ => ⟨S1x2048, .f32⟩
  | .hbm, ⟨28, _⟩ => ⟨S8x128x1, .f32⟩
  | .hbm, ⟨29, _⟩ => ⟨S1x1024, .f32⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S2048x1024, .bf16⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S2048x1024, .bf16⟩
  | .local _ .vmem, ⟨13, _⟩ => ⟨S512x1024, .f32⟩
  | .local _ .vmem, ⟨14, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x2048x1024 : Shape := ⟨3, ![8, 2048, 1024]⟩
abbrev S8x2048x2048 : Shape := ⟨3, ![8, 2048, 2048]⟩
abbrev S2x1024 : Shape := ⟨2, ![2, 1024]⟩
abbrev S1024 : Shape := ⟨1, ![1024]⟩
abbrev S1x2048x1024 : Shape := ⟨3, ![1, 2048, 1024]⟩
abbrev S1x1024x6144 : Shape := ⟨3, ![1, 1024, 6144]⟩
abbrev S1x2048 : Shape := ⟨2, ![1, 2048]⟩
abbrev S1x8x128x128 : Shape := ⟨4, ![1, 8, 128, 128]⟩
abbrev S1x8x128 : Shape := ⟨3, ![1, 8, 128]⟩
abbrev S2048x1024 : Shape := ⟨2, ![2048, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S8x2048x6144 : Shape := ⟨3, ![8, 2048, 6144]⟩
abbrev S1x1x2048 : Shape := ⟨3, ![1, 1, 2048]⟩
abbrev S8x16x128x8x256 : Shape := ⟨5, ![8, 16, 128, 8, 256]⟩
abbrev S128x128 : Shape := ⟨2, ![128, 128]⟩
abbrev S1x128x128 : Shape := ⟨3, ![1, 128, 128]⟩
abbrev S8x8x16x256x128 : Shape := ⟨5, ![8, 8, 16, 256, 128]⟩
abbrev S128x8 : Shape := ⟨2, ![128, 8]⟩
abbrev S1x1x128x8x1 : Shape := ⟨5, ![1, 1, 128, 8, 1]⟩
abbrev S16384x1024 : Shape := ⟨2, ![16384, 1024]⟩

abbrev nBuf : Space → Nat
  | .hbm => 160
  | .vmem => 0
  | .smem => 0
  | _ => 0

abbrev hbmTy0_0 (i : Nat) : BufTy := match i % 128 with
  | 0 => ⟨S8x2048x1024, .f32⟩
  | 1 => ⟨S8x2048x2048, .bf16⟩
  | 2 => ⟨S2x1024, .f32⟩
  | 3 => ⟨S1024, .f32⟩
  | 4 => ⟨S1x2048x1024, .f32⟩
  | 5 => ⟨S1x1024x6144, .f32⟩
  | 6 => ⟨S1x2048, .f32⟩
  | 7 => ⟨S1x2048, .f32⟩
  | 8 => ⟨S1x8x128x128, .f32⟩
  | 9 => ⟨S1x8x128, .f32⟩
  | 10 => ⟨S1x2048x1024, .f32⟩
  | 11 => ⟨S8x2048x2048, .f32⟩
  | 12 => ⟨S2048x1024, .f32⟩
  | 13 => ⟨S8x2048x1024, .f32⟩
  | 14 => ⟨S8x2048x1024, .f32⟩
  | 15 => ⟨S1x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S1024x6144, .f32⟩
  | 34 => ⟨S2048, .f32⟩
  | 35 => ⟨S2048, .f32⟩
  | 36 => ⟨S8x128x128, .f32⟩
  | 37 => ⟨S8x128, .f32⟩
  | 38 => ⟨S2048x1024, .f32⟩
  | 39 => ⟨S8x2048x6144, .f32⟩
  | 40 => ⟨S8x2048x2048, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .f32⟩
  | 46 => ⟨S8x2048x2048, .f32⟩
  | 47 => ⟨S_, .f32⟩
  | 48 => ⟨S8x2048x2048, .f32⟩
  | 49 => ⟨S8x2048x2048, .f32⟩
  | 50 => ⟨S8x2048x2048, .f32⟩
  | 51 => ⟨S_, .f32⟩
  | 52 => ⟨S8x2048x2048, .f32⟩
  | 53 => ⟨S8x2048x2048, .f32⟩
  | 54 => ⟨S_, .f32⟩
  | 55 => ⟨S8x2048x2048, .f32⟩
  | 56 => ⟨S8x2048x2048, .f32⟩
  | 57 => ⟨S8x2048x2048, .f32⟩
  | 58 => ⟨S8x2048x2048, .f32⟩
  | 59 => ⟨S8x2048x2048, .f32⟩
  | 60 => ⟨S8x2048x2048, .f32⟩
  | 61 => ⟨S_, .f32⟩
  | 62 => ⟨S8x2048x2048, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x2048, .f32⟩
  | 69 => ⟨S_, .f32⟩
  | 70 => ⟨S8x2048x2048, .f32⟩
  | 71 => ⟨S8x2048x2048, .f32⟩
  | 72 => ⟨S_, .f32⟩
  | 73 => ⟨S8x2048x2048, .f32⟩
  | 74 => ⟨S8x2048x2048, .f32⟩
  | 75 => ⟨S8x2048x2048, .f32⟩
  | 76 => ⟨S8x2048x2048, .f32⟩
  | 77 => ⟨S_, .f32⟩
  | 78 => ⟨S8x2048, .f32⟩
  | 79 => ⟨S8x2048x1, .f32⟩
  | 80 => ⟨S_, .f32⟩
  | 81 => ⟨S8x2048x1, .f32⟩
  | 82 => ⟨S8x2048x1, .f32⟩
  | 83 => ⟨S8x2048x2048, .f32⟩
  | 84 => ⟨S8x2048x2048, .f32⟩
  | 85 => ⟨S8x2048x2048, .f32⟩
  | 86 => ⟨S_, .f32⟩
  | 87 => ⟨S8x2048, .f32⟩
  | 88 => ⟨S8x2048x1, .f32⟩
  | 89 => ⟨S_, .f32⟩
  | 90 => ⟨S8x2048x1, .f32⟩
  | 91 => ⟨S8x2048x1, .f32⟩
  | 92 => ⟨S8x2048x2048, .f32⟩
  | 93 => ⟨S8x2048x2048, .f32⟩
  | 94 => ⟨S_, .f32⟩
  | 95 => ⟨S8x2048x1, .f32⟩
  | 96 => ⟨S8x2048x1, .f32⟩
  | 97 => ⟨S8x2048x1, .f32⟩
  | 98 => ⟨S8x2048x2048, .f32⟩
  | 99 => ⟨S8x2048x2048, .f32⟩
  | 100 => ⟨S1x1x2048, .f32⟩
  | 101 => ⟨S8x2048x2048, .f32⟩
  | 102 => ⟨S8x2048x2048, .f32⟩
  | 103 => ⟨S1x1x2048, .f32⟩
  | 104 => ⟨S8x2048x2048, .f32⟩
  | 105 => ⟨S8x2048x2048, .f32⟩
  | 106 => ⟨S8x16x128x8x256, .f32⟩
  | 107 => ⟨S_, .i1⟩
  | 108 => ⟨S128x128, .i1⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .i1⟩
  | 116 => ⟨S128x128, .i1⟩
  | 117 => ⟨S128x128, .i1⟩
  | 118 => ⟨S1x128x128, .i1⟩
  | 119 => ⟨S_, .f32⟩
  | 120 => ⟨S8x128x128, .f32⟩
  | 121 => ⟨S8x128x128, .i1⟩
  | 122 => ⟨S8x128x128, .f32⟩
  | 123 => ⟨S8x8x16x256x128, .f32⟩
  | 124 => ⟨S8x16x128x8x256, .f32⟩
  | 125 => ⟨S128x8, .f32⟩
  | 126 => ⟨S1x1x128x8x1, .f32⟩
  | 127 => ⟨S8x16x128x8x256, .f32⟩
  | _ => ⟨S8x2048x1024, .f32⟩

abbrev hbmTy0_1 (i : Nat) : BufTy := match i % 128 with
  | 0 => ⟨S8x16x128x8x256, .f32⟩
  | 1 => ⟨S8x2048x2048, .f32⟩
  | 2 => ⟨S8x2048x2048, .f32⟩
  | 3 => ⟨S8x2048x2048, .f32⟩
  | 4 => ⟨S8x2048x2048, .f32⟩
  | 5 => ⟨S_, .f32⟩
  | 6 => ⟨S8x2048x2048, .f32⟩
  | 7 => ⟨S8x2048x2048, .f32⟩
  | 8 => ⟨S_, .f32⟩
  | 9 => ⟨S8x2048x2048, .f32⟩
  | 10 => ⟨S8x2048x2048, .f32⟩
  | 11 => ⟨S8x2048x2048, .f32⟩
  | 12 => ⟨S8x2048x2048, .f32⟩
  | 13 => ⟨S8x2048x1024, .f32⟩
  | 14 => ⟨S8x2048x1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c : Ref sig .tc := ⟨.hbm, 107, rfl⟩
abbrev main_v80 : Ref sig .tc := ⟨.hbm, 108, rfl⟩
abbrev main_call0_v0 : Ref sig .tc := ⟨.hbm, 109, rfl⟩
abbrev main_call0_c : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_c_0 : Ref sig .tc := ⟨.hbm, 115, rfl⟩
abbrev main_call0_v5 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_call1_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call2_v0 : Ref sig .tc := ⟨.hbm, 131, rfl⟩
abbrev main_call2_v1 : Ref sig .tc := ⟨.hbm, 132, rfl⟩
abbrev main_call2_cst : Ref sig .tc := ⟨.hbm, 133, rfl⟩
abbrev main_call2_v2 : Ref sig .tc := ⟨.hbm, 134, rfl⟩
abbrev main_call2_v3 : Ref sig .tc := ⟨.hbm, 135, rfl⟩
abbrev main_call2_cst_0 : Ref sig .tc := ⟨.hbm, 136, rfl⟩
abbrev main_call2_v4 : Ref sig .tc := ⟨.hbm, 137, rfl⟩
abbrev main_call2_v5 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_16 : Ref sig .tc := ⟨.hbm, 144, rfl⟩
abbrev main_v98 : Ref sig .tc := ⟨.hbm, 145, rfl⟩
abbrev main_v99 : Ref sig .tc := ⟨.hbm, 146, rfl⟩
abbrev main_cst_17 : Ref sig .tc := ⟨.hbm, 147, rfl⟩
abbrev main_v100 : Ref sig .tc := ⟨.hbm, 148, rfl⟩
abbrev main_v101 : Ref sig .tc := ⟨.hbm, 149, rfl⟩
abbrev main_cst_18 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩

abbrev nD : Nat := 1
abbrev τ : Topo := Topo.v7x

variable {F : FTy → Type} [FloatOps F]
-- ==== Kernel2.lean ====
abbrev S128x4x1024 : Shape := ⟨3, ![128, 4, 1024]⟩
abbrev S2x1024 : Shape := ⟨2, ![2, 1024]⟩
abbrev S1x1024x8320 : Shape := ⟨3, ![1, 1024, 8320]⟩
abbrev S4x128x1024 : Shape := ⟨3, ![4, 128, 1024]⟩
abbrev S512x1024 : Shape := ⟨2, ![512, 1024]⟩
abbrev S1x1024 : Shape := ⟨2, ![1, 1024]⟩
abbrev S1024 : Shape := ⟨1, ![1024]⟩
abbrev S1024x8320 : Shape := ⟨2, ![1024, 8320]⟩
abbrev S512x8320 : Shape := ⟨2, ![512, 8320]⟩
abbrev S1024x1664 : Shape := ⟨2, ![1024, 1664]⟩
abbrev S512x1664 : Shape := ⟨2, ![512, 1664]⟩
abbrev S512 : Shape := ⟨1, ![512]⟩
abbrev S512x1 : Shape := ⟨2, ![512, 1]⟩
abbrev S4x128x8320 : Shape := ⟨3, ![4, 128, 8320]⟩
abbrev S1x128x6272 : Shape := ⟨3, ![1, 128, 6272]⟩
abbrev S128x6272 : Shape := ⟨2, ![128, 6272]⟩

abbrev nBuf : Space → Nat
  | .hbm => 15
  | .vmem => 9
  | .smem => 0
  | _ => 0

abbrev bufTy : (tb : Table) → Fin (tcTables nBuf tb) → BufTy
  | .hbm, ⟨0, _⟩ => ⟨S128x4x1024, .f32⟩
  | .hbm, ⟨1, _⟩ => ⟨S2x1024, .f32⟩
  | .hbm, ⟨2, _⟩ => ⟨S1x1024x8320, .f32⟩
  | .hbm, ⟨3, _⟩ => ⟨S4x128x1024, .f32⟩
  | .hbm, ⟨4, _⟩ => ⟨S512x1024, .f32⟩
  | .hbm, ⟨5, _⟩ => ⟨S1x1024, .f32⟩
  | .hbm, ⟨6, _⟩ => ⟨S1024, .f32⟩
  | .hbm, ⟨7, _⟩ => ⟨S1024x8320, .f32⟩
  | .hbm, ⟨8, _⟩ => ⟨S1x1024, .f32⟩
  | .hbm, ⟨9, _⟩ => ⟨S512x8320, .f32⟩
  | .hbm, ⟨10, _⟩ => ⟨S1024x8320, .bf16⟩
  | .hbm, ⟨11, _⟩ => ⟨S4x128x8320, .f32⟩
  | .hbm, ⟨12, _⟩ => ⟨S1x128x6272, .f32⟩
  | .hbm, ⟨13, _⟩ => ⟨S128x6272, .f32⟩
  | .hbm, ⟨14, _⟩ => ⟨S1x128x6272, .f32⟩
  | .local _ .vmem, ⟨0, _⟩ => ⟨S512x1024, .f32⟩
  | .local _ .vmem, ⟨1, _⟩ => ⟨S1x1024, .f32⟩
  | .local _ .vmem, ⟨2, _⟩ => ⟨S1024x1664, .f32⟩
  | .local _ .vmem, ⟨3, _⟩ => ⟨S1024x1664, .f32⟩
  | .local _ .vmem, ⟨4, _⟩ => ⟨S512x1664, .f32⟩
  | .local _ .vmem, ⟨5, _⟩ => ⟨S512x1664, .f32⟩
  | .local _ .vmem, ⟨6, _⟩ => ⟨S1024x1664, .bf16⟩
  | .local _ .vmem, ⟨7, _⟩ => ⟨S1024x1664, .bf16⟩
  | .local _ .vmem, ⟨8, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S128x4x1024 : Shape := ⟨3, ![128, 4, 1024]⟩
abbrev S2x1024 : Shape := ⟨2, ![2, 1024]⟩
abbrev S1x1024x8320 : Shape := ⟨3, ![1, 1024, 8320]⟩
abbrev S1x1024 : Shape := ⟨2, ![1, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x8320 : Shape := ⟨2, ![1024, 8320]⟩
abbrev S128x4x8320 : Shape := ⟨3, ![128, 4, 8320]⟩
abbrev S128x4x6272 : Shape := ⟨3, ![128, 4, 6272]⟩
abbrev S4x128x8320 : Shape := ⟨3, ![4, 128, 8320]⟩
abbrev S128x1x6272 : Shape := ⟨3, ![128, 1, 6272]⟩
abbrev S128x6272 : Shape := ⟨2, ![128, 6272]⟩
abbrev S1x128x6272 : Shape := ⟨3, ![1, 128, 6272]⟩

abbrev nBuf : Space → Nat
  | .hbm => 28
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S2x1024, .f32⟩
  | .hbm, ⟨2, _⟩ => ⟨S1x1024x8320, .f32⟩
  | .hbm, ⟨3, _⟩ => ⟨S1x1024, .f32⟩
  | .hbm, ⟨4, _⟩ => ⟨S1024, .f32⟩
  | .hbm, ⟨5, _⟩ => ⟨S128x4x1024, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x1024, .f32⟩
  | .hbm, ⟨17, _⟩ => ⟨S128x4x1024, .f32⟩
  | .hbm, ⟨18, _⟩ => ⟨S1x1x1024, .f32⟩
  | .hbm, ⟨19, _⟩ => ⟨S128x4x1024, .f32⟩
  | .hbm, ⟨20, _⟩ => ⟨S128x4x1024, .f32⟩
  | .hbm, ⟨21, _⟩ => ⟨S1024x8320, .f32⟩
  | .hbm, ⟨22, _⟩ => ⟨S128x4x8320, .f32⟩
  | .hbm, ⟨23, _⟩ => ⟨S128x4x6272, .f32⟩
  | .hbm, ⟨24, _⟩ => ⟨S4x128x8320, .f32⟩
  | .hbm, ⟨25, _⟩ => ⟨S128x1x6272, .f32⟩
  | .hbm, ⟨26, _⟩ => ⟨S128x6272, .f32⟩
  | .hbm, ⟨27, _⟩ => ⟨S1x128x6272, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel3.lean ====
abbrev S128x4x1024 : Shape := ⟨3, ![128, 4, 1024]⟩
abbrev S2x1024 : Shape := ⟨2, ![2, 1024]⟩
abbrev S1024 : Shape := ⟨1, ![1024]⟩
abbrev S1x1024x6144 : Shape := ⟨3, ![1, 1024, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S512x1024 : Shape := ⟨2, ![512, 1024]⟩
abbrev S1024x6144 : Shape := ⟨2, ![1024, 6144]⟩
abbrev S2048x1024 : Shape := ⟨2, ![2048, 1024]⟩
abbrev S8x128x128 : Shape := ⟨3, ![8, 128, 128]⟩
abbrev S32x32 : Shape := ⟨2, ![32, 32]⟩
abbrev S_ : Shape := ⟨0, ![]⟩
abbrev S8x4x4 : Shape := ⟨3, ![8, 4, 4]⟩
abbrev S32x1x32x1 : Shape := ⟨4, ![32, 1, 32, 1]⟩
abbrev S8x1x4x1x4 : Shape := ⟨5, ![8, 1, 4, 1, 4]⟩
abbrev S1x32x1x32x1 : Shape := ⟨5, ![1, 32, 1, 32, 1]⟩
abbrev S8x32x4x32x4 : Shape := ⟨5, ![8, 32, 4, 32, 4]⟩
abbrev S8x128 : Shape := ⟨2, ![8, 128]⟩
abbrev S8x4 : Shape := ⟨2, ![8, 4]⟩
abbrev S1x8x1x4 : Shape := ⟨4, ![1, 8, 1, 4]⟩
abbrev S1x8x32x4 : Shape := ⟨4, ![1, 8, 32, 4]⟩
abbrev S1x1024 : Shape := ⟨2, ![1, 1024]⟩
abbrev S2048 : Shape := ⟨1, ![2048]⟩
abbrev S8x128x1 : Shape := ⟨3, ![8, 128, 1]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x6144 : Shape := ⟨2, ![256, 6144]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩
abbrev S128x2048 : Shape := ⟨2, ![128, 2048]⟩

abbrev nBuf : Space → Nat
  | .hbm => 46
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S2x1024, .f32⟩
  | .hbm, ⟨2, _⟩ => ⟨S1024, .f32⟩
  | .hbm, ⟨3, _⟩ => ⟨S1x1024x6144, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S512x1024, .f32⟩
  | .hbm, ⟨10, _⟩ => ⟨S1024x6144, .f32⟩
  | .hbm, ⟨11, _⟩ => ⟨S1024x6144, .bf16⟩
  | .hbm, ⟨12, _⟩ => ⟨S2048x1024, .f32⟩
  | .hbm, ⟨13, _⟩ => ⟨S2048x1024, .bf16⟩
  | .hbm, ⟨14, _⟩ => ⟨S8x128x128, .f32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .i1⟩
  | .hbm, ⟨21, _⟩ => ⟨S32x32, .f32⟩
  | .hbm, ⟨22, _⟩ => ⟨S8x4x4, .f32⟩
  | .hbm, ⟨23, _⟩ => ⟨S32x1x32x1, .f32⟩
  | .hbm, ⟨24, _⟩ => ⟨S8x1x4x1x4, .f32⟩
  | .hbm, ⟨25, _⟩ => ⟨S1x32x1x32x1, .f32⟩
  | .hbm, ⟨26, _⟩ => ⟨S8x32x4x32x4, .f32⟩
  | .hbm, ⟨27, _⟩ => ⟨S8x32x4x32x4, .f32⟩
  | .hbm, ⟨28, _⟩ => ⟨S8x32x4x32x4, .f32⟩
  | .hbm, ⟨29, _⟩ => ⟨S8x128x128, .f32⟩
  | .hbm, ⟨30, _⟩ => ⟨S8x128, .f32⟩
  | .hbm, ⟨31, _⟩ => ⟨S8x4, .f32⟩
  | .hbm, ⟨32, _⟩ => ⟨S1x8x1x4, .f32⟩
  | .hbm, ⟨33, _⟩ => ⟨S1x8x32x4, .f32⟩
  | .hbm, ⟨34, _⟩ => ⟨S8x128, .f32⟩
  | .hbm, ⟨35, _⟩ => ⟨S1x1024, .f32⟩
  | .hbm, ⟨36, _⟩ => ⟨S1024, .f32⟩
  | .hbm, ⟨37, _⟩ => ⟨S2048, .f32⟩
  | .hbm, ⟨38, _⟩ => ⟨S2048, .f32⟩
  | .hbm, ⟨39, _⟩ => ⟨S1x1024, .f32⟩
  | .hbm, ⟨40, _⟩ => ⟨S1x2048, .f32⟩
  | .hbm, ⟨41, _⟩ => ⟨S1x2048, .f32⟩
  | .hbm, ⟨42, _⟩ => ⟨S8x128x1, .f32⟩
  | .hbm, ⟨43, _⟩ => ⟨S1x1024, .f32⟩
  | .hbm, ⟨44, _⟩ => ⟨S512x1024, .f32⟩
  | .hbm, ⟨45, _⟩ => ⟨S512x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S2048x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x2048, .f32⟩
  | .local _ .vmem, ⟨13, _⟩ => ⟨S256x2048, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S128x4x1024 : Shape := ⟨3, ![128, 4, 1024]⟩
abbrev S2x1024 : Shape := ⟨2, ![2, 1024]⟩
abbrev S1024 : Shape := ⟨1, ![1024]⟩
abbrev S1x1024x6144 : Shape := ⟨3, ![1, 1024, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x1024 : Shape := ⟨2, ![1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S128x4x6144 : Shape := ⟨3, ![128, 4, 6144]⟩
abbrev S128x4x2048 : Shape := ⟨3, ![128, 4, 2048]⟩
abbrev S1x1x2048 : Shape := ⟨3, ![1, 1, 2048]⟩
abbrev S128x128x2048 : Shape := ⟨3, ![128, 128, 2048]⟩
abbrev S128x1x128x8x256 : Shape := ⟨5, ![128, 1, 128, 8, 256]⟩
abbrev S128x128 : Shape := ⟨2, ![128, 128]⟩
abbrev S1x128x128 : Shape := ⟨3, ![1, 128, 128]⟩
abbrev S8x128x1x256x128 : Shape := ⟨5, ![8, 128, 1, 256, 128]⟩
abbrev S128x8 : Shape := ⟨2, ![128, 8]⟩
abbrev S1x1x128x8x1 : Shape := ⟨5, ![1, 1, 128, 8, 1]⟩
abbrev S512x1024 : Shape := ⟨2, ![512, 1024]⟩
abbrev S512x2048 : Shape := ⟨2, ![512, 2048]⟩

abbrev nBuf : Space → Nat
  | .hbm => 159
  | .vmem => 0
  | .smem => 0
  | _ => 0

abbrev hbmTy0_0 (i : Nat) : BufTy := match i % 128 with
  | 0 => ⟨S128x4x1024, .f32⟩
  | 1 => ⟨S2x1024, .f32⟩
  | 2 => ⟨S1024, .f32⟩
  | 3 => ⟨S1x1024x6144, .f32⟩
  | 4 => ⟨S1x2048, .f32⟩
  | 5 => ⟨S1x2048, .f32⟩
  | 6 => ⟨S1x8x128x128, .f32⟩
  | 7 => ⟨S1x8x128, .f32⟩
  | 8 => ⟨S1x2048x1024, .f32⟩
  | 9 => ⟨S1x1024, .f32⟩
  | 10 => ⟨S1024, .f32⟩
  | 11 => ⟨S128x4x1024, .f32⟩
  | 12 => ⟨S_, .f32⟩
  | 13 => ⟨S128x4, .f32⟩
  | 14 => ⟨S128x4x1, .f32⟩
  | 15 => ⟨S_, .f32⟩
  | 16 => ⟨S128x4x1, .f32⟩
  | 17 => ⟨S128x4x1, .f32⟩
  | 18 => ⟨S_, .f32⟩
  | 19 => ⟨S128x4x1, .f32⟩
  | 20 => ⟨S128x4x1, .f32⟩
  | 21 => ⟨S128x4x1, .f32⟩
  | 22 => ⟨S128x4x1024, .f32⟩
  | 23 => ⟨S128x4x1024, .f32⟩
  | 24 => ⟨S1x1x1024, .f32⟩
  | 25 => ⟨S128x4x1024, .f32⟩
  | 26 => ⟨S128x4x1024, .f32⟩
  | 27 => ⟨S1024x6144, .f32⟩
  | 28 => ⟨S2048, .f32⟩
  | 29 => ⟨S2048, .f32⟩
  | 30 => ⟨S8x128x128, .f32⟩
  | 31 => ⟨S8x128, .f32⟩
  | 32 => ⟨S2048x1024, .f32⟩
  | 33 => ⟨S128x4x6144, .f32⟩
  | 34 => ⟨S128x4x2048, .f32⟩
  | 35 => ⟨S128x4x2048, .f32⟩
  | 36 => ⟨S128x4x2048, .f32⟩
  | 37 => ⟨S_, .f32⟩
  | 38 => ⟨S128x4x2048, .f32⟩
  | 39 => ⟨S128x4x2048, .f32⟩
  | 40 => ⟨S128x4x2048, .f32⟩
  | 41 => ⟨S_, .f32⟩
  | 42 => ⟨S128x4x2048, .f32⟩
  | 43 => ⟨S128x4x2048, .f32⟩
  | 44 => ⟨S128x4x2048, .f32⟩
  | 45 => ⟨S_, .f32⟩
  | 46 => ⟨S128x4x2048, .f32⟩
  | 47 => ⟨S128x4x2048, .f32⟩
  | 48 => ⟨S_, .f32⟩
  | 49 => ⟨S128x4x2048, .f32⟩
  | 50 => ⟨S128x4x2048, .f32⟩
  | 51 => ⟨S128x4x2048, .f32⟩
  | 52 => ⟨S128x4x2048, .f32⟩
  | 53 => ⟨S128x4x2048, .f32⟩
  | 54 => ⟨S128x4x2048, .f32⟩
  | 55 => ⟨S_, .f32⟩
  | 56 => ⟨S128x4x2048, .f32⟩
  | 57 => ⟨S128x4x2048, .f32⟩
  | 58 => ⟨S128x4x2048, .f32⟩
  | 59 => ⟨S_, .f32⟩
  | 60 => ⟨S128x4x2048, .f32⟩
  | 61 => ⟨S128x4x2048, .f32⟩
  | 62 => ⟨S128x4x2048, .f32⟩
  | 63 => ⟨S_, .f32⟩
  | 64 => ⟨S128x4x2048, .f32⟩
  | 65 => ⟨S128x4x2048, .f32⟩
  | 66 => ⟨S_, .f32⟩
  | 67 => ⟨S128x4x2048, .f32⟩
  | 68 => ⟨S128x4x2048, .f32⟩
  | 69 => ⟨S128x4x2048, .f32⟩
  | 70 => ⟨S128x4x2048, .f32⟩
  | 71 => ⟨S_, .f32⟩
  | 72 => ⟨S128x4, .f32⟩
  | 73 => ⟨S128x4x1, .f32⟩
  | 74 => ⟨S_, .f32⟩
  | 75 => ⟨S128x4x1, .f32⟩
  | 76 => ⟨S128x4x1, .f32⟩
  | 77 => ⟨S128x4x2048, .f32⟩
  | 78 => ⟨S128x4x2048, .f32⟩
  | 79 => ⟨S128x4x2048, .f32⟩
  | 80 => ⟨S_, .f32⟩
  | 81 => ⟨S128x4, .f32⟩
  | 82 => ⟨S128x4x1, .f32⟩
  | 83 => ⟨S_, .f32⟩
  | 84 => ⟨S128x4x1, .f32⟩
  | 85 => ⟨S128x4x1, .f32⟩
  | 86 => ⟨S128x4x2048, .f32⟩
  | 87 => ⟨S128x4x2048, .f32⟩
  | 88 => ⟨S_, .f32⟩
  | 89 => ⟨S128x4x1, .f32⟩
  | 90 => ⟨S128x4x1, .f32⟩
  | 91 => ⟨S128x4x1, .f32⟩
  | 92 => ⟨S128x4x2048, .f32⟩
  | 93 => ⟨S128x4x2048, .f32⟩
  | 94 => ⟨S1x1x2048, .f32⟩
  | 95 => ⟨S128x4x2048, .f32⟩
  | 96 => ⟨S128x4x2048, .f32⟩
  | 97 => ⟨S1x1x2048, .f32⟩
  | 98 => ⟨S128x4x2048, .f32⟩
  | 99 => ⟨S128x4x2048, .f32⟩
  | 100 => ⟨S_, .i32⟩
  | 101 => ⟨S_, .f32⟩
  | 102 => ⟨S128x128x2048, .f32⟩
  | 103 => ⟨S128x1x128x8x256, .f32⟩
  | 104 => ⟨S_, .i1⟩
  | 105 => ⟨S128x128, .i1⟩
  | 106 => ⟨S128x128, .i32⟩
  | 107 => ⟨S_, .i32⟩
  | 108 => ⟨S128x128, .i32⟩
  | 109 => ⟨S128x128, .i32⟩
  | 110 => ⟨S128x128, .i32⟩
  | 111 => ⟨S128x128, .i1⟩
  | 112 => ⟨S_, .i1⟩
  | 113 => ⟨S128x128, .i1⟩
  | 114 => ⟨S128x128, .i1⟩
  | 115 => ⟨S1x128x128, .i1⟩
  | 116 => ⟨S_, .f32⟩
  | 117 => ⟨S8x128x128, .f32⟩
  | 118 => ⟨S8x128x128, .i1⟩
  | 119 => ⟨S8x128x128, .f32⟩
  | 120 => ⟨S8x128x1x256x128, .f32⟩
  | 121 => ⟨S128x1x128x8x256, .f32⟩
  | 122 => ⟨S128x8, .f32⟩
  | 123 => ⟨S1x1x128x8x1, .f32⟩
  | 124 => ⟨S128x1x128x8x256, .f32⟩
  | 125 => ⟨S128x1x128x8x256, .f32⟩
  | 126 => ⟨S128x128x2048, .f32⟩
  | 127 => ⟨S128x4x2048, .f32⟩
  | _ => ⟨S128x4x1024, .f32⟩

abbrev hbmTy0_1 (i : Nat) : BufTy := match i % 128 with
  | 0 => ⟨S128x4x2048, .f32⟩
  | 1 => ⟨S128x4x2048, .f32⟩
  | 2 => ⟨S128x4x2048, .f32⟩
  | 3 => ⟨S_, .f32⟩
  | 4 => ⟨S128x4x2048, .f32⟩
  | 5 => ⟨S128x4x2048, .f32⟩
  | 6 => ⟨S_, .f32⟩
  | 7 => ⟨S128x4x2048, .f32⟩
  | 8 => ⟨S128x4x2048, .f32⟩
  | 9 => ⟨S128x4x2048, .f32⟩
  | 10 => ⟨S128x4x2048, .f32⟩
  | 11 => ⟨S128x4x1024, .f32⟩
  | 12 => ⟨S128x4x1024, .f32⟩
  | 13 => ⟨S128x4x1024, .f32⟩
  | 14 => ⟨S_, .f32⟩
  | 15 => ⟨S128x4, .f32⟩
  | 16 => ⟨S128x4x1, .f32⟩
  | 17 => ⟨S_, .f32⟩
  | 18 => ⟨S128x4x1, .f32⟩
  | 19 => ⟨S128x4x1, .f32⟩
  | 20 => ⟨S_, .f32⟩
  | 21 => ⟨S128x4x1, .f32⟩
  | 22 => ⟨S128x4x1, .f32⟩
  | 23 => ⟨S128x4x1, .f32⟩
  | 24 => ⟨S128x4x1024, .f32⟩
  | 25 => ⟨S128x4x1024, .f32⟩
  | 26 => ⟨S1x1x1024, .f32⟩
  | 27 => ⟨S128x4x1024, .f32⟩
  | 28 => ⟨S128x4x1024, .f32⟩
  | 29 => ⟨S512x1024, .f32⟩
  | 30 => ⟨S512x2048, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c : Ref sig .tc := ⟨.hbm, 100, rfl⟩
abbrev main_call0_v0 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_call1_v0 : Ref sig .tc := ⟨.hbm, 106, rfl⟩
abbrev main_call1_c : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_c_0 : Ref sig .tc := ⟨.hbm, 112, rfl⟩
abbrev main_call1_v5 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_call2_v0 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_v0 : Ref sig .tc := ⟨.hbm, 129, rfl⟩
abbrev main_call3_v1 : Ref sig .tc := ⟨.hbm, 130, rfl⟩
abbrev main_call3_cst : Ref sig .tc := ⟨.hbm, 131, rfl⟩
abbrev main_call3_v2 : Ref sig .tc := ⟨.hbm, 132, rfl⟩
abbrev main_call3_v3 : Ref sig .tc := ⟨.hbm, 133, rfl⟩
abbrev main_call3_cst_0 : Ref sig .tc := ⟨.hbm, 134, rfl⟩
abbrev main_call3_v4 : Ref sig .tc := ⟨.hbm, 135, rfl⟩
abbrev main_call3_v5 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_17 : Ref sig .tc := ⟨.hbm, 142, rfl⟩
abbrev main_v96 : Ref sig .tc := ⟨.hbm, 143, rfl⟩
abbrev main_v97 : Ref sig .tc := ⟨.hbm, 144, rfl⟩
abbrev main_cst_18 : Ref sig .tc := ⟨.hbm, 145, rfl⟩
abbrev main_v98 : Ref sig .tc := ⟨.hbm, 146, rfl⟩
abbrev main_v99 : Ref sig .tc := ⟨.hbm, 147, rfl⟩
abbrev main_cst_19 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩

abbrev nD : Nat := 1
abbrev τ : Topo := Topo.v7x

variable {F : FTy → Type} [FloatOps F]
-- ==== Kernel4.lean ====
abbrev S128x4x1024 : Shape := ⟨3, ![128, 4, 1024]⟩
abbrev S4x128x2048 : Shape := ⟨3, ![4, 128, 2048]⟩
abbrev S1x2048x1024 : Shape := ⟨3, ![1, 2048, 1024]⟩
abbrev S2048x1024 : Shape := ⟨2, ![2048, 1024]⟩
abbrev S4x128x1024 : Shape := ⟨3, ![4, 128, 1024]⟩
abbrev S512x1024 : Shape := ⟨2, ![512, 1024]⟩
abbrev S512x2048 : Shape := ⟨2, ![512, 2048]⟩

abbrev nBuf : Space → Nat
  | .hbm => 11
  | .vmem => 4
  | .smem => 0
  | _ => 0

abbrev bufTy : (tb : Table) → Fin (tcTables nBuf tb) → BufTy
  | .hbm, ⟨0, _⟩ => ⟨S128x4x1024, .f32⟩
  | .hbm, ⟨1, _⟩ => ⟨S4x128x2048, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S4x128x1024, .f32⟩
  | .hbm, ⟨6, _⟩ => ⟨S512x1024, .f32⟩
  | .hbm, ⟨7, _⟩ => ⟨S512x2048, .f32⟩
  | .hbm, ⟨8, _⟩ => ⟨S512x1024, .f32⟩
  | .hbm, ⟨9, _⟩ => ⟨S4x128x1024, .f32⟩
  | .hbm, ⟨10, _⟩ => ⟨S128x4x1024, .f32⟩
  | .local _ .vmem, ⟨0, _⟩ => ⟨S512x2048, .f32⟩
  | .local _ .vmem, ⟨1, _⟩ => ⟨S2048x1024, .bf16⟩
  | .local _ .vmem, ⟨2, _⟩ => ⟨S512x1024, .f32⟩
  | .local _ .vmem, ⟨3, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference4Ideal.lean ====
abbrev S128x4x1024 : Shape := ⟨3, ![128, 4, 1024]⟩
abbrev S4x128x2048 : Shape := ⟨3, ![4, 128, 2048]⟩
abbrev S1x2048x1024 : Shape := ⟨3, ![1, 2048, 1024]⟩
abbrev S128x4x2048 : Shape := ⟨3, ![128, 4, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S4x128x2048, .f32⟩
  | .hbm, ⟨2, _⟩ => ⟨S1x2048x1024, .f32⟩
  | .hbm, ⟨3, _⟩ => ⟨S128x4x2048, .f32⟩
  | .hbm, ⟨4, _⟩ => ⟨S2048x1024, .f32⟩
  | .hbm, ⟨5, _⟩ => ⟨S128x4x1024, .f32⟩
  | .hbm, ⟨6, _⟩ => ⟨S128x4x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4x128x8320 : Shape := ⟨3, ![4, 128, 8320]⟩
abbrev S1x128x6272 : Shape := ⟨3, ![1, 128, 6272]⟩
abbrev S1x128x32x64x64 : Shape := ⟨5, ![1, 128, 32, 64, 64]⟩
abbrev S1x6272 : Shape := ⟨2, ![1, 6272]⟩
abbrev S1x2048 : Shape := ⟨2, ![1, 2048]⟩
abbrev S1x64x2048 : Shape := ⟨3, ![1, 64, 2048]⟩
abbrev S1x32x64 : Shape := ⟨3, ![1, 32, 64]⟩
abbrev S_ : Shape := ⟨0, ![]⟩
abbrev S64x2048 : Shape := ⟨2, ![64, 2048]⟩
abbrev S6272 : Shape := ⟨1, ![6272]⟩
abbrev S2048 : Shape := ⟨1, ![2048]⟩
abbrev S128x2048 : Shape := ⟨2, ![128, 2048]⟩
abbrev S32x64 : Shape := ⟨2, ![32, 64]⟩
abbrev S128x6272 : Shape := ⟨2, ![128, 6272]⟩
abbrev S128x32x64x64 : Shape := ⟨4, ![128, 32, 64, 64]⟩
abbrev S32x64x64x128 : Shape := ⟨4, ![32, 64, 64, 128]⟩
abbrev S4x128x2048 : Shape := ⟨3, ![4, 128, 2048]⟩
abbrev S4x128x128 : Shape := ⟨3, ![4, 128, 128]⟩
abbrev S128x128 : Shape := ⟨2, ![128, 128]⟩
abbrev S1x128 : Shape := ⟨2, ![1, 128]⟩
abbrev S2x64x64x128 : Shape := ⟨4, ![2, 64, 64, 128]⟩
abbrev S6x4x128x128 : Shape := ⟨4, ![6, 4, 128, 128]⟩
abbrev S512x128 : Shape := ⟨2, ![512, 128]⟩
abbrev S384x128 : Shape := ⟨2, ![384, 128]⟩
abbrev S1024x128 : Shape := ⟨2, ![1024, 128]⟩
abbrev S1x1x128x128 : Shape := ⟨4, ![1, 1, 128, 128]⟩
abbrev S1x1x8x128 : Shape := ⟨4, ![1, 1, 8, 128]⟩
abbrev S8x128 : Shape := ⟨2, ![8, 128]⟩
abbrev S1x1x64x128 : Shape := ⟨4, ![1, 1, 64, 128]⟩
abbrev S64x128 : Shape := ⟨2, ![64, 128]⟩
abbrev S128 : Shape := ⟨1, ![128]⟩
abbrev S1x8x128 : Shape := ⟨3, ![1, 8, 128]⟩
abbrev S1x128x128 : Shape := ⟨3, ![1, 128, 128]⟩

abbrev nBuf : Space → Nat
  | .hbm => 44
  | .vmem => 49
  | .smem => 0
  | _ => 0

abbrev bufTy : (tb : Table) → Fin (tcTables nBuf tb) → BufTy
  | .hbm, ⟨0, _⟩ => ⟨S4x128x8320, .f32⟩
  | .hbm, ⟨1, _⟩ => ⟨S1x128x6272, .f32⟩
  | .hbm, ⟨2, _⟩ => ⟨S1x128x32x64x64, .f32⟩
  | .hbm, ⟨3, _⟩ => ⟨S1x6272, .f32⟩
  | .hbm, ⟨4, _⟩ => ⟨S1x2048, .f32⟩
  | .hbm, ⟨5, _⟩ => ⟨S1x64x2048, .f32⟩
  | .hbm, ⟨6, _⟩ => ⟨S1x2048, .f32⟩
  | .hbm, ⟨7, _⟩ => ⟨S1x64x2048, .f32⟩
  | .hbm, ⟨8, _⟩ => ⟨S1x2048, .f32⟩
  | .hbm, ⟨9, _⟩ => ⟨S1x2048, .f32⟩
  | .hbm, ⟨10, _⟩ => ⟨S1x32x64, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S64x2048, .f32⟩
  | .hbm, ⟨15, _⟩ => ⟨S6272, .f32⟩
  | .hbm, ⟨16, _⟩ => ⟨S1x6272, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S64x2048, .f32⟩
  | .hbm, ⟨22, _⟩ => ⟨S128x2048, .f32⟩
  | .hbm, ⟨23, _⟩ => ⟨S128x2048, .bf16⟩
  | .hbm, ⟨24, _⟩ => ⟨S64x2048, .f32⟩
  | .hbm, ⟨25, _⟩ => ⟨S128x2048, .f32⟩
  | .hbm, ⟨26, _⟩ => ⟨S128x2048, .bf16⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S32x64, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S128x6272, .f32⟩
  | .hbm, ⟨38, _⟩ => ⟨S128x32x64x64, .f32⟩
  | .hbm, ⟨39, _⟩ => ⟨S32x64x64x128, .f32⟩
  | .hbm, ⟨40, _⟩ => ⟨S4x128x2048, .f32⟩
  | .hbm, ⟨41, _⟩ => ⟨S32x64x64x128, .f32⟩
  | .hbm, ⟨42, _⟩ => ⟨S128x32x64x64, .f32⟩
  | .hbm, ⟨43, _⟩ => ⟨S1x128x32x64x64, .f32⟩
  | .local _ .vmem, ⟨0, _⟩ => ⟨S4x128x128, .f32⟩
  | .local _ .vmem, ⟨1, _⟩ => ⟨S4x128x128, .f32⟩
  | .local _ .vmem, ⟨2, _⟩ => ⟨S4x128x128, .f32⟩
  | .local _ .vmem, ⟨3, _⟩ => ⟨S4x128x128, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | .local _ .vmem, ⟨7, _⟩ => ⟨S4x128x128, .f32⟩
  | .local _ .vmem, ⟨8, _⟩ => ⟨S4x128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S128x128, .bf16⟩
  | .local _ .vmem, ⟨26, _⟩ => ⟨S128x128, .bf16⟩
  | .local _ .vmem, ⟨27, _⟩ => ⟨S1x128, .f32⟩
  | .local _ .vmem, ⟨28, _⟩ => ⟨S1x128, .f32⟩
  | .local _ .vmem, ⟨29, _⟩ => ⟨S128x128, .bf16⟩
  | .local _ .vmem, ⟨30, _⟩ => ⟨S128x128, .bf16⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S2x64x64x128, .f32⟩
  | .local _ .vmem, ⟨42, _⟩ => ⟨S2x64x64x128, .f32⟩
  | .local _ .vmem, ⟨43, _⟩ => ⟨S4x128x128, .f32⟩
  | .local _ .vmem, ⟨44, _⟩ => ⟨S4x128x128, .f32⟩
  | .local _ .vmem, ⟨45, _⟩ => ⟨S2x64x64x128, .f32⟩
  | .local _ .vmem, ⟨46, _⟩ => ⟨S2x64x64x128, .f32⟩
  | .local _ .vmem, ⟨47, _⟩ => ⟨S6x4x128x128, .f32⟩
  | .local _ .vmem, ⟨48, _⟩ => ⟨S4x128x128, .f32⟩
  | _, _ => ⟨S4x128x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_scratch0 : Ref sig .tc := ⟨.vmem, 47, rfl⟩
abbrev cc0_scratch1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32_162 : BitVec 32 := 0#32
  let c8_i32 : BitVec 32 := 8#32
  let v303 : BitVec 32 := Scalar.addi c0_i32_162 c8_i32
  let c1_i32_163 : BitVec 32 := 1#32
  ⟨c0_i32_162, v303, c1_i32_163⟩
def k0_mult1 (k0_t1 : Fin k0_t1_loop.trips) : BitVec 32 :=
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  v362
def k0_off1 (k0_t1 : Fin k0_t1_loop.trips) : Fin 4 → Nat :=
  let c5_200 : Index := 5#32
  let c0_201 : Index := 0#32
  let c0_i32_199 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v364 : BitVec 32 := Scalar.addi c0_i32_199 v363
  let v365 : Index := Scalar.indexCast v364
  let c0_202 : Index := 0#32
  ![5, 0, v365.toNat, 0]
def k0_off2 (k0_t1 : Fin k0_t1_loop.trips) : Fin 4 → Nat :=
  let c5_204 : Index := 5#32
  let c1_205 : Index := 1#32
  let c0_i32_203 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v368 : BitVec 32 := Scalar.addi c0_i32_203 v363
  let v369 : Index := Scalar.indexCast v368
  let c0_206 : Index := 0#32
  ![5, 1, v369.toNat, 0]
def k0_off3 (k0_t1 : Fin k0_t1_loop.trips) : Fin 4 → Nat :=
  let c5_208 : Index := 5#32
  let c2_209 : Index := 2#32
  let c0_i32_207 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v372 : BitVec 32 := Scalar.addi c0_i32_207 v363
  let v373 : Index := Scalar.indexCast v372
  let c0_210 : Index := 0#32
  ![5, 2, v373.toNat, 0]
def k0_off4 (k0_t1 : Fin k0_t1_loop.trips) : Fin 4 → Nat :=
  let c5_212 : Index := 5#32
  let c3_213 : Index := 3#32
  let c0_i32_211 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v376 : BitVec 32 := Scalar.addi c0_i32_211 v363
  let v377 : Index := Scalar.indexCast v376
  let c0_214 : Index := 0#32
  ![5, 3, v377.toNat, 0]
def k0_off5 (k0_t1 : Fin k0_t1_loop.trips) (c0_i32_215 : BitVec 32) : Fin 4 → Nat :=
  let c0_216 : Index := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v380 : BitVec 32 := Scalar.addi v363 c0_i32_215
  let v381 : Index := Scalar.indexCast v380
  let c0_217 : Index := 0#32
  let c0_218 : Index := 0#32
  ![0, v381.toNat, 0, 0]
def k0_off6 (k0_t1 : Fin k0_t1_loop.trips) : Fin 3 → Nat :=
  let c0_978 : Index := 0#32
  let c0_i32_977 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v1221 : BitVec 32 := Scalar.addi c0_i32_977 v363
  let v1222 : Index := Scalar.indexCast v1221
  let c0_979 : Index := 0#32
  ![0, v1222.toNat, 0]
def k0_off7 (k0_t1 : Fin k0_t1_loop.trips) : Fin 3 → Nat :=
  let c1_981 : Index := 1#32
  let c0_i32_980 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v1227 : BitVec 32 := Scalar.addi c0_i32_980 v363
  let v1228 : Index := Scalar.indexCast v1227
  let c0_982 : Index := 0#32
  ![1, v1228.toNat, 0]
def k0_off8 (k0_t1 : Fin k0_t1_loop.trips) : Fin 3 → Nat :=
  let c2_984 : Index := 2#32
  let c0_i32_983 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v1233 : BitVec 32 := Scalar.addi c0_i32_983 v363
  let v1234 : Index := Scalar.indexCast v1233
  let c0_985 : Index := 0#32
  ![2, v1234.toNat, 0]
def k0_off9 (k0_t1 : Fin k0_t1_loop.trips) : Fin 3 → Nat :=
  let c3_987 : Index := 3#32
  let c0_i32_986 : BitVec 32 := 0#32
  let c0_i32_162 : BitVec 32 := 0#32
  let c1_i32_163 : BitVec 32 := 1#32
  let arg29 : BitVec 32 := Scf.iv c0_i32_162 c1_i32_163 k0_t1
  let c8_i32_198 : BitVec 32 := 8#32
  let v362 : BitVec 32 := Scalar.muli arg29 c8_i32_198
  let v363 : BitVec 32 := v362
  let v1239 : BitVec 32 := Scalar.addi c0_i32_986 v363
  let v1240 : Index := Scalar.indexCast v1239
  let c0_988 : Index := 0#32
  ![3, v1240.toNat, 0]
@[reducible] def k0_t2_loop : Scf.Loop 32 :=
  let c0_i32_165 : BitVec 32 := 0#32
  let c8_i32_166 : BitVec 32 := 8#32
  let v304 : BitVec 32 := Scalar.addi c0_i32_165 c8_i32_166
  let c1_i32_167 : BitVec 32 := 1#32
  ⟨c0_i32_165, v304, c1_i32_167⟩
def k0_mult2 (k0_t2 : Fin k0_t2_loop.trips) : BitVec 32 :=
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  v362
def k0_off10 (k0_t2 : Fin k0_t2_loop.trips) : Fin 4 → Nat :=
  let c5_200 : Index := 5#32
  let c0_201 : Index := 0#32
  let c64_i32_199 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v364 : BitVec 32 := Scalar.addi c64_i32_199 v363
  let v365 : Index := Scalar.indexCast v364
  let c0_202 : Index := 0#32
  ![5, 0, v365.toNat, 0]
def k0_off11 (k0_t2 : Fin k0_t2_loop.trips) : Fin 4 → Nat :=
  let c5_204 : Index := 5#32
  let c1_205 : Index := 1#32
  let c64_i32_203 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v368 : BitVec 32 := Scalar.addi c64_i32_203 v363
  let v369 : Index := Scalar.indexCast v368
  let c0_206 : Index := 0#32
  ![5, 1, v369.toNat, 0]
def k0_off12 (k0_t2 : Fin k0_t2_loop.trips) : Fin 4 → Nat :=
  let c5_208 : Index := 5#32
  let c2_209 : Index := 2#32
  let c64_i32_207 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v372 : BitVec 32 := Scalar.addi c64_i32_207 v363
  let v373 : Index := Scalar.indexCast v372
  let c0_210 : Index := 0#32
  ![5, 2, v373.toNat, 0]
def k0_off13 (k0_t2 : Fin k0_t2_loop.trips) : Fin 4 → Nat :=
  let c5_212 : Index := 5#32
  let c3_213 : Index := 3#32
  let c64_i32_211 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v376 : BitVec 32 := Scalar.addi c64_i32_211 v363
  let v377 : Index := Scalar.indexCast v376
  let c0_214 : Index := 0#32
  ![5, 3, v377.toNat, 0]
def k0_off14 (k0_t2 : Fin k0_t2_loop.trips) (c0_i32_215 : BitVec 32) : Fin 4 → Nat :=
  let c1_216 : Index := 1#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v380 : BitVec 32 := Scalar.addi v363 c0_i32_215
  let v381 : Index := Scalar.indexCast v380
  let c0_217 : Index := 0#32
  let c0_218 : Index := 0#32
  ![1, v381.toNat, 0, 0]
def k0_off15 (k0_t2 : Fin k0_t2_loop.trips) : Fin 3 → Nat :=
  let c0_977 : Index := 0#32
  let c64_i32_976 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v1221 : BitVec 32 := Scalar.addi c64_i32_976 v363
  let v1222 : Index := Scalar.indexCast v1221
  let c0_978 : Index := 0#32
  ![0, v1222.toNat, 0]
def k0_off16 (k0_t2 : Fin k0_t2_loop.trips) : Fin 3 → Nat :=
  let c1_980 : Index := 1#32
  let c64_i32_979 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v1227 : BitVec 32 := Scalar.addi c64_i32_979 v363
  let v1228 : Index := Scalar.indexCast v1227
  let c0_981 : Index := 0#32
  ![1, v1228.toNat, 0]
def k0_off17 (k0_t2 : Fin k0_t2_loop.trips) : Fin 3 → Nat :=
  let c2_983 : Index := 2#32
  let c64_i32_982 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v1233 : BitVec 32 := Scalar.addi c64_i32_982 v363
  let v1234 : Index := Scalar.indexCast v1233
  let c0_984 : Index := 0#32
  ![2, v1234.toNat, 0]
def k0_off18 (k0_t2 : Fin k0_t2_loop.trips) : Fin 3 → Nat :=
  let c3_986 : Index := 3#32
  let c64_i32_985 : BitVec 32 := 64#32
  let c0_i32_165 : BitVec 32 := 0#32
  let c1_i32_167 : BitVec 32 := 1#32
  let arg29 : BitVec 32 := Scf.iv c0_i32_165 c1_i32_167 k0_t2
  let c8_i32_198 : BitVec 32 := 8#32
  let v362 : BitVec 32 := Scalar.muli arg29 c8_i32_198
  let v363 : BitVec 32 := v362
  let v1239 : BitVec 32 := Scalar.addi c64_i32_985 v363
  let v1240 : Index := Scalar.indexCast v1239
  let c0_987 : Index := 0#32
  ![3, v1240.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c48_i32 : BitVec 32 := 48#32
  let c0_i32_0 : BitVec 32 := 0#32
  ![c0_i32.toNat, arg1.toNat, c48_i32.toNat]

def cc0_transform_4 (i : grid0.Coords) : Fin 3 → Nat :=
  let arg0 : BitVec 32 := BitVec.ofNat 32 (i 0).val
  let arg1 : BitVec 32 := BitVec.ofNat 32 (i 1).val
  let c49_i32 : BitVec 32 := 49#32
  let v0 : BitVec 32 := Scalar.addi c49_i32 arg0
  let c0_i32 : BitVec 32 := 0#32
  let c0_i32_0 : BitVec 32 := 0#32
  ![c0_i32.toNat, arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg1.toNat, c48_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c48_i32 : BitVec 32 := 48#32
  let c0_i32_0 : BitVec 32 := 0#32
  ![c0_i32.toNat, c48_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S2x64x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S4x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S2x64x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Kernel5Ideal.lean ====
variable {F : FTy → Type} [FloatOps F] [Named F]
def κ : String → Option EReal := fun
  | "cap" => some ((2305843009213693952 / 2305843 : ℝ) : EReal)
  | _ => none
-- ==== Reference5Ideal.lean ====
abbrev S4x128x8320 : Shape := ⟨3, ![4, 128, 8320]⟩
abbrev S1x128x6272 : Shape := ⟨3, ![1, 128, 6272]⟩
abbrev S1x128x32x64x64 : Shape := ⟨5, ![1, 128, 32, 64, 64]⟩
abbrev S1x6272 : Shape := ⟨2, ![1, 6272]⟩
abbrev S1x2048 : Shape := ⟨2, ![1, 2048]⟩
abbrev S1x64x2048 : Shape := ⟨3, ![1, 64, 2048]⟩
abbrev S1x32x64 : Shape := ⟨3, ![1, 32, 64]⟩
abbrev S128x4x8320 : Shape := ⟨3, ![128, 4, 8320]⟩
abbrev S128x4x6272 : Shape := ⟨3, ![128, 4, 6272]⟩
abbrev S128x6272 : Shape := ⟨2, ![128, 6272]⟩
abbrev S128x1x6272 : Shape := ⟨3, ![128, 1, 6272]⟩
abbrev S128x3x6272 : Shape := ⟨3, ![128, 3, 6272]⟩
abbrev S6272 : Shape := ⟨1, ![6272]⟩
abbrev S1x1x6272 : Shape := ⟨3, ![1, 1, 6272]⟩
abbrev S128x4x2048 : Shape := ⟨3, ![128, 4, 2048]⟩
abbrev S128x4x64 : Shape := ⟨3, ![128, 4, 64]⟩
abbrev S2048 : Shape := ⟨1, ![2048]⟩
abbrev S64x2048 : Shape := ⟨2, ![64, 2048]⟩
abbrev S1x1x2048 : Shape := ⟨3, ![1, 1, 2048]⟩
abbrev S_ : Shape := ⟨0, ![]⟩
abbrev S128x4x32x64 : Shape := ⟨4, ![128, 4, 32, 64]⟩
abbrev S32x64 : Shape := ⟨2, ![32, 64]⟩
abbrev S1x1x32x64 : Shape := ⟨4, ![1, 1, 32, 64]⟩
abbrev S128x4x32 : Shape := ⟨3, ![128, 4, 32]⟩
abbrev S128x4x32x1 : Shape := ⟨4, ![128, 4, 32, 1]⟩
abbrev S128x32x64x64 : Shape := ⟨4, ![128, 32, 64, 64]⟩
abbrev S128x1x32x64 : Shape := ⟨4, ![128, 1, 32, 64]⟩
abbrev S128x32x64 : Shape := ⟨3, ![128, 32, 64]⟩
abbrev S128x32x1x64 : Shape := ⟨4, ![128, 32, 1, 64]⟩
abbrev S128x32x64x1 : Shape := ⟨4, ![128, 32, 64, 1]⟩

abbrev nBuf : Space → Nat
  | .hbm => 217
  | .vmem => 0
  | .smem => 0
  | _ => 0

abbrev hbmTy0_0 (i : Nat) : BufTy := match i % 128 with
  | 0 => ⟨S4x128x8320, .f32⟩
  | 1 => ⟨S1x128x6272, .f32⟩
  | 2 => ⟨S1x128x32x64x64, .f32⟩
  | 3 => ⟨S1x6272, .f32⟩
  | 4 => ⟨S1x2048, .f32⟩
  | 5 => ⟨S1x64x2048, .f32⟩
  | 6 => ⟨S1x2048, .f32⟩
  | 7 => ⟨S1x64x2048, .f32⟩
  | 8 => ⟨S1x2048, .f32⟩
  | 9 => ⟨S1x2048, .f32⟩
  | 10 => ⟨S1x32x64, .f32⟩
  | 11 => ⟨S1x2048, .f32⟩
  | 12 => ⟨S1x2048, .f32⟩
  | 13 => ⟨S128x4x8320, .f32⟩
  | 14 => ⟨S128x4x6272, .f32⟩
  | 15 => ⟨S128x6272, .f32⟩
  | 16 => ⟨S128x1x6272, .f32⟩
  | 17 => ⟨S128x3x6272, .f32⟩
  | 18 => ⟨S128x4x6272, .f32⟩
  | 19 => ⟨S128x4x6272, .f32⟩
  | 20 => ⟨S6272, .f32⟩
  | 21 => ⟨S1x1x6272, .f32⟩
  | 22 => ⟨S128x4x6272, .f32⟩
  | 23 => ⟨S128x4x6272, .f32⟩
  | 24 => ⟨S128x4x6272, .f32⟩
  | 25 => ⟨S128x4x2048, .f32⟩
  | 26 => ⟨S128x4x2048, .f32⟩
  | 27 => ⟨S128x4x64, .f32⟩
  | 28 => ⟨S128x4x64, .f32⟩
  | 29 => ⟨S2048, .f32⟩
  | 30 => ⟨S128x4x64, .f32⟩
  | 31 => ⟨S64x2048, .f32⟩
  | 32 => ⟨S128x4x2048, .f32⟩
  | 33 => ⟨S1x1x2048, .f32⟩
  | 34 => ⟨S128x4x2048, .f32⟩
  | 35 => ⟨S128x4x2048, .f32⟩
  | 36 => ⟨S128x4x2048, .f32⟩
  | 37 => ⟨S_, .f32⟩
  | 38 => ⟨S128x4x2048, .f32⟩
  | 39 => ⟨S128x4x2048, .f32⟩
  | 40 => ⟨S128x4x2048, .f32⟩
  | 41 => ⟨S128x4x2048, .f32⟩
  | 42 => ⟨S128x4x2048, .i1⟩
  | 43 => ⟨S128x4x2048, .f32⟩
  | 44 => ⟨S128x4x2048, .f32⟩
  | 45 => ⟨S128x4x2048, .f32⟩
  | 46 => ⟨S128x4x2048, .f32⟩
  | 47 => ⟨S128x4x2048, .f32⟩
  | 48 => ⟨S128x4x2048, .f32⟩
  | 49 => ⟨S128x4x2048, .f32⟩
  | 50 => ⟨S128x4x2048, .f32⟩
  | 51 => ⟨S128x4x2048, .f32⟩
  | 52 => ⟨S_, .f32⟩
  | 53 => ⟨S128x4x2048, .f32⟩
  | 54 => ⟨S128x4x2048, .f32⟩
  | 55 => ⟨S128x4x2048, .f32⟩
  | 56 => ⟨S128x4x2048, .f32⟩
  | 57 => ⟨S128x4x2048, .f32⟩
  | 58 => ⟨S2048, .f32⟩
  | 59 => ⟨S64x2048, .f32⟩
  | 60 => ⟨S128x4x2048, .f32⟩
  | 61 => ⟨S1x1x2048, .f32⟩
  | 62 => ⟨S128x4x2048, .f32⟩
  | 63 => ⟨S128x4x2048, .f32⟩
  | 64 => ⟨S128x4x2048, .f32⟩
  | 65 => ⟨S128x4x2048, .f32⟩
  | 66 => ⟨S_, .f32⟩
  | 67 => ⟨S128x4x2048, .f32⟩
  | 68 => ⟨S128x4x2048, .f32⟩
  | 69 => ⟨S_, .f32⟩
  | 70 => ⟨S128x4x2048, .f32⟩
  | 71 => ⟨S128x4x2048, .f32⟩
  | 72 => ⟨S128x4x32x64, .f32⟩
  | 73 => ⟨S128x4x32x64, .f32⟩
  | 74 => ⟨S128x4x32x64, .f32⟩
  | 75 => ⟨S128x4x32x64, .f32⟩
  | 76 => ⟨S2048, .f32⟩
  | 77 => ⟨S32x64, .f32⟩
  | 78 => ⟨S1x1x32x64, .f32⟩
  | 79 => ⟨S128x4x32x64, .f32⟩
  | 80 => ⟨S128x4x32x64, .f32⟩
  | 81 => ⟨S128x4x32x64, .f32⟩
  | 82 => ⟨S_, .f32⟩
  | 83 => ⟨S128x4x32, .f32⟩
  | 84 => ⟨S128x4x32x1, .f32⟩
  | 85 => ⟨S128x4x32x1, .f32⟩
  | 86 => ⟨S_, .f32⟩
  | 87 => ⟨S128x4x32x1, .f32⟩
  | 88 => ⟨S128x4x32x1, .f32⟩
  | 89 => ⟨S128x4x32x64, .f32⟩
  | 90 => ⟨S128x4x32x64, .f32⟩
  | 91 => ⟨S_, .f32⟩
  | 92 => ⟨S128x4x32x64, .f32⟩
  | 93 => ⟨S128x4x32x64, .f32⟩
  | 94 => ⟨S2048, .f32⟩
  | 95 => ⟨S32x64, .f32⟩
  | 96 => ⟨S1x1x32x64, .f32⟩
  | 97 => ⟨S128x4x32x64, .f32⟩
  | 98 => ⟨S128x4x32x64, .f32⟩
  | 99 => ⟨S_, .f32⟩
  | 100 => ⟨S128x4x32x64, .f32⟩
  | 101 => ⟨S128x4x32x64, .f32⟩
  | 102 => ⟨S128x4x32x64, .f32⟩
  | 103 => ⟨S128x32x64x64, .f32⟩
  | 104 => ⟨S128x1x32x64, .f32⟩
  | 105 => ⟨S128x32x64, .f32⟩
  | 106 => ⟨S128x1x32x64, .f32⟩
  | 107 => ⟨S128x32x64, .f32⟩
  | 108 => ⟨S128x1x32x64, .f32⟩
  | 109 => ⟨S128x32x64, .f32⟩
  | 110 => ⟨S128x1x32x64, .f32⟩
  | 111 => ⟨S128x32x64, .f32⟩
  | 112 => ⟨S128x1x32x64, .f32⟩
  | 113 => ⟨S128x32x64, .f32⟩
  | 114 => ⟨S128x32x64, .f32⟩
  | 115 => ⟨S128x32x64, .f32⟩
  | 116 => ⟨S128x32x1x64, .f32⟩
  | 117 => ⟨S128x32x64x64, .f32⟩
  | 118 => ⟨S128x32x64x64, .f32⟩
  | 119 => ⟨S128x32x64x1, .f32⟩
  | 120 => ⟨S128x32x64, .f32⟩
  | 121 => ⟨S128x32x1x64, .f32⟩
  | 122 => ⟨S128x32x64x64, .f32⟩
  | 123 => ⟨S128x32x64x64, .f32⟩
  | 124 => ⟨S128x32x64x64, .f32⟩
  | 125 => ⟨S128x32x64x64, .f32⟩
  | 126 => ⟨S128x32x64x1, .f32⟩
  | 127 => ⟨S128x32x1x64, .f32⟩
  | _ => ⟨S4x128x8320, .f32⟩

abbrev hbmTy0_1 (i : Nat) : BufTy := match i % 128 with
  | 0 => ⟨S128x32x64x64, .f32⟩
  | 1 => ⟨S128x32x64x64, .f32⟩
  | 2 => ⟨S128x32x64x64, .f32⟩
  | 3 => ⟨S128x32x64x64, .f32⟩
  | 4 => ⟨S128x1x32x64, .f32⟩
  | 5 => ⟨S128x32x64, .f32⟩
  | 6 => ⟨S128x1x32x64, .f32⟩
  | 7 => ⟨S128x32x64, .f32⟩
  | 8 => ⟨S128x1x32x64, .f32⟩
  | 9 => ⟨S128x32x64, .f32⟩
  | 10 => ⟨S128x1x32x64, .f32⟩
  | 11 => ⟨S128x32x64, .f32⟩
  | 12 => ⟨S128x1x32x64, .f32⟩
  | 13 => ⟨S128x32x64, .f32⟩
  | 14 => ⟨S128x32x64, .f32⟩
  | 15 => ⟨S128x32x64, .f32⟩
  | 16 => ⟨S128x32x1x64, .f32⟩
  | 17 => ⟨S128x32x64x64, .f32⟩
  | 18 => ⟨S128x32x64x64, .f32⟩
  | 19 => ⟨S128x32x64x1, .f32⟩
  | 20 => ⟨S128x32x64, .f32⟩
  | 21 => ⟨S128x32x1x64, .f32⟩
  | 22 => ⟨S128x32x64x64, .f32⟩
  | 23 => ⟨S128x32x64x64, .f32⟩
  | 24 => ⟨S128x32x64x64, .f32⟩
  | 25 => ⟨S128x32x64x64, .f32⟩
  | 26 => ⟨S128x32x64x1, .f32⟩
  | 27 => ⟨S128x32x1x64, .f32⟩
  | 28 => ⟨S128x32x64x64, .f32⟩
  | 29 => ⟨S128x32x64x64, .f32⟩
  | 30 => ⟨S128x32x64x64, .f32⟩
  | 31 => ⟨S128x32x64x64, .f32⟩
  | 32 => ⟨S128x1x32x64, .f32⟩
  | 33 => ⟨S128x32x64, .f32⟩
  | 34 => ⟨S128x1x32x64, .f32⟩
  | 35 => ⟨S128x32x64, .f32⟩
  | 36 => ⟨S128x1x32x64, .f32⟩
  | 37 => ⟨S128x32x64, .f32⟩
  | 38 => ⟨S128x1x32x64, .f32⟩
  | 39 => ⟨S128x32x64, .f32⟩
  | 40 => ⟨S128x1x32x64, .f32⟩
  | 41 => ⟨S128x32x64, .f32⟩
  | 42 => ⟨S128x32x64, .f32⟩
  | 43 => ⟨S128x32x64, .f32⟩
  | 44 => ⟨S128x32x1x64, .f32⟩
  | 45 => ⟨S128x32x64x64, .f32⟩
  | 46 => ⟨S128x32x64x64, .f32⟩
  | 47 => ⟨S128x32x64x1, .f32⟩
  | 48 => ⟨S128x32x64, .f32⟩
  | 49 => ⟨S128x32x1x64, .f32⟩
  | 50 => ⟨S128x32x64x64, .f32⟩
  | 51 => ⟨S128x32x64x64, .f32⟩
  | 52 => ⟨S128x32x64x64, .f32⟩
  | 53 => ⟨S128x32x64x64, .f32⟩
  | 54 => ⟨S128x32x64x1, .f32⟩
  | 55 => ⟨S128x32x1x64, .f32⟩
  | 56 => ⟨S128x32x64x64, .f32⟩
  | 57 => ⟨S128x32x64x64, .f32⟩
  | 58 => ⟨S128x32x64x64, .f32⟩
  | 59 => ⟨S128x32x64x64, .f32⟩
  | 60 => ⟨S128x1x32x64, .f32⟩
  | 61 => ⟨S128x32x64, .f32⟩
  | 62 => ⟨S128x1x32x64, .f32⟩
  | 63 => ⟨S128x32x64, .f32⟩
  | 64 => ⟨S128x1x32x64, .f32⟩
  | 65 => ⟨S128x32x64, .f32⟩
  | 66 => ⟨S128x1x32x64, .f32⟩
  | 67 => ⟨S128x32x64, .f32⟩
  | 68 => ⟨S128x1x32x64, .f32⟩
  | 69 => ⟨S128x32x64, .f32⟩
  | 70 => ⟨S128x32x64, .f32⟩
  | 71 => ⟨S128x32x64, .f32⟩
  | 72 => ⟨S128x32x1x64, .f32⟩
  | 73 => ⟨S128x32x64x64, .f32⟩
  | 74 => ⟨S128x32x64x64, .f32⟩
  | 75 => ⟨S128x32x64x1, .f32⟩
  | 76 => ⟨S128x32x64, .f32⟩
  | 77 => ⟨S128x32x1x64, .f32⟩
  | 78 => ⟨S128x32x64x64, .f32⟩
  | 79 => ⟨S128x32x64x64, .f32⟩
  | 80 => ⟨S128x32x64x64, .f32⟩
  | 81 => ⟨S128x32x64x64, .f32⟩
  | 82 => ⟨S128x32x64x1, .f32⟩
  | 83 => ⟨S128x32x1x64, .f32⟩
  | 84 => ⟨S128x32x64x64, .f32⟩
  | 85 => ⟨S128x32x64x64, .f32⟩
  | 86 => ⟨S128x32x64x64, .f32⟩
  | 87 => ⟨S128x32x64x64, .f32⟩
  | 88 => ⟨S1x128x32x64x64, .f32⟩
  | _ => ⟨S4x128x8320, .f32⟩

abbrev hbmTy (i : Nat) : BufTy := match i / 128 with
  | 0 => hbmTy0_0 i
  | 1 => hbmTy0_1 i
  | _ => ⟨S4x128x8320, .f32⟩

abbrev bufTy : (tb : Table) → Fin (tcTables nBuf tb) → BufTy
  | .hbm, ⟨i, _⟩ => hbmTy i
  | _, _ => ⟨S4x128x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_0 : Ref sig .tc := ⟨.hbm, 66, rfl⟩
abbrev main_v39 : Ref sig .tc := ⟨.hbm, 67, rfl⟩
abbrev main_v40 : Ref sig .tc := ⟨.hbm, 68, rfl⟩
abbrev main_cst_1 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_3 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_4 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_5 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩

abbrev nD : Nat := 1
abbrev τ : Topo := Topo.v7x

variable {F : FTy → Type} [FloatOps F]
-- ==== Proof.Spec.lean ====
/- What one chunk of 128 tokens goes through in the gated mixer, over the extended reals and with no mention of blocks,
   tiles or buffers: a token's row enters as a function of its column, and the chunk as the function of its tokens. -/
module

public import Idealize.ShloMosaic.PureOps.Ideal
public import Idealize.ShloMosaic.Lib.IdealHost

@[expose] public section

noncomputable section

namespace Cert.Mixer

open Idealize.ShloMosaic

/-! ### The printed constants -/

/-- The divisor of a mean over the model's width. -/
abbrev width : EReal := Ideal.ofBits .f32 0x44800000#32
/-- The divisor of a mean over the gated half. -/
abbrev half : EReal := Ideal.ofBits .f32 0x45000000#32
/-- The offset under the root of an RMS norm. -/
abbrev epsRms : EReal := Ideal.ofBits .f32 0x358637BD#32
/-- The offset under the root of the layer norm. -/
abbrev epsNorm : EReal := Ideal.ofBits .f32 0x3727C5AC#32
/-- The cubic coefficient of the tanh form of the Gaussian unit. -/
abbrev cubic : EReal := Ideal.ofBits .f32 0x3D372713#32
/-- The scale inside the tanh of the Gaussian unit. -/
abbrev scale : EReal := Ideal.ofBits .f32 0x3F4C422A#32
/-- One half. -/
abbrev oneHalf : EReal := Ideal.ofBits .f32 0x3F000000#32

/-! ### One row -/

/-- The factor an RMS norm multiplies a row with. -/
def rmsFactor (x : Fin 1024 → EReal) : EReal := Ideal.rsqrt (Ideal.div (∑ k, x k * x k) width + epsRms)

/-- A row, RMS-normalised and scaled. -/
def rms (g x : Fin 1024 → EReal) (j : Fin 1024) : EReal := x j * rmsFactor x * g j

/-- The Gaussian unit in its tanh form. -/
def gelu (x : EReal) : EReal := x * (oneHalf * (1 + Ideal.tanh (scale * (x + cubic * (x * (x * x))))))

/-- The mean of a row of the gated half. -/
def mean (v : Fin 2048 → EReal) : EReal := Ideal.div (∑ k, v k) half

/-- A row of the gated half, layer-normalised. -/
def norm (g b v : Fin 2048 → EReal) (d : Fin 2048) : EReal :=
  (v d - mean v) * Ideal.rsqrt (Ideal.div (∑ k, (v k - mean v) * (v k - mean v)) half + epsNorm) * g d + b d

/-- The gate `z / (1 + exp (-z))`. -/
def gate (z : EReal) : EReal := z * Ideal.div 1 (1 + Ideal.exp (-z))

/-! ### The mixer's weights and a chunk -/

/-- The weights of the mixer: norm scale, input projection, layer norm, spatial weights and biases, output projection. -/
structure Weights where
  g : Fin 1024 → EReal
  wi : Fin 1024 → Fin 6144 → EReal
  vg : Fin 2048 → EReal
  vb : Fin 2048 → EReal
  ws : Fin 8 → Fin 128 → Fin 128 → EReal
  bs : Fin 8 → Fin 128 → EReal
  wo : Fin 2048 → Fin 1024 → EReal

variable (W : Weights)

/-- A row after the input projection of its RMS norm. -/
def proj (x : Fin 1024 → EReal) (c : Fin 6144) : EReal := ∑ k, rms W.g x k * W.wi k c

/-- The first third of the projection, through the Gaussian unit. -/
def uRow (x : Fin 1024 → EReal) (d : Fin 2048) : EReal := gelu (proj W x ⟨d.val, by omega⟩)

/-- The second third, through the Gaussian unit. -/
def vPre (x : Fin 1024 → EReal) (d : Fin 2048) : EReal := gelu (proj W x ⟨2048 + d.val, by omega⟩)

/-- The second third after the layer norm. -/
def vRow (x : Fin 1024 → EReal) (d : Fin 2048) : EReal := norm W.vg W.vb (vPre W x) d

/-- The last third. -/
def zRow (x : Fin 1024 → EReal) (d : Fin 2048) : EReal := proj W x ⟨4096 + d.val, by omega⟩

/-- The group a column of the gated half belongs to. -/
abbrev grp (d : Fin 2048) : Fin 8 := ⟨d.val / 256, by omega⟩

/-- The causal mixing of the chunk's rows at token `t`, and the bias. -/
def mixed (v : Fin 128 → Fin 2048 → EReal) (t : Fin 128) (d : Fin 2048) : EReal :=
  (∑ s : Fin 128, (if s.val ≤ t.val then W.ws (grp d) t s else 0) * v s d) + W.bs (grp d) t

/-- What the mixer projects back: the three thirds multiplied. -/
def gated (x : Fin 128 → Fin 1024 → EReal) (t : Fin 128) (d : Fin 2048) : EReal :=
  uRow W (x t) d * mixed W (fun s => vRow W (x s)) t d * gate (zRow W (x t) d)

/-- A token's row after the mixer, its input added. -/
def after (x : Fin 128 → Fin 1024 → EReal) (t : Fin 128) (j : Fin 1024) : EReal :=
  x t j + ∑ d, gated W x t d * W.wo d j

/-- A row entering the mixer: the layer input and the projected output of the mixer before. -/
def enter (X : Fin 1024 → EReal) (O : Fin 2048 → EReal) (Wr : Fin 2048 → Fin 1024 → EReal) (j : Fin 1024) : EReal :=
  X j + ∑ k, O k * Wr k j

/-! ### The two spellings of the gate -/

theorem oneHalf_eq : oneHalf = ((1 / 2 : ℝ) : EReal) := by
  simp [Ideal.ofBits, Ideal.ieee]
  norm_num [← EReal.coe_mul]

theorem real_tanh_logistic (r : ℝ) : 1 / 2 * Real.tanh (1 / 2 * r) + 1 / 2 = 1 / (1 + Real.exp (-r)) := by
  have hs : Real.exp (-r) = Real.exp (-(1 / 2 * r)) * Real.exp (-(1 / 2 * r)) := by rw [← Real.exp_add]; ring_nf
  have hp : Real.exp (1 / 2 * r) * Real.exp (-(1 / 2 * r)) = 1 := by rw [← Real.exp_add]; simp
  rw [Real.tanh_eq_sinh_div_cosh, Real.sinh_eq, Real.cosh_eq, hs]
  have h1 := Real.exp_pos (1 / 2 * r)
  have h2 := Real.exp_pos (-(1 / 2 * r))
  generalize Real.exp (1 / 2 * r) = a at *
  generalize Real.exp (-(1 / 2 * r)) = b at *
  have ha : a + b ≠ 0 := by positivity
  have hb : 1 + b * b ≠ 0 := by positivity
  field_simp
  nlinarith

theorem tanh_coe (r : ℝ) : Ideal.tanh (r : EReal) = (Real.tanh r : EReal) := rfl
theorem tanh_bot : Ideal.tanh ⊥ = ((-1 : ℝ) : EReal) := rfl
theorem tanh_top : Ideal.tanh ⊤ = ((1 : ℝ) : EReal) := rfl
theorem exp_coe (r : ℝ) : Ideal.exp (r : EReal) = (Real.exp r : EReal) := rfl
theorem exp_bot : Ideal.exp ⊥ = 0 := rfl
theorem exp_top : Ideal.exp ⊤ = ⊤ := rfl

/-- `½ tanh(z/2) + ½` is the logistic function of `z`, at the infinities too. -/
theorem tanh_logistic (z : EReal) :
    oneHalf * Ideal.tanh (oneHalf * z) + oneHalf = Ideal.div 1 (1 + Ideal.exp (-z)) := by
  have hh : (0 : ℝ) < 1 / 2 := by norm_num
  rw [oneHalf_eq]
  induction z with
  | bot =>
    rw [EReal.coe_mul_bot_of_pos hh, EReal.neg_bot, tanh_bot, exp_top, ← EReal.coe_mul, ← EReal.coe_add]
    have e : (1 : EReal) + ⊤ = ⊤ := by rw [← EReal.coe_one]; exact EReal.coe_add_top 1
    rw [e]
    norm_num [Ideal.div]
  | top =>
    rw [EReal.coe_mul_top_of_pos hh, EReal.neg_top, tanh_top, exp_bot, add_zero, ← EReal.coe_mul, ← EReal.coe_add,
      ← EReal.coe_one, Ideal.div_coe one_ne_zero, ← EReal.coe_mul]
    norm_num
  | coe r =>
    have hpos : (1 + Real.exp (-r) : ℝ) ≠ 0 := by positivity
    rw [← EReal.coe_neg, exp_coe, ← EReal.coe_one, ← EReal.coe_add, Ideal.div_coe hpos, EReal.coe_one, one_mul,
      ← real_tanh_logistic, ← EReal.coe_mul, tanh_coe, ← EReal.coe_mul, ← EReal.coe_add]

theorem gate_tanh (z : EReal) : z * (oneHalf * Ideal.tanh (oneHalf * z) + oneHalf) = gate z := by
  rw [tanh_logistic, gate]

end Cert.Mixer

end
-- ==== Proof.Rows.lean ====
/- What the kernel's body computes row by row before the mixing: the rows entering the mixer, their projection, the two
   Gaussian thirds and the layer norm, each an entry of the block read at a row and a column. -/
module

public import proofs.«01_k».proof.Proof.Spec
public import proofs.«01_k».proof.Proof.Gen.KernelIdeal.Skeleton
public import Idealize.ShloMosaic.Lib.Pointwise

@[expose] public section

noncomputable section

namespace Cert.Mixer

open Idealize.ShloMosaic Cert.KernelIdeal Cert.KernelIdeal.Gen

variable (v0 : Vec Ideal S512x1024 .f32) (v2 : Vec Ideal S512x2048 .bf16) (v4 : Vec Ideal S2048x1024 .bf16)
  (v8 : Vec Ideal S1x1024 .f32) (v23 : Vec Ideal S1024x6144 .bf16)

theorem pay2_apply (i : Fin 512) (j : Fin 1024) :
    k0_pay2 (F := Ideal) v0 v2 v4 (ix2 i j)
      = enter (fun k => v0 (ix2 i k)) (fun k => v2 (ix2 i k)) (fun k j => v4 (ix2 k j)) j := by
  pointwise [k0_pay2, enter]

/-- The projection block, of the block of rows it starts from. -/
theorem pay3_apply (i : Fin 512) (c : Fin 6144) :
    k0_pay3 (F := Ideal) v0 v2 v4 v8 v23 (ix2 i c)
      = ∑ k, rms (fun j => v8 (ix2 0 j)) (fun j => k0_pay2 (F := Ideal) v0 v2 v4 (ix2 i j)) k * v23 (ix2 k c) := by
  pointwise [k0_pay3, rms, rmsFactor]

theorem pay4_apply (i : Fin 512) (d : Fin 2048) :
    k0_pay4 (F := Ideal) v0 v2 v4 v8 v23 (ix2 i d)
      = gelu (k0_pay3 (F := Ideal) v0 v2 v4 v8 v23 (ix2 i ⟨d.val, by omega⟩)) := by
  pointwise [k0_pay4, gelu]

variable (p : FVec Ideal S512x6144 .f32)

theorem pay5_apply (i : Fin 512) (d : Fin 2048) :
    k0_pay5 (F := Ideal) p (ix2 i d) = p (ix2 i ⟨4096 + d.val, by omega⟩) := by
  pointwise [k0_pay5]

variable (g b : Vec Ideal S1x2048 .f32)

theorem pay6_apply (i : Fin 512) (d : Fin 2048) :
    k0_pay6 (F := Ideal) p g b (ix2 i d)
      = norm (fun d => g (ix2 0 d)) (fun d => b (ix2 0 d)) (fun d => gelu (p (ix2 i ⟨2048 + d.val, by omega⟩))) d := by
  pointwise [k0_pay6, norm, mean, gelu]

end Cert.Mixer

end
-- ==== Proof.Mixing.lean ====
/- The causal mixing of the kernel's body. Each of the 32 products mixes one chunk of 128 tokens in one group of 256
   columns; the body lays the groups side by side and the chunks one under another. -/
module

public import proofs.«01_k».proof.Proof.Spec
public import proofs.«01_k».proof.Proof.Gen.KernelIdeal.Frame
public import Idealize.ShloMosaic.Lib.Pointwise
public import Idealize.ShloMosaic.Lib.Pipeline.Value

@[expose] public section

noncomputable section

namespace Cert.Mixer

open Idealize.ShloMosaic Cert.KernelIdeal Cert.KernelIdeal.Gen

/-- The causal mask keeps a token's own position and those before it. -/
theorem mask_apply (t s : Fin 128) : (k0_pay7 (ix2 t s) : BitVec 1) = BitVec.ofBool (decide (s.val ≤ t.val)) := by
  pointwise [k0_pay7]
  have ht : (BitVec.ofNat 32 t.val).toInt = t.val := by
    rw [BitVec.toInt_ofNat', Int.bmod_def]; omega
  have hs : (BitVec.ofNat 32 s.val).toInt = s.val := by
    rw [BitVec.toInt_ofNat', Int.bmod_def]; omega
  simp [IntOp.cmpi, BitVec.sle, ht, hs]

variable (v : FVec Ideal S512x2048 .bf16) (w : Vec Ideal S8x128x128 .f32) (b : Vec Ideal S8x128x1 .f32)

/-- The spatial weights of one group, the future masked out. -/
def maskedW (g : Fin 8) (hw : ∀ a, (![g.val, 0, 0] : Fin 3 → Nat) a + S1x128x128.size a ≤ S8x128x128.size a) :
    FVec Ideal S128x128 .bf16 :=
  truncf .bf16 (select k0_pay7
    (shapeCast S128x128 (View.ld w (Rect.unit (s := S8x128x128) ![g.val, 0, 0] S1x128x128.size hw)) shapeCasts_S1x128x128_S128x128)
    (broadcast S128x128 (Scalar.ofBits .f32 0x00000000#32 : Ideal .f32))) bitsLt_bf16_f32

/-- The mixing of chunk `c` in group `g`. -/
def mixTile (c : Fin 4) (g : Fin 8) (hs : S512x2048.Slices ![128 * c.val, 256 * g.val] S128x256)
    (hw : ∀ a, (![g.val, 0, 0] : Fin 3 → Nat) a + S1x128x128.size a ≤ S8x128x128.size a)
    (hb : ∀ a, (![g.val, 0, 0] : Fin 3 → Nat) a + S1x128x1.size a ≤ S8x128x1.size a) : FVec Ideal S128x256 .f32 :=
  addf (matmul dot_S128x128_S128x256_S128x256_1_0_0_1_n_n none (maskedW w g hw)
      (extractStridedSlice S128x256 ![128 * c.val, 256 * g.val] v hs) (constant S128x256 .f32 0x00000000#32))
    (broadcastTo S128x256
      (shapeCast S128x1 (View.ld b (Rect.unit (s := S8x128x1) ![g.val, 0, 0] S1x128x1.size hb)) shapeCasts_S1x128x1_S128x1)
      broadcasts_S128x1_S128x256)

theorem ldW_apply (g : Fin 8) (hw) (t s : Fin 128) :
    View.ld w (Rect.unit (s := S8x128x128) ![g.val, 0, 0] S1x128x128.size hw) (ix3 0 t s) = w (ix3 g t s) :=
  congrArg w (funext fun a => Fin.ext (by
    match a with
    | ⟨0, _⟩ => show g.val + 1 * 0 = g.val; omega
    | ⟨1, _⟩ => show 0 + 1 * t.val = t.val; omega
    | ⟨2, _⟩ => show 0 + 1 * s.val = s.val; omega))

theorem ldB_apply (g : Fin 8) (hb) (t : Fin 128) :
    View.ld b (Rect.unit (s := S8x128x1) ![g.val, 0, 0] S1x128x1.size hb) (ix3 0 t 0) = b (ix3 g t 0) :=
  congrArg b (funext fun a => Fin.ext (by
    match a with
    | ⟨0, _⟩ => show g.val + 1 * 0 = g.val; omega
    | ⟨1, _⟩ => show 0 + 1 * t.val = t.val; omega
    | ⟨2, _⟩ => rfl))

/-- A masked entry: a select on a bit that says whether the position is past. -/
theorem masked_apply (mk : IVec S128x128 1) (y : FVec Ideal S1x128x128 .f32) (t s : Fin 128) :
    (truncf .bf16 (select mk (shapeCast S128x128 y shapeCasts_S1x128x128_S128x128)
      (broadcast S128x128 (Scalar.ofBits .f32 0x00000000#32 : Ideal .f32))) bitsLt_bf16_f32 : FVec Ideal S128x128 .bf16) (ix2 t s)
      = Scalar.select (mk (ix2 t s)) (y (ix3 0 t s)) (0 : EReal) := by
  pointwise

theorem maskedW_apply (g : Fin 8) (hw) (t s : Fin 128) :
    maskedW w g hw (ix2 t s) = (if s.val ≤ t.val then w (ix3 g t s) else 0 : EReal) := by
  rw [maskedW, masked_apply, mask_apply, ldW_apply, Scalar.select_decide]

theorem mixTile_apply (c : Fin 4) (g : Fin 8) (hs hw hb) (t : Fin 128) (l : Fin 256) :
    mixTile v w b c g hs hw hb (ix2 t l)
      = (∑ s : Fin 128, (if s.val ≤ t.val then w (ix3 g t s) else 0 : EReal)
          * v (ix2 ⟨128 * c.val + s.val, by omega⟩ ⟨256 * g.val + l.val, by omega⟩)) + b (ix3 g t 0) := by
  simp only [← maskedW_apply w g hw]
  rw [← ldB_apply b g hb]
  unfold mixTile
  generalize View.ld b (Rect.unit (s := S8x128x1) ![g.val, 0, 0] S1x128x1.size hb) = y
  generalize maskedW w g hw = x
  pointwise

theorem slicesAt (c : Fin 4) (g : Fin 8) : S512x2048.Slices ![128 * c.val, 256 * g.val] S128x256 := by
  revert c g; decide

theorem wAt (g : Fin 8) : ∀ a, (![g.val, 0, 0] : Fin 3 → Nat) a + S1x128x128.size a ≤ S8x128x128.size a := by
  revert g; decide

theorem bAt (g : Fin 8) : ∀ a, (![g.val, 0, 0] : Fin 3 → Nat) a + S1x128x1.size a ≤ S8x128x1.size a := by
  revert g; decide

/-- One chunk's rows: the eight groups side by side. -/
def mixChunk (c : Fin 4) : FVec Ideal S128x2048 .f32 :=
  concatenate S128x2048 1
    (List.ofFn fun g : Fin 8 => ⟨S128x256, mixTile v w b c g (slicesAt c g) (wAt g) (bAt g)⟩)
    concatenates_S128x256_S128x256_S128x256_S128x256_S128x256_S128x256_S128x256_S128x256_S128x2048_d1

/-- The mixed block: the four chunks one under another. -/
def mixBlock : FVec Ideal S512x2048 .f32 :=
  concatenate S512x2048 0 (List.ofFn fun c : Fin 4 => ⟨S128x2048, mixChunk v w b c⟩)
    concatenates_S128x2048_S128x2048_S128x2048_S128x2048_S512x2048_d0

theorem mixChunk_apply (c : Fin 4) (t : Fin 128) (d : Fin 2048) :
    mixChunk v w b c (ix2 t d) = mixTile v w b c (grp d) (slicesAt c _) (wAt _) (bAt _) (ix2 t ⟨d.val % 256, by omega⟩) :=
  concatenate_ofFn_apply (t := S128x2048) (s₁ := S128x256) 1 _ _ rfl 256 rfl (ix2 t d) (grp d) rfl (ix2 t ⟨d.val % 256, by omega⟩) rfl
    (fun a ha => match a with
      | ⟨0, _⟩ => rfl
      | ⟨1, _⟩ => absurd rfl ha)

theorem mixBlock_apply (i : Fin 512) (d : Fin 2048) :
    mixBlock v w b (ix2 i d)
      = (∑ s : Fin 128, (if s.val ≤ i.val % 128 then w (ix3 (grp d) ⟨i.val % 128, by omega⟩ s) else 0)
          * v (ix2 ⟨128 * (i.val / 128) + s.val, by omega⟩ d)) + b (ix3 (grp d) ⟨i.val % 128, by omega⟩ 0) := by
  have h : mixBlock v w b (ix2 i d) = mixChunk v w b ⟨i.val / 128, by omega⟩ (ix2 ⟨i.val % 128, by omega⟩ d) :=
    concatenate_ofFn_apply (t := S512x2048) (s₁ := S128x2048) 0 _ _ rfl 128 rfl (ix2 i d) ⟨i.val / 128, by omega⟩ rfl
      (ix2 ⟨i.val % 128, by omega⟩ d) rfl
      (fun a ha => match a with
        | ⟨0, _⟩ => absurd rfl ha
        | ⟨1, _⟩ => rfl)
  rw [h, mixChunk_apply, mixTile_apply]
  refine congrArg (· + _) (Finset.sum_congr rfl fun s _ => congrArg (_ * v ·) (congrArg (ix2 _) (Fin.ext ?_)))
  show 256 * (d.val / 256) + d.val % 256 = d.val
  omega

end Cert.Mixer

end
-- ==== Proof.Block.lean ====
/- One point of the kernel's grid: the block it writes, entry by entry, is the mixer's chunk on the block's rows. -/
module

public import proofs.«01_k».proof.Proof.Rows
public import proofs.«01_k».proof.Proof.Mixing

@[expose] public section

noncomputable section

namespace Cert.Mixer

open Idealize.ShloMosaic Cert.KernelIdeal Cert.KernelIdeal.Gen

/-- The last part of the body, of the mixed block `M`: what it does to a row before the final norm's scale. -/
theorem pay48_apply (x : FVec Ideal S512x1024 .f32) (u z : FVec Ideal S512x2048 .f32) (A B C : FVec Ideal S128x2048 .f32)
    (p₀ p₁ p₂ p₃ p₄ p₅ p₆ p₇ : FVec Ideal S128x256 .f32) (b : Vec Ideal S1x128x1 .f32) (wo : Vec Ideal S2048x1024 .bf16)
    (M : FVec Ideal S512x2048 .f32)
    (hM : concatenate S512x2048 0 [⟨S128x2048, A⟩, ⟨S128x2048, B⟩, ⟨S128x2048, C⟩, ⟨S128x2048,
        concatenate S128x2048 1 [⟨S128x256, p₀⟩, ⟨S128x256, p₁⟩, ⟨S128x256, p₂⟩, ⟨S128x256, p₃⟩, ⟨S128x256, p₄⟩,
          ⟨S128x256, p₅⟩, ⟨S128x256, p₆⟩, ⟨S128x256, addf p₇ (broadcastTo S128x256
            (shapeCast S128x1 b shapeCasts_S1x128x1_S128x1) broadcasts_S128x1_S128x256)⟩]
          concatenates_S128x256_S128x256_S128x256_S128x256_S128x256_S128x256_S128x256_S128x256_S128x2048_d1⟩]
        concatenates_S128x2048_S128x2048_S128x2048_S128x2048_S512x2048_d0 = M)
    (i : Fin 512) (j : Fin 1024) :
    k0_pay48 (F := Ideal) x u z A B C p₀ p₁ p₂ p₃ p₄ p₅ p₆ p₇ b wo (ix2 i j)
      = (fun r : Fin 1024 → EReal => r j * rmsFactor r)
          (fun j => x (ix2 i j) + ∑ d : Fin 2048, u (ix2 i d) * M (ix2 i d) * gate (z (ix2 i d)) * wo (ix2 d j)) := by
  dsimp only [k0_pay48]
  rw [hM]
  clear hM
  simp only [← gate_tanh]
  pointwise [rmsFactor]

theorem pay1_apply (x y : FVec Ideal S512x1024 .f32) (i : Fin 512) (j : Fin 1024) :
    k0_pay1 (F := Ideal) x y (ix2 i j) = x (ix2 i j) * y (ix2 i j) := by
  pointwise [k0_pay1]

theorem pay49_apply (x : Vec Ideal S1x1024 .f32) (i : Fin 512) (j : Fin 1024) :
    k0_pay49 (F := Ideal) x (ix2 i j) = x (ix2 0 j) := by
  pointwise [k0_pay49]

section
variable (x0 : Vec Ideal S512x1024 .f32) (x1 : Vec Ideal S1x1024 .f32) (x2 : Vec Ideal S1024x6144 .bf16)
  (x3 x4 : Vec Ideal S1x2048 .f32) (x5 : Vec Ideal S8x128x128 .f32) (x6 : Vec Ideal S8x128x1 .f32)
  (x7 : Vec Ideal S2048x1024 .bf16) (x8 : Vec Ideal S1x1024 .f32) (x9 : Vec Ideal S512x2048 .bf16) (x10 : Vec Ideal S2048x1024 .bf16)

/-- The weights as the body finds them in its windows. -/
def blockWeights : Weights where
  g j := x1 (ix2 0 j)
  wi k c := x2 (ix2 k c)
  vg d := x3 (ix2 0 d)
  vb d := x4 (ix2 0 d)
  ws g t s := x5 (ix3 g t s)
  bs g t := x6 (ix3 g t 0)
  wo d j := x7 (ix2 d j)

/-- The rows entering the mixer, of a block. -/
def blockRow (i : Fin 512) : Fin 1024 → EReal :=
  enter (fun k => x0 (ix2 i k)) (fun k => x9 (ix2 i k)) (fun k j => x10 (ix2 k j))

theorem ld0 (x : Vec Ideal S512x1024 .f32) : View.ld x r0_0 = x := View.ld_unit_zero (by decide) _ x
theorem ld1 (x : Vec Ideal S512x2048 .bf16) : View.ld x r0_1 = x := View.ld_unit_zero (by decide) _ x
theorem ld2 (x : Vec Ideal S2048x1024 .bf16) : View.ld x r0_2 = x := View.ld_unit_zero (by decide) _ x
theorem ld3 (x : Vec Ideal S1x1024 .f32) : View.ld x r0_3 = x := View.ld_unit_zero (by decide) _ x
theorem ld4 (x : Vec Ideal S1024x6144 .bf16) : View.ld x r0_4 = x := View.ld_unit_zero (by decide) _ x
theorem ld5 (x : Vec Ideal S1x2048 .f32) : View.ld x r0_5 = x := View.ld_unit_zero (by decide) _ x

/-- The projection block of the body, at a row. -/
theorem proj_apply (i : Fin 512) (c : Fin 6144) :
    k0_pay3 (F := Ideal) x0 x9 x10 x1 x2 (ix2 i c)
      = proj (blockWeights x1 x2 x3 x4 x5 x6 x7) (blockRow x0 x9 x10 i) c := by
  rw [pay3_apply]
  simp only [pay2_apply]
  rfl

theorem out_apply (i : Fin 512) (j : Fin 1024) :
    out0_11 (F := Ideal) x0 x1 x2 x3 x4 x5 x6 x7 x8 x9 x10 (ix2 i j)
      = rms (fun j => x8 (ix2 0 j))
          (after (blockWeights x1 x2 x3 x4 x5 x6 x7)
            (fun s => blockRow x0 x9 x10 ⟨128 * (i.val / 128) + s.val, by omega⟩) ⟨i.val % 128, by omega⟩) j := by
  have hi : (⟨128 * (i.val / 128) + i.val % 128, by omega⟩ : Fin 512) = i := Fin.ext (by show 128 * (i.val / 128) + i.val % 128 = i.val; omega)
  unfold out0_11
  rw [View.canon_unit_zero (by decide), ld3 x8, ld2 x7]
  rw [pay1_apply, pay49_apply, pay48_apply (M := mixBlock (k0_pay51 x0 x1 x2 x3 x4 x5 x6 x7 x8 x9 x10) x5 x6)]
  rotate_left
  · rfl
  unfold k0_pay51 k0_pay50
  simp only [ld0, ld1, ld2, ld3, ld4, ld5, mixBlock_apply, pay6_apply, pay5_apply, pay4_apply, pay2_apply,
    proj_apply x0 x1 x2 x3 x4 x5 x6 x7]
  unfold rms
  unfold after
  unfold gated mixed
  simp only [hi]
  rfl

end

end Cert.Mixer

end
-- ==== Proof.Host.lean ====
/- The arrays the kernel's windows stage, as the host operations before the call leave them: each read at an index from
   the arguments. -/
module

public import proofs.«01_k».proof.Proof.Gen.KernelIdeal.Frame
public import Idealize.ShloMosaic.Lib.Pointwise

@[expose] public section

noncomputable section

namespace Cert.Mixer

open Idealize.ShloMosaic Idealize.ShloMosaic.TcCoe Idealize.SL.Sem Cert.KernelIdeal Cert.KernelIdeal.Gen

variable (m : (ℓ : Loc nD τ sig) → Buf (Elt Ideal) ℓ) (c : Dev nD)

theorem V_v0 (n : Fin 16384) (j : Fin 1024) : (V m c main_v0 : Vec Ideal S16384x1024 .f32) (ix2 n j)
    = (m ((c : Thread nD τ).loc main_arg0) : Vec Ideal S8x2048x1024 .f32) (ix3 ⟨n.val / 2048, by omega⟩ ⟨n.val % 2048, by omega⟩ j) := by
  unfold V
  simp only [hostOps0]
  after_results_simp
  generalize m (c, main_arg0) = a
  pointwise

theorem V_v1 (n : Fin 16384) (j : Fin 2048) : (V m c main_v1 : Vec Ideal S16384x2048 .bf16) (ix2 n j)
    = (m ((c : Thread nD τ).loc main_arg1) : Vec Ideal S8x2048x2048 .bf16) (ix3 ⟨n.val / 2048, by omega⟩ ⟨n.val % 2048, by omega⟩ j) := by
  unfold V
  simp only [hostOps0]
  after_results_simp
  generalize m (c, main_arg1) = a
  pointwise

theorem V_v14 (j : Fin 1024) : (V m c main_v14 : Vec Ideal S1x1024 .f32) (ix2 0 j)
    = (m ((c : Thread nD τ).loc main_arg2) : Vec Ideal S2x1024 .f32) (ix2 1 j) := by
  unfold V
  simp only [hostOps0]
  after_results_simp
  generalize m (c, main_arg2) = a
  pointwise

theorem V_v18 (j : Fin 1024) : (V m c main_v18 : Vec Ideal S1x1024 .f32) (ix2 0 j)
    = (m ((c : Thread nD τ).loc main_arg3) : Vec Ideal S1024 .f32) (ix1 j) := by
  unfold V
  simp only [hostOps0]
  after_results_simp
  generalize m (c, main_arg3) = a
  pointwise

theorem V_v3 (k : Fin 2048) (j : Fin 1024) : (V m c main_v3 : Vec Ideal S2048x1024 .bf16) (ix2 k j)
    = (m ((c : Thread nD τ).loc main_arg4) : Vec Ideal S1x2048x1024 .f32) (ix3 0 k j) := by
  unfold V
  simp only [hostOps0]
  after_results_simp
  generalize m (c, main_arg4) = a
  pointwise

theorem V_v5 (k : Fin 1024) (j : Fin 6144) : (V m c main_v5 : Vec Ideal S1024x6144 .bf16) (ix2 k j)
    = (m ((c : Thread nD τ).loc main_arg5) : Vec Ideal S1x1024x6144 .f32) (ix3 0 k j) := by
  unfold V
  simp only [hostOps0]
  after_results_simp
  generalize m (c, main_arg5) = a
  pointwise

theorem V_v15 (d : Fin 2048) : (V m c main_v15 : Vec Ideal S1x2048 .f32) (ix2 0 d)
    = (m ((c : Thread nD τ).loc main_arg6) : Vec Ideal S1x2048 .f32) (ix2 0 d) := by
  unfold V
  simp only [hostOps0]
  after_results_simp
  generalize m (c, main_arg6) = a
  pointwise

theorem V_v16 (d : Fin 2048) : (V m c main_v16 : Vec Ideal S1x2048 .f32) (ix2 0 d)
    = (m ((c : Thread nD τ).loc main_arg7) : Vec Ideal S1x2048 .f32) (ix2 0 d) := by
  unfold V
  simp only [hostOps0]
  after_results_simp
  generalize m (c, main_arg7) = a
  pointwise

theorem V_v8 (g : Fin 8) (t s : Fin 128) : (V m c main_v8 : Vec Ideal S8x128x128 .f32) (ix3 g t s)
    = (m ((c : Thread nD τ).loc main_arg8) : Vec Ideal S1x8x128x128 .f32) (ix4 0 g t s) := by
  unfold V
  simp only [hostOps0]
  after_results_simp
  generalize m (c, main_arg8) = a
  pointwise

theorem V_v17 (g : Fin 8) (t : Fin 128) : (V m c main_v17 : Vec Ideal S8x128x1 .f32) (ix3 g t 0)
    = (m ((c : Thread nD τ).loc main_arg9) : Vec Ideal S1x8x128 .f32) (ix3 0 g t) := by
  unfold V
  simp only [hostOps0]
  after_results_simp
  generalize m (c, main_arg9) = a
  pointwise

theorem V_v7 (d : Fin 2048) (j : Fin 1024) : (V m c main_v7 : Vec Ideal S2048x1024 .bf16) (ix2 d j)
    = (m ((c : Thread nD τ).loc main_arg10) : Vec Ideal S1x2048x1024 .f32) (ix3 0 d j) := by
  unfold V
  simp only [hostOps0]
  after_results_simp
  generalize m (c, main_arg10) = a
  pointwise

end Cert.Mixer

end
-- ==== Proof.Layer.lean ====
/- The layer as one function of the arguments: what the mixer's weights are, which row a token enters with, and the array of
   all the tokens' rows after the mixer and the final norm. -/
module

public import proofs.«01_k».proof.Proof.Spec
public import Idealize.ShloMosaic.Lib.Pointwise

@[expose] public section

noncomputable section

namespace Cert.Mixer

open Idealize.ShloMosaic

variable (a0 : (⟨3, ![8, 2048, 1024]⟩ : Shape).Idx → EReal) (a1 : (⟨3, ![8, 2048, 2048]⟩ : Shape).Idx → EReal)
  (a2 : (⟨2, ![2, 1024]⟩ : Shape).Idx → EReal) (a3 : (⟨1, ![1024]⟩ : Shape).Idx → EReal)
  (a4 : (⟨3, ![1, 2048, 1024]⟩ : Shape).Idx → EReal) (a5 : (⟨3, ![1, 1024, 6144]⟩ : Shape).Idx → EReal)
  (a6 a7 : (⟨2, ![1, 2048]⟩ : Shape).Idx → EReal) (a8 : (⟨4, ![1, 8, 128, 128]⟩ : Shape).Idx → EReal)
  (a9 : (⟨3, ![1, 8, 128]⟩ : Shape).Idx → EReal) (a10 : (⟨3, ![1, 2048, 1024]⟩ : Shape).Idx → EReal)

/-- The mixer's weights, of the arguments. -/
def argWeights : Weights where
  g j := a2 (ix2 1 j)
  wi k c := a5 (ix3 0 k c)
  vg d := a6 (ix2 0 d)
  vb d := a7 (ix2 0 d)
  ws g t s := a8 (ix4 0 g t s)
  bs g t := a9 (ix3 0 g t)
  wo d j := a10 (ix3 0 d j)

/-- The row token `p` of sequence `b` enters the mixer with. -/
def tokenRow (b : Fin 8) (p : Fin 2048) : Fin 1024 → EReal :=
  enter (fun k => a0 (ix3 b p k)) (fun k => a1 (ix3 b p k)) (fun k j => a4 (ix3 0 k j))

/-- Token `p` of sequence `b` after the mixer and the final norm. -/
def tokenOut (b : Fin 8) (p : Fin 2048) : Fin 1024 → EReal :=
  rms (fun j => a3 (ix1 j)) (after (argWeights a2 a5 a6 a7 a8 a9 a10)
    (fun s => tokenRow a0 a1 a4 b ⟨128 * (p.val / 128) + s.val, by omega⟩) ⟨p.val % 128, by omega⟩)

/-- The layer's array: row `n` is token `n % 2048` of sequence `n / 2048`. -/
def layer (i : (⟨2, ![16384, 1024]⟩ : Shape).Idx) : EReal :=
  tokenOut a0 a1 a2 a3 a4 a5 a6 a7 a8 a9 a10 ⟨(i 0).val / 2048, Nat.div_lt_of_lt_mul (i 0).isLt⟩
    ⟨(i 0).val % 2048, Nat.mod_lt _ (by norm_num)⟩ (i 1)

end Cert.Mixer

end
-- ==== Proof.Array.lean ====
/- What the result array holds after the grid's 32 points: the layer of the arguments. -/
module

public import proofs.«01_k».proof.Proof.Block
public import proofs.«01_k».proof.Proof.Host
public import proofs.«01_k».proof.Proof.Layer
public import proofs.«01_k».proof.Proof.Gen.KernelIdeal.Value

@[expose] public section

noncomputable section

namespace Cert.Mixer

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ### The windows' blocks -/

theorem index_row : ∀ t : Fin cfg0.N, (win0_0.index t (0 : Fin 2) = t.val ∧ win0_0.index t (1 : Fin 2) = 0)
    ∧ (win0_9.index t (0 : Fin 2) = t.val ∧ win0_9.index t (1 : Fin 2) = 0)
    ∧ (win0_11.index t (0 : Fin 2) = t.val ∧ win0_11.index t (1 : Fin 2) = 0) :=
  (by decide +kernel : ∀ t : Fin grid0.N, _)

theorem index_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_10.index t (0 : Fin 2) = 0 ∧ win0_10.index t (1 : Fin 2) = 0) :=
  (by decide +kernel : ∀ t : Fin grid0.N, _)

/-- The array row that block row `i` of point `t` is. -/
abbrev rowOf (t : Fin cfg0.N) (i : Fin 512) : Fin 16384 :=
  ⟨512 * t.val + i.val, by have : t.val < 32 := Nat.lt_of_lt_of_eq t.isLt N_0; omega⟩

theorem iblk0 (t : Fin cfg0.N) (i : Fin 512) (k : Fin 1024) :
    (iblk m c 0 t : Vec Ideal S512x1024 .f32) (ix2 i k) = (V m c main_v0 : Vec Ideal S16384x1024 .f32) (ix2 (rowOf t i) k) := by
  refine congrArg (V m c main_v0) (funext fun a => Fin.ext ?_)
  obtain ⟨h0, h1⟩ := (index_row t).1
  match a with
  | ⟨0, _⟩ => show win0_0.index t (0 : Fin 2) * 512 + 1 * i.val = 512 * t.val + i.val; omega
  | ⟨1, _⟩ => show win0_0.index t (1 : Fin 2) * 1024 + 1 * k.val = k.val; omega

theorem iblk9 (t : Fin cfg0.N) (i : Fin 512) (k : Fin 2048) :
    (iblk m c 9 t : Vec Ideal S512x2048 .bf16) (ix2 i k) = (V m c main_v1 : Vec Ideal S16384x2048 .bf16) (ix2 (rowOf t i) k) := by
  refine congrArg (V m c main_v1) (funext fun a => Fin.ext ?_)
  obtain ⟨h0, h1⟩ := (index_row t).2.1
  match a with
  | ⟨0, _⟩ => show win0_9.index t (0 : Fin 2) * 512 + 1 * i.val = 512 * t.val + i.val; omega
  | ⟨1, _⟩ => show win0_9.index t (1 : Fin 2) * 2048 + 1 * k.val = k.val; omega

theorem iblk1 (t : Fin cfg0.N) : iblk m c 1 t = V m c main_v14 := by
  refine funext fun i => congrArg (V m c main_v14) (funext fun a => Fin.ext ?_)
  obtain ⟨h0, h1⟩ := (index_whole t).1
  match a with
  | ⟨0, _⟩ => show win0_1.index t (0 : Fin 2) * 1 + 1 * (i 0).val = (i 0).val; omega
  | ⟨1, _⟩ => show win0_1.index t (1 : Fin 2) * 1024 + 1 * (i 1).val = (i 1).val; omega

theorem iblk2 (t : Fin cfg0.N) : iblk m c 2 t = V m c main_v5 := by
  refine funext fun i => congrArg (V m c main_v5) (funext fun a => Fin.ext ?_)
  obtain ⟨h0, h1⟩ := (index_whole t).2.1
  match a with
  | ⟨0, _⟩ => show win0_2.index t (0 : Fin 2) * 1024 + 1 * (i 0).val = (i 0).val; omega
  | ⟨1, _⟩ => show win0_2.index t (1 : Fin 2) * 6144 + 1 * (i 1).val = (i 1).val; omega

theorem iblk3 (t : Fin cfg0.N) : iblk m c 3 t = V m c main_v15 := by
  refine funext fun i => congrArg (V m c main_v15) (funext fun a => Fin.ext ?_)
  obtain ⟨h0, h1⟩ := (index_whole t).2.2.1
  match a with
  | ⟨0, _⟩ => show win0_3.index t (0 : Fin 2) * 1 + 1 * (i 0).val = (i 0).val; omega
  | ⟨1, _⟩ => show win0_3.index t (1 : Fin 2) * 2048 + 1 * (i 1).val = (i 1).val; omega

theorem iblk4 (t : Fin cfg0.N) : iblk m c 4 t = V m c main_v16 := by
  refine funext fun i => congrArg (V m c main_v16) (funext fun a => Fin.ext ?_)
  obtain ⟨h0, h1⟩ := (index_whole t).2.2.2.1
  match a with
  | ⟨0, _⟩ => show win0_4.index t (0 : Fin 2) * 1 + 1 * (i 0).val = (i 0).val; omega
  | ⟨1, _⟩ => show win0_4.index t (1 : Fin 2) * 2048 + 1 * (i 1).val = (i 1).val; omega

theorem iblk5 (t : Fin cfg0.N) : iblk m c 5 t = V m c main_v8 := by
  refine funext fun i => congrArg (V m c main_v8) (funext fun a => Fin.ext ?_)
  obtain ⟨h0, h1, h2⟩ := (index_whole t).2.2.2.2.1
  match a with
  | ⟨0, _⟩ => show win0_5.index t (0 : Fin 3) * 8 + 1 * (i 0).val = (i 0).val; omega
  | ⟨1, _⟩ => show win0_5.index t (1 : Fin 3) * 128 + 1 * (i 1).val = (i 1).val; omega
  | ⟨2, _⟩ => show win0_5.index t (2 : Fin 3) * 128 + 1 * (i 2).val = (i 2).val; omega

theorem iblk6 (t : Fin cfg0.N) : iblk m c 6 t = V m c main_v17 := by
  refine funext fun i => congrArg (V m c main_v17) (funext fun a => Fin.ext ?_)
  obtain ⟨h0, h1, h2⟩ := (index_whole t).2.2.2.2.2.1
  match a with
  | ⟨0, _⟩ => show win0_6.index t (0 : Fin 3) * 8 + 1 * (i 0).val = (i 0).val; omega
  | ⟨1, _⟩ => show win0_6.index t (1 : Fin 3) * 128 + 1 * (i 1).val = (i 1).val; omega
  | ⟨2, _⟩ => show win0_6.index t (2 : Fin 3) * 1 + 1 * (i 2).val = (i 2).val; omega

theorem iblk7 (t : Fin cfg0.N) : iblk m c 7 t = V m c main_v7 := by
  refine funext fun i => congrArg (V m c main_v7) (funext fun a => Fin.ext ?_)
  obtain ⟨h0, h1⟩ := (index_whole t).2.2.2.2.2.2.1
  match a with
  | ⟨0, _⟩ => show win0_7.index t (0 : Fin 2) * 2048 + 1 * (i 0).val = (i 0).val; omega
  | ⟨1, _⟩ => show win0_7.index t (1 : Fin 2) * 1024 + 1 * (i 1).val = (i 1).val; omega

theorem iblk8 (t : Fin cfg0.N) : iblk m c 8 t = V m c main_v18 := by
  refine funext fun i => congrArg (V m c main_v18) (funext fun a => Fin.ext ?_)
  obtain ⟨h0, h1⟩ := (index_whole t).2.2.2.2.2.2.2.1
  match a with
  | ⟨0, _⟩ => show win0_8.index t (0 : Fin 2) * 1 + 1 * (i 0).val = (i 0).val; omega
  | ⟨1, _⟩ => show win0_8.index t (1 : Fin 2) * 1024 + 1 * (i 1).val = (i 1).val; omega

theorem iblk10 (t : Fin cfg0.N) : iblk m c 10 t = V m c main_v3 := by
  refine funext fun i => congrArg (V m c main_v3) (funext fun a => Fin.ext ?_)
  obtain ⟨h0, h1⟩ := (index_whole t).2.2.2.2.2.2.2.2
  match a with
  | ⟨0, _⟩ => show win0_10.index t (0 : Fin 2) * 2048 + 1 * (i 0).val = (i 0).val; omega
  | ⟨1, _⟩ => show win0_10.index t (1 : Fin 2) * 1024 + 1 * (i 1).val = (i 1).val; omega

/-! ### The array -/

/-- The layer of the arguments the launch has in memory. -/
abbrev result : Vec Ideal S16384x1024 .f32 :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem weights_eq (t : Fin cfg0.N) :
    blockWeights (iblk m c 1 t) (iblk m c 2 t) (iblk m c 3 t) (iblk m c 4 t) (iblk m c 5 t) (iblk m c 6 t) (iblk m c 7 t)
      = argWeights (m ((c : Thread nD τ).loc main_arg2)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  rw [iblk1, iblk2, iblk3, iblk4, iblk5, iblk6, iblk7]
  unfold blockWeights argWeights
  rw [Weights.mk.injEq]
  exact ⟨funext (V_v14 m c), funext₂ (V_v5 m c), funext (V_v15 m c), funext (V_v16 m c),
    funext fun g => funext₂ (V_v8 m c g), funext₂ (V_v17 m c), funext₂ (V_v7 m c)⟩

theorem row_eq (t : Fin cfg0.N) (i : Fin 512) :
    blockRow (iblk m c 0 t) (iblk m c 9 t) (iblk m c 10 t) i
      = tokenRow (m ((c : Thread nD τ).loc main_arg0)) (m ((c : Thread nD τ).loc main_arg1)) (m ((c : Thread nD τ).loc main_arg4))
          ⟨(rowOf t i).val / 2048, by omega⟩ ⟨(rowOf t i).val % 2048, by omega⟩ := by
  rw [iblk10]
  unfold blockRow tokenRow
  exact congr (congr (congrArg enter (funext fun k => (iblk0 m c t i k).trans (V_v0 m c _ k)))
    (funext fun k => (iblk9 m c t i k).trans (V_v1 m c _ k))) (funext₂ (V_v3 m c))

theorem emb11 (t : Fin cfg0.N) (i : Fin 512) (j : Fin 1024) :
    ((cfg0.win 11).blk t).view.emb (ix2 i j) = (ix2 (rowOf t i) j : S16384x1024.Idx) := by
  refine funext fun a => Fin.ext ?_
  obtain ⟨h0, h1⟩ := (index_row t).2.2
  match a with
  | ⟨0, _⟩ => show win0_11.index t (0 : Fin 2) * 512 + 1 * i.val = 512 * t.val + i.val; omega
  | ⟨1, _⟩ => show win0_11.index t (1 : Fin 2) * 1024 + 1 * j.val = j.val; omega

theorem flushed_eq (t : Fin cfg0.N) :
    (dats m 0 c).flushed 11 t = ((cfg0.win 11).blk t).view.read (Elt Ideal) (result m c) := by
  rw [Cert.KernelIdeal.Value.flushed11]
  refine funext fun (y : S512x1024.Idx) => ?_
  obtain ⟨i, j, rfl⟩ : ∃ (i : Fin 512) (j : Fin 1024), y = ix2 i j :=
    ⟨y 0, y 1, funext fun a => match a with | ⟨0, _⟩ => rfl | ⟨1, _⟩ => rfl⟩
  show out0_11 (F := Ideal) _ _ _ _ _ _ _ _ _ _ _ (ix2 i j) = result m c (((cfg0.win 11).blk t).view.emb (ix2 i j))
  rw [emb11, out_apply, weights_eq, iblk8]
  have ht : t.val < 32 := Nat.lt_of_lt_of_eq t.isLt N_0
  refine congrFun (congrArg₂ rms (funext (V_v18 m c)) (congrArg₂ (after _) (funext fun s => ?_) (Fin.ext ?_))) j
  · refine (row_eq m c t _).trans (congrArg₂ (tokenRow _ _ _) (Fin.ext ?_) (Fin.ext ?_))
    · show (512 * t.val + (128 * (i.val / 128) + s.val)) / 2048 = (512 * t.val + i.val) / 2048
      omega
    · show (512 * t.val + (128 * (i.val / 128) + s.val)) % 2048 = 128 * ((512 * t.val + i.val) % 2048 / 128) + s.val
      omega
  · show i.val % 128 = (512 * t.val + i.val) % 2048 % 128
    omega

theorem cover (i : S16384x1024.Idx) : ∃ t : Fin cfg0.N, (cfg0.win 11).flush t = true ∧ i ∈ ((cfg0.win 11).blk t).view.set := by
  have h0 : (i 0).val < 16384 := (i 0).isLt
  obtain ⟨t, ht⟩ : ∃ t : Fin cfg0.N, t.val = (i 0).val / 512 :=
    ⟨⟨(i 0).val / 512, Nat.lt_of_lt_of_eq (by omega : (i 0).val / 512 < 32) N_0.symm⟩, rfl⟩
  refine ⟨t, flush0_11 t, ?_⟩
  have e : ((cfg0.win 11).blk t).view.emb (ix2 (⟨(i 0).val % 512, by omega⟩ : Fin 512) (i 1 : Fin 1024)) = i := by
    refine (emb11 t _ _).trans (funext fun a => Fin.ext ?_)
    match a with
    | ⟨0, _⟩ => show 512 * t.val + (i 0).val % 512 = (i 0).val; omega
    | ⟨1, _⟩ => rfl
  exact e ▸ View.emb_mem_set _ _

theorem final : (dats m 0 c).arrAt 11 cfg0.N = result m c :=
  (dats m 0 c).arrAt_eq_of_cover 11 (result m c) (fun t _ => flushed_eq m c t) cover

/-- The run, with the result array read. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Cert.KernelIdeal.Value.run_blocks m ρ)

end Cert.Mixer

end
-- ==== Proof.Ref.lean ====
/- The reference, stage by stage: each stage at a token is the mixer's function of that token's row, and the array is the
   layer of the arguments. -/
module

public import proofs.«01_k».proof.Proof.Layer
public import proofs.«01_k».proof.Proof.Gen.ReferenceIdeal.Read

@[expose] public section

noncomputable section

namespace Cert.Mixer

open Idealize.ShloMosaic Idealize.SL.Sem Cert.ReferenceIdeal Cert.ReferenceIdeal.Read

variable (x0 : Vec Ideal S8x2048x1024 .f32) (x1 : Vec Ideal S8x2048x2048 .bf16) (x2 : Vec Ideal S2x1024 .f32)
  (x3 : Vec Ideal S1024 .f32) (x4 : Vec Ideal S1x2048x1024 .f32) (x5 : Vec Ideal S1x1024x6144 .f32)
  (x6 x7 : Vec Ideal S1x2048 .f32) (x8 : Vec Ideal S1x8x128x128 .f32) (x9 : Vec Ideal S1x8x128 .f32)
  (x10 : Vec Ideal S1x2048x1024 .f32) (b : Fin 8) (p : Fin 2048)

theorem ref_v3 (j : Fin 1024) : val_main_v3 (F := Ideal) x0 x1 x4 (ix3 b p j) = tokenRow x0 x1 x4 b p j := by
  unfold tokenRow enter
  pointwise [val_main_v3, val_main_v2, val_main_v1, val_main_v0]

theorem ref_v18 (j : Fin 1024) : val_main_v18 (F := Ideal) x0 x1 x2 x4 (ix3 b p j) = rms (argWeights x2 x5 x6 x7 x8 x9 x10).g (tokenRow x0 x1 x4 b p) j := by
  unfold rms rmsFactor argWeights
  simp only [← ref_v3 x0 x1 x4]
  dsimp only [val_main_v18, val_main_v15, val_main_v14, val_main_v13, val_main_v12, val_main_v10, val_main_v8, val_main_v7, val_main_v6]
  generalize val_main_v3 (F := Ideal) x0 x1 x4 = y
  pointwise [val_main_v17, val_main_v16, val_main_v11,
    val_main_v9, val_main_v5, val_main_v4, val_main_cst, val_main_cst_0, val_main_cst_1]

theorem ref_v25 (j : Fin 6144) : val_main_v25 (F := Ideal) x0 x1 x2 x4 x5 (ix3 b p j) = proj (argWeights x2 x5 x6 x7 x8 x9 x10) (tokenRow x0 x1 x4 b p) j := by
  unfold proj
  simp only [← ref_v18 x0 x1 x2 x4 x5 x6 x7 x8 x9 x10]
  unfold argWeights
  dsimp only [val_main_v25]
  generalize val_main_v18 (F := Ideal) x0 x1 x2 x4 = y
  pointwise [val_main_v19]

theorem gelu_eq (x : EReal) : x * (oneHalf * (1 + Ideal.tanh (scale * (x + cubic * ((x * x) * x))))) = gelu x := by
  rw [mul_comm (x * x) x, gelu]

theorem ref_v39 (d : Fin 2048) : val_main_v39 (F := Ideal) x0 x1 x2 x4 x5 (ix3 b p d) = uRow (argWeights x2 x5 x6 x7 x8 x9 x10) (tokenRow x0 x1 x4 b p) d := by
  unfold uRow
  rw [← ref_v25 x0 x1 x2 x4, ← gelu_eq]
  dsimp only [val_main_v39, val_main_v38, val_main_v36, val_main_v34, val_main_v33, val_main_v31, val_main_v30, val_main_v28, val_main_v27, val_main_v26]
  generalize val_main_v25 (F := Ideal) x0 x1 x2 x4 x5 = y
  pointwise [val_main_v37, val_main_v35, val_main_v32, val_main_v29, val_main_cst_2, val_main_cst_3, val_main_cst_4, val_main_cst_5]

theorem ref_v53 (d : Fin 2048) : val_main_v53 (F := Ideal) x0 x1 x2 x4 x5 (ix3 b p d) = vPre (argWeights x2 x5 x6 x7 x8 x9 x10) (tokenRow x0 x1 x4 b p) d := by
  unfold vPre
  rw [← ref_v25 x0 x1 x2 x4, ← gelu_eq]
  dsimp only [val_main_v53, val_main_v52, val_main_v50, val_main_v48, val_main_v47, val_main_v45, val_main_v44, val_main_v42, val_main_v41, val_main_v40]
  generalize val_main_v25 (F := Ideal) x0 x1 x2 x4 x5 = y
  pointwise [val_main_v51, val_main_v49, val_main_v46, val_main_v43, val_main_cst_6, val_main_cst_7, val_main_cst_8, val_main_cst_9]

theorem ref_v93 (d : Fin 2048) : val_main_v93 (F := Ideal) x0 x1 x2 x4 x5 (ix3 b p d) = gate (zRow (argWeights x2 x5 x6 x7 x8 x9 x10) (tokenRow x0 x1 x4 b p) d) := by
  unfold zRow gate
  rw [← ref_v25 x0 x1 x2 x4]
  dsimp only [val_main_v93, val_main_call2_v5, val_main_call2_v3, val_main_call2_v1, val_main_call2_v0, val_main_v54]
  generalize val_main_v25 (F := Ideal) x0 x1 x2 x4 x5 = y
  pointwise [val_main_call2_v4, val_main_call2_v2, val_main_call2_cst, val_main_call2_cst_0]

theorem ref_v58 : val_main_v58 (F := Ideal) x0 x1 x2 x4 x5 (ix3 b p 0) = mean (vPre (argWeights x2 x5 x6 x7 x8 x9 x10) (tokenRow x0 x1 x4 b p)) := by
  unfold mean
  simp only [← ref_v53 x0 x1 x2 x4]
  dsimp only [val_main_v58, val_main_v56, val_main_v55]
  generalize val_main_v53 (F := Ideal) x0 x1 x2 x4 x5 = y
  pointwise [val_main_v57, val_main_cst_10, val_main_cst_11]

theorem ref_v78 (d : Fin 2048) : val_main_v78 (F := Ideal) x0 x1 x2 x4 x5 x6 x7 (ix3 b p d) = vRow (argWeights x2 x5 x6 x7 x8 x9 x10) (tokenRow x0 x1 x4 b p) d := by
  unfold vRow norm
  simp only [← ref_v58 x0 x1 x2 x4, ← ref_v53 x0 x1 x2 x4]
  unfold argWeights
  dsimp only [val_main_v78, val_main_v75, val_main_v72, val_main_v71, val_main_v70, val_main_v69, val_main_v67, val_main_v66, val_main_v65, val_main_v63,
    val_main_v62, val_main_v61, val_main_v60, val_main_v59]
  generalize val_main_v53 (F := Ideal) x0 x1 x2 x4 x5 = y
  generalize val_main_v58 (F := Ideal) x0 x1 x2 x4 x5 = z
  pointwise [val_main_v77, val_main_v76, val_main_v74, val_main_v73, val_main_v68, val_main_v64, val_main_v21, val_main_v20,
    val_main_cst_12, val_main_cst_13, val_main_cst_14]

theorem ref_mask (g : Fin 8) (t s : Fin 128) : val_main_v84 (F := Ideal) x8 (ix3 g t s)
    = if s.val ≤ t.val then (argWeights x2 x5 x6 x7 x8 x9 x10).ws g t s else 0 := by
  unfold argWeights
  pointwise [val_main_v84, val_main_v83, val_main_v82, val_main_v81, val_main_v80, val_main_v22, val_main_c, val_main_cst_15,
    val_main_call0_v0, val_main_call0_c, val_main_call0_v1, val_main_call0_v2, val_main_call0_v3, val_main_call0_v4,
    val_main_call0_c_0, val_main_call0_v5, val_main_call1_v0]
  have ht : (BitVec.ofNat 32 t.val).toInt = t.val := by
    rw [BitVec.toInt_ofNat', Int.bmod_def]; omega
  have hs : (BitVec.ofNat 32 s.val).toInt = s.val := by
    rw [BitVec.toInt_ofNat', Int.bmod_def]; omega
  have e : IntOp.cmpi CmpIPredicate.sge (IntOp.addi (BitVec.ofNat 32 t.val) 0#32) (BitVec.ofNat 32 s.val)
      = BitVec.ofBool (decide (s.val ≤ t.val)) := by
    simp [IntOp.cmpi, IntOp.addi, BitVec.sle, ht, hs]
  rw [e]
  by_cases h : s.val ≤ t.val <;> simp [h, Scalar.select]

/-- The mixed block before its re-layout: chunk `h`, token `t` of it, group `g`, column `e` of the group. -/
theorem ref_v90 (h : Fin 16) (t : Fin 128) (g : Fin 8) (e : Fin 256) :
    val_main_v90 (F := Ideal) x0 x1 x2 x4 x5 x6 x7 x8 x9 (ix5 b h t g e)
      = (∑ s : Fin 128, val_main_v78 (F := Ideal) x0 x1 x2 x4 x5 x6 x7 (ix3 b ⟨h.val * 128 + s.val, by omega⟩ ⟨g.val * 256 + e.val, by omega⟩)
            * val_main_v84 (F := Ideal) x8 (ix3 g t s)) + x9 (ix3 0 g t) := by
  dsimp only [val_main_v90, val_main_v86, val_main_v85, val_main_v79]
  generalize val_main_v78 (F := Ideal) x0 x1 x2 x4 x5 x6 x7 = y
  generalize val_main_v84 (F := Ideal) x8 = w
  pointwise [val_main_v89, val_main_v88, val_main_v87, val_main_v23]

/-- The mixed block, at a token and a column. -/
theorem ref_v91 (d : Fin 2048) : val_main_v91 (F := Ideal) x0 x1 x2 x4 x5 x6 x7 x8 x9 (ix3 b p d)
    = mixed (argWeights x2 x5 x6 x7 x8 x9 x10)
        (fun s => vRow (argWeights x2 x5 x6 x7 x8 x9 x10) (tokenRow x0 x1 x4 b ⟨128 * (p.val / 128) + s.val, by omega⟩))
        ⟨p.val % 128, by omega⟩ d := by
  have e : val_main_v91 (F := Ideal) x0 x1 x2 x4 x5 x6 x7 x8 x9 (ix3 b p d)
      = val_main_v90 (F := Ideal) x0 x1 x2 x4 x5 x6 x7 x8 x9 (ix5 b (⟨p.val / 128, by omega⟩ : Fin 16)
          (⟨p.val % 128, by omega⟩ : Fin 128) (⟨d.val / 256, by omega⟩ : Fin 8) (⟨d.val % 256, by omega⟩ : Fin 256)) := by
    dsimp only [val_main_v91]
    generalize val_main_v90 (F := Ideal) x0 x1 x2 x4 x5 x6 x7 x8 x9 = y
    pointwise
  rw [e, ref_v90]
  unfold mixed
  refine congrArg₂ (· + ·) (Finset.sum_congr rfl fun s _ => ?_) rfl
  rw [ref_v78 x0 x1 x2 x4 x5 x6 x7 x8 x9 x10, ref_mask x2 x5 x6 x7 x8 x9 x10, mul_comm]
  have h₁ : p.val / 128 * 128 + s.val = 128 * (p.val / 128) + s.val := by omega
  have h₂ : d.val / 256 * 256 + d.val % 256 = d.val := by omega
  simp only [h₁, h₂]

/-- A token's row after the mixer. -/
theorem ref_v96 (j : Fin 1024) : val_main_v96 (F := Ideal) x0 x1 x2 x4 x5 x6 x7 x8 x9 x10 (ix3 b p j)
    = after (argWeights x2 x5 x6 x7 x8 x9 x10) (fun s => tokenRow x0 x1 x4 b ⟨128 * (p.val / 128) + s.val, by omega⟩)
        ⟨p.val % 128, by omega⟩ j := by
  have hp : (⟨128 * (p.val / 128) + p.val % 128, by omega⟩ : Fin 2048) = p := Fin.ext (by show 128 * (p.val / 128) + p.val % 128 = p.val; omega)
  unfold after gated
  simp only [hp, ← ref_v3 x0 x1 x4, ← ref_v39 x0 x1 x2 x4, ← ref_v91 x0 x1 x2 x4, ← ref_v93 x0 x1 x2 x4]
  unfold argWeights
  dsimp only [val_main_v96, val_main_v95, val_main_v94, val_main_v92]
  generalize val_main_v3 (F := Ideal) x0 x1 x4 = y₀
  generalize val_main_v39 (F := Ideal) x0 x1 x2 x4 x5 = y₁
  generalize val_main_v91 (F := Ideal) x0 x1 x2 x4 x5 x6 x7 x8 x9 = y₂
  generalize val_main_v93 (F := Ideal) x0 x1 x2 x4 x5 = y₃
  pointwise [val_main_v24]

theorem ref_v109 (j : Fin 1024) : val_main_v109 (F := Ideal) x0 x1 x2 x3 x4 x5 x6 x7 x8 x9 x10 (ix3 b p j)
    = tokenOut x0 x1 x2 x3 x4 x5 x6 x7 x8 x9 x10 b p j := by
  unfold tokenOut rms rmsFactor
  simp only [← ref_v96 x0 x1 x2 x4]
  dsimp only [val_main_v109, val_main_v106, val_main_v105, val_main_v104, val_main_v103, val_main_v101, val_main_v99, val_main_v98, val_main_v97]
  generalize val_main_v96 (F := Ideal) x0 x1 x2 x4 x5 x6 x7 x8 x9 x10 = y
  pointwise [val_main_v108, val_main_v107, val_main_v102, val_main_v100, val_main_cst_16, val_main_cst_17, val_main_cst_18]

/-- The reference's array is the layer of its arguments. -/
theorem ref_layer : val_main_v110 (F := Ideal) x0 x1 x2 x3 x4 x5 x6 x7 x8 x9 x10 = layer x0 x1 x2 x3 x4 x5 x6 x7 x8 x9 x10 := by
  refine funext fun (y : S16384x1024.Idx) => ?_
  obtain ⟨n, j, rfl⟩ : ∃ (n : Fin 16384) (j : Fin 1024), y = ix2 n j :=
    ⟨y 0, y 1, funext fun a => match a with | ⟨0, _⟩ => rfl | ⟨1, _⟩ => rfl⟩
  have e : val_main_v110 (F := Ideal) x0 x1 x2 x3 x4 x5 x6 x7 x8 x9 x10 (ix2 n j)
      = val_main_v109 (F := Ideal) x0 x1 x2 x3 x4 x5 x6 x7 x8 x9 x10
          (ix3 (⟨n.val / 2048, by omega⟩ : Fin 8) (⟨n.val % 2048, by omega⟩ : Fin 2048) j) := by
    dsimp only [val_main_v110]
    generalize val_main_v109 (F := Ideal) x0 x1 x2 x3 x4 x5 x6 x7 x8 x9 x10 = z
    pointwise
  rw [e, ref_v109]
  rfl

/-- The reference's run, with its array read. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans
    ((val_main_v110_eq (F := Ideal) (StableHlo.launchContents m c)).trans (ref_layer _ _ _ _ _ _ _ _ _ _ _)), (h c).2⟩)
    (Cert.ReferenceIdeal.Value.run (F := Ideal) m ρ)

end Cert.Mixer

end
-- ==== Proof.NormProj.Block.lean ====
/- The sample's projection call, one point at a time: the scratch holds the RMS-normalised rows from the first point on, and
   each point writes the product of those rows with its columns of the weights. -/
module

public import proofs.«01_k».proof.Proof.Spec
public import proofs.«01_k».proof.Proof.Gen.Kernel2Ideal.Frame
public import Idealize.ShloMosaic.Lib.Pointwise
public import Idealize.ShloMosaic.Lib.VecWindow

@[expose] public section

noncomputable section

namespace Cert.NormProj

open Idealize.ShloMosaic Idealize.ShloMosaic.TcCoe Idealize.SL.Sem Cert.Kernel2Ideal Cert.Kernel2Ideal.Gen
open Cert.Mixer (rms rmsFactor)

theorem normed_apply (x : Vec Ideal S512x1024 .f32) (g : Vec Ideal S1x1024 .f32) (i : Fin 512) (k : Fin 1024) :
    k0_pay1 (F := Ideal) x g (ix2 i k) = rms (fun j => g (ix2 0 j)) (fun j => x (ix2 i j)) k := by
  pointwise [k0_pay1, rms, rmsFactor]

theorem product_apply (w : Vec Ideal S1024x1664 .f32) (h : Vec Ideal S512x1024 .bf16) (i : Fin 512) (j : Fin 1664) :
    k0_pay3 (F := Ideal) w h (ix2 i j) = ∑ k : Fin 1024, h (ix2 i k) * w (ix2 k j) := by
  pointwise [k0_pay3, k0_pay2]

variable (m : (ℓ : Loc nD τ sig) → Buf (Elt Ideal) ℓ) (c : Dev nD)

/-- The first point leaves the normalised rows in the scratch. -/
theorem scratch_first (t : Fin cfg0.N) (h0 : t.val % 5 = 0) :
    (outsAt0 m c t.val t.isLt).2.2 = k0_pay1 (F := Ideal) (iblk m c 0 t) (iblk m c 1 t) := by
  rw [outsAt0_A m c t h0]
  dsimp only
  unfold sout0_A_0 kernelRun0_A
  dsimp only
  unfold kernelRun0_A.sl.HS0_1
  refine (View.read_writes_full _ _ _ _ _).trans (congrArg₂ _ ?_ ?_)
  · exact (View.readAt_full _ _ _).trans (Memref.IsWhole.read_unread _ _)
  · exact (View.readAt_full _ _ _).trans (Memref.IsWhole.read_unread _ _)

/-- A later point leaves the scratch as it found it. -/
theorem scratch_later (t : Fin cfg0.N) (h0 : ¬ t.val % 5 = 0) :
    (outsAt0 m c t.val t.isLt).2.2 = (outsAt0 m c (t.val - 1) (Nat.lt_of_le_of_lt (Nat.sub_le _ _) t.isLt)).2.2 := by
  rw [outsAt0_B m c t h0]
  rfl

theorem product_first (t : Fin cfg0.N) (h0 : t.val % 5 = 0) :
    (outsAt0 m c t.val t.isLt).1 = k0_pay3 (F := Ideal) (iblk m c 2 t) (outsAt0 m c t.val t.isLt).2.2 := by
  rw [scratch_first m c t h0, outsAt0_A m c t h0]
  dsimp only
  unfold out0_A_3 kernelRun0_A
  dsimp only
  unfold kernelRun0_A.sl.v7 kernelRun0_A.sl.HS0_1
  refine (View.read_writes_full _ _ _ _ _).trans (congrArg₂ _ ?_ ((View.readCov_full _ _ _ _ _).trans (congrArg₂ _ ?_ ?_)))
  · exact (View.readAt_full _ _ _).trans (Memref.IsWhole.read_unread _ _)
  · exact (View.readAt_full _ _ _).trans (Memref.IsWhole.read_unread _ _)
  · exact (View.readAt_full _ _ _).trans (Memref.IsWhole.read_unread _ _)

theorem product_later (t : Fin cfg0.N) (h0 : ¬ t.val % 5 = 0) :
    (outsAt0 m c t.val t.isLt).1 = k0_pay3 (F := Ideal) (iblk m c 2 t) (outsAt0 m c t.val t.isLt).2.2 := by
  rw [scratch_later m c t h0, outsAt0_B m c t h0]
  dsimp only
  unfold out0_B_3 kernelRun0_B
  dsimp only
  refine (View.read_writes_full _ _ _ _ _).trans (congrArg₂ _ ?_ ?_)
  · exact (View.readAt_full _ _ _).trans (Memref.IsWhole.read_unread _ _)
  · exact (View.readAt_full _ _ _).trans (Memref.IsWhole.read_unread _ _)

/-- Every point writes the product of the scratch with its columns. -/
theorem product_eq (t : Fin cfg0.N) :
    (outsAt0 m c t.val t.isLt).1 = k0_pay3 (F := Ideal) (iblk m c 2 t) (outsAt0 m c t.val t.isLt).2.2 :=
  if h0 : t.val % 5 = 0 then product_first m c t h0 else product_later m c t h0

/-- The scratch at every point, by induction over the points. -/
theorem scratch_eq (z : Fin cfg0.N) (hz : z.val = 0) : ∀ (n : ℕ) (hn : n < cfg0.N),
    (outsAt0 m c n hn).2.2 = k0_pay1 (F := Ideal) (iblk m c 0 z) (iblk m c 1 z)
  | 0, hn => by
    obtain rfl : z = ⟨0, hn⟩ := Fin.ext hz
    exact scratch_first m c ⟨0, hn⟩ rfl
  | n + 1, hn => by
    have h : n + 1 < 5 := Nat.lt_of_lt_of_eq hn N_0
    exact (scratch_later m c ⟨n + 1, hn⟩ (by show ¬ (n + 1) % 5 = 0; omega)).trans (scratch_eq z hz n _)

end Cert.NormProj

end
-- ==== Proof.NormProj.Array.lean ====
/- What the projection call's array holds after the grid's five points: every token's normalised row times the weights, the
   tokens laid out time by time. -/
module

public import proofs.«01_k».proof.Proof.NormProj.Block

@[expose] public section

noncomputable section

namespace Cert.NormProj

open Idealize.ShloMosaic Idealize.ShloMosaic.TcCoe Idealize.SL.Sem Cert.Kernel2Ideal Cert.Kernel2Ideal.Gen
open Cert.Mixer (rms rmsFactor)

/-- Token `t` of sequence `b`, RMS-normalised with the first scale and projected to column `j`. -/
def project (x : Vec Ideal S128x4x1024 .f32) (g : Vec Ideal S2x1024 .f32) (w : Vec Ideal S1x1024x8320 .f32)
    (b : Fin 128) (t : Fin 4) (j : Fin 8320) : EReal :=
  ∑ k : Fin 1024, rms (fun k => g (ix2 0 k)) (fun k => x (ix3 b t k)) k * w (ix3 0 k j)

/-- All tokens, the row of token `t` of sequence `b` at `128 * t + b`. -/
def rows (x : Vec Ideal S128x4x1024 .f32) (g : Vec Ideal S2x1024 .f32) (w : Vec Ideal S1x1024x8320 .f32) : Vec Ideal S512x8320 .f32 :=
  fun i => project x g w ⟨(i 0).val % 128, Nat.mod_lt _ (by omega)⟩ ⟨(i 0).val / 128, by have : (i 0).val < 512 := (i 0).isLt; omega⟩ (i 1)

variable (m : (ℓ : Loc nD τ sig) → Buf (Elt Ideal) ℓ) (c : Dev nD)

theorem V_v1 (i : Fin 512) (k : Fin 1024) :
    (V m c main_v1 : Vec Ideal S512x1024 .f32) (ix2 i k)
      = (m ((c : Thread nD τ).loc main_arg0) : Vec Ideal S128x4x1024 .f32) (ix3 ⟨i.val % 128, by omega⟩ ⟨i.val / 128, by omega⟩ k) := by
  unfold V V0; simp only [hostOps0, List.flatten_cons, List.flatten_nil, List.append_nil]; after_results_simp
  generalize m (c, main_arg0) = a
  pointwise

theorem V_v5 (k : Fin 1024) :
    (V m c main_v5 : Vec Ideal S1x1024 .f32) (ix2 0 k) = (m ((c : Thread nD τ).loc main_arg1) : Vec Ideal S2x1024 .f32) (ix2 0 k) := by
  unfold V V0; simp only [hostOps0, List.flatten_cons, List.flatten_nil, List.append_nil]; after_results_simp
  generalize m (c, main_arg1) = a
  pointwise

theorem V_v4 (k : Fin 1024) (j : Fin 8320) :
    (V m c main_v4 : Vec Ideal S1024x8320 .f32) (ix2 k j) = (m ((c : Thread nD τ).loc main_arg2) : Vec Ideal S1x1024x8320 .f32) (ix3 0 k j) := by
  unfold V V0; simp only [hostOps0, List.flatten_cons, List.flatten_nil, List.append_nil]; after_results_simp
  generalize m (c, main_arg2) = a
  pointwise

/-! ### The windows' blocks -/

theorem index_eq : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

/-- The array column that block column `j` of point `t` is. -/
abbrev colOf (t : Fin cfg0.N) (j : Fin 1664) : Fin 8320 :=
  ⟨1664 * t.val + j.val, by have : t.val < 5 := Nat.lt_of_lt_of_eq t.isLt N_0; omega⟩

theorem iblk0 (t : Fin cfg0.N) : iblk m c 0 t = V m c main_v1 := by
  refine funext fun i => congrArg (V m c main_v1) (funext fun a => Fin.ext ?_)
  obtain ⟨h0, h1⟩ := (index_eq t).1
  match a with
  | ⟨0, _⟩ => show win0_0.index t (0 : Fin 2) * 512 + 1 * (i 0).val = (i 0).val; omega
  | ⟨1, _⟩ => show win0_0.index t (1 : Fin 2) * 1024 + 1 * (i 1).val = (i 1).val; omega

theorem iblk1 (t : Fin cfg0.N) : iblk m c 1 t = V m c main_v5 := by
  refine funext fun i => congrArg (V m c main_v5) (funext fun a => Fin.ext ?_)
  obtain ⟨h0, h1⟩ := (index_eq t).2.1
  match a with
  | ⟨0, _⟩ => show win0_1.index t (0 : Fin 2) * 1 + 1 * (i 0).val = (i 0).val; omega
  | ⟨1, _⟩ => show win0_1.index t (1 : Fin 2) * 1024 + 1 * (i 1).val = (i 1).val; omega

theorem iblk2 (t : Fin cfg0.N) (k : Fin 1024) (j : Fin 1664) :
    (iblk m c 2 t : Vec Ideal S1024x1664 .f32) (ix2 k j) = (V m c main_v4 : Vec Ideal S1024x8320 .f32) (ix2 k (colOf t j)) := by
  refine congrArg (V m c main_v4) (funext fun a => Fin.ext ?_)
  obtain ⟨h0, h1⟩ := (index_eq t).2.2.1
  match a with
  | ⟨0, _⟩ => show win0_2.index t (0 : Fin 2) * 1024 + 1 * k.val = k.val; omega
  | ⟨1, _⟩ => show win0_2.index t (1 : Fin 2) * 1664 + 1 * j.val = 1664 * t.val + j.val; omega

theorem emb3 (t : Fin cfg0.N) (i : Fin 512) (j : Fin 1664) :
    ((cfg0.win 3).blk t).view.emb (ix2 i j) = (ix2 i (colOf t j) : S512x8320.Idx) := by
  refine funext fun a => Fin.ext ?_
  obtain ⟨h0, h1⟩ := (index_eq t).2.2.2
  match a with
  | ⟨0, _⟩ => show win0_3.index t (0 : Fin 2) * 512 + 1 * i.val = i.val; omega
  | ⟨1, _⟩ => show win0_3.index t (1 : Fin 2) * 1664 + 1 * j.val = 1664 * t.val + j.val; omega

/-! ### The array -/

/-- The projection of the arguments the launch has in memory. -/
abbrev result : Vec Ideal S512x8320 .f32 :=
  rows (m ((c : Thread nD τ).loc main_arg0)) (m ((c : Thread nD τ).loc main_arg1)) (m ((c : Thread nD τ).loc main_arg2))

theorem out_apply (t : Fin cfg0.N) (i : Fin 512) (j : Fin 1664) :
    ((outsAt0 m c t.val t.isLt).1 : Vec Ideal S512x1664 .f32) (ix2 i j) = result m c (ix2 i (colOf t j)) := by
  obtain ⟨z, hz⟩ : ∃ z : Fin cfg0.N, z.val = 0 := ⟨⟨0, Nat.lt_of_lt_of_eq (by omega : 0 < 5) N_0.symm⟩, rfl⟩
  rw [product_eq, scratch_eq m c z hz, product_apply, iblk0, iblk1]
  refine Finset.sum_congr rfl fun k _ => congrArg₂ _ ((normed_apply _ _ i k).trans ?_) ((iblk2 m c t k j).trans (V_v4 m c k _))
  exact congrFun (congrArg₂ rms (funext (V_v5 m c)) (funext (V_v1 m c i))) k

theorem flushed_eq (t : Fin cfg0.N) :
    (dats m 0 c).flushed 3 t = ((cfg0.win 3).blk t).view.read (Elt Ideal) (result m c) := by
  show (cfg0.win 3).cut _ ((dats m 0 c).after 3 t) = _
  rw [after0_3]
  refine funext fun (y : S512x1664.Idx) => ?_
  obtain ⟨i, j, rfl⟩ : ∃ (i : Fin 512) (j : Fin 1664), y = ix2 i j :=
    ⟨y 0, y 1, funext fun a => match a with | ⟨0, _⟩ => rfl | ⟨1, _⟩ => rfl⟩
  show ((outsAt0 m c t.val t.isLt).1 : Vec Ideal S512x1664 .f32) (ix2 i j) = result m c (((cfg0.win 3).blk t).view.emb (ix2 i j))
  rw [emb3, out_apply]

theorem cover (i : S512x8320.Idx) : ∃ t : Fin cfg0.N, (cfg0.win 3).flush t = true ∧ i ∈ ((cfg0.win 3).blk t).view.set := by
  have h1 : (i 1).val < 8320 := (i 1).isLt
  obtain ⟨t, ht⟩ : ∃ t : Fin cfg0.N, t.val = (i 1).val / 1664 :=
    ⟨⟨(i 1).val / 1664, Nat.lt_of_lt_of_eq (by omega : (i 1).val / 1664 < 5) N_0.symm⟩, rfl⟩
  refine ⟨t, flush0_3 t, ?_⟩
  have e : ((cfg0.win 3).blk t).view.emb (ix2 (i 0 : Fin 512) (⟨(i 1).val % 1664, by omega⟩ : Fin 1664)) = i := by
    refine (emb3 t _ _).trans (funext fun a => Fin.ext ?_)
    match a with
    | ⟨0, _⟩ => rfl
    | ⟨1, _⟩ => show 1664 * t.val + (i 1).val % 1664 = (i 1).val; omega
  exact e ▸ View.emb_mem_set _ _

theorem final : (dats m 0 c).arrAt 3 cfg0.N = result m c :=
  (dats m 0 c).arrAt_eq_of_cover 3 (result m c) (fun t _ => flushed_eq m c t) cover

end Cert.NormProj

end
-- ==== Proof.NormProj.Tail.lean ====
/- The projection call's run: the two arrays the host lines after the region leave, read from the call's array. -/
module

public import proofs.«01_k».proof.Proof.NormProj.Array

@[expose] public section

noncomputable section

namespace Cert.NormProj

open Idealize.ShloMosaic Idealize.ShloMosaic.TcCoe Idealize.SL.Sem Cert.Kernel2Ideal Cert.Kernel2Ideal.Gen

/-- The projection, time by time. -/
def byTime (x : Vec Ideal S128x4x1024 .f32) (g : Vec Ideal S2x1024 .f32) (w : Vec Ideal S1x1024x8320 .f32) : Vec Ideal S4x128x8320 .f32 :=
  fun i => project x g w (i 1) (i 0) (i 2)

/-- The mixed half of the last token's projection, which the next call starts from. -/
def lastShift (x : Vec Ideal S128x4x1024 .f32) (g : Vec Ideal S2x1024 .f32) (w : Vec Ideal S1x1024x8320 .f32) : Vec Ideal S1x128x6272 .f32 :=
  fun i => project x g w (i 1) 3 ⟨(i 2).val, Nat.lt_trans (i 2).isLt (by decide)⟩

variable (m : (ℓ : Loc nD τ sig) → Buf (Elt Ideal) ℓ) (ρ : Dev nD → PrngReg) (c : Dev nD)

/-- The launch's arguments, projected. -/
abbrev result7 : Vec Ideal S4x128x8320 .f32 :=
  byTime (m ((c : Thread nD τ).loc main_arg0)) (m ((c : Thread nD τ).loc main_arg1)) (m ((c : Thread nD τ).loc main_arg2))

abbrev result10 : Vec Ideal S1x128x6272 .f32 :=
  lastShift (m ((c : Thread nD τ).loc main_arg0)) (m ((c : Thread nD τ).loc main_arg1)) (m ((c : Thread nD τ).loc main_arg2))

/-- The call's array, as the lines after the region find it. -/
theorem exit_array : Pipeline.withArrays (cfgs 0).spec c (V0 m c) (fun w => (dats m 0 c).arrAt w (cfgs 0).N) (Proc.devRef .tc main_v6_0) = result m c :=
  (Pipeline.withArrays_arr (cfgs 0).spec (by decide) c (V0 m c) _ 3).trans (final m c)

/-- The array's row of token `t` of sequence `b`. -/
theorem result_row (t : Fin 4) (b : Fin 128) (j : Fin 8320) :
    result m c (ix2 (⟨t.val * 128 + b.val, by omega⟩ : Fin 512) j)
      = project (m ((c : Thread nD τ).loc main_arg0)) (m ((c : Thread nD τ).loc main_arg1)) (m ((c : Thread nD τ).loc main_arg2)) b t j := by
  refine congrArg₂ (fun b t => project _ _ _ b t j) (Fin.ext ?_) (Fin.ext ?_)
  · show (t.val * 128 + b.val) % 128 = b.val
    omega
  · show (t.val * 128 + b.val) / 128 = t.val
    omega

theorem tail7 : Pipeline.afterTail₀ cfgs (dats m) 0 (V0 m) [hostOps1] c main_v7 = result7 m c := by
  have h := exit_array m c
  unfold Pipeline.afterTail₀
  revert h
  generalize Pipeline.withArrays (cfgs 0).spec c (V0 m c) (fun w => (dats m 0 c).arrAt w (cfgs 0).N) = W
  intro h
  simp only [hostOps1, List.flatten_cons, List.flatten_nil, List.append_nil]; after_results_simp
  rw [h]
  refine funext fun (y : S4x128x8320.Idx) => ?_
  obtain ⟨t, b, j, rfl⟩ : ∃ (t : Fin 4) (b : Fin 128) (j : Fin 8320), y = ix3 t b j :=
    ⟨y 0, y 1, y 2, funext fun a => match a with | ⟨0, _⟩ => rfl | ⟨1, _⟩ => rfl | ⟨2, _⟩ => rfl⟩
  refine Eq.trans ?_ (result_row m c t b j)
  generalize result m c = z
  pointwise

theorem tail10 : Pipeline.afterTail₀ cfgs (dats m) 0 (V0 m) [hostOps1] c main_v10 = result10 m c := by
  have h := exit_array m c
  unfold Pipeline.afterTail₀
  revert h
  generalize Pipeline.withArrays (cfgs 0).spec c (V0 m c) (fun w => (dats m 0 c).arrAt w (cfgs 0).N) = W
  intro h
  simp only [hostOps1, List.flatten_cons, List.flatten_nil, List.append_nil]; after_results_simp
  rw [h]
  refine funext fun (y : S1x128x6272.Idx) => ?_
  obtain ⟨a, b, j, rfl⟩ : ∃ (a : Fin 1) (b : Fin 128) (j : Fin 6272), y = ix3 a b j :=
    ⟨y 0, y 1, y 2, funext fun a => match a with | ⟨0, _⟩ => rfl | ⟨1, _⟩ => rfl | ⟨2, _⟩ => rfl⟩
  refine Eq.trans ?_ (result_row m c 3 b ⟨j.val, by omega⟩)
  generalize result m c = z
  pointwise

/-- The run, with both arrays read. -/
theorem run : θ_run defs (onTc (τ := τ) (main (F := Ideal))) ⟨m, fun _ => 0, ρ⟩ fun r => ∀ c : Dev nD,
      r.2.mem ((c : Thread nD τ).loc main_v7) = result7 m c
      ∧ r.2.mem ((c : Thread nD τ).loc main_v10) = result10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v7 (Pipeline.mem_restRefs_of main_v7 (by decide) (by decide))).trans (tail7 m c),
      ((h.1 c).2 main_v10 (Pipeline.mem_restRefs_of main_v10 (by decide) (by decide))).trans (tail10 m c), h.2 c⟩)
    (θ_run_and (run_main m ρ) (unchanged m ρ))

end Cert.NormProj

end
-- ==== Proof.NormProj.Ref.lean ====
/- The projection's reference: its two arrays are the same functions of the arguments. -/
module

public import proofs.«01_k».proof.Proof.NormProj.Tail
public import proofs.«01_k».proof.Proof.Gen.Reference2Ideal.Read

@[expose] public section

noncomputable section

namespace Cert.NormProj

open Idealize.ShloMosaic Idealize.SL.Sem Cert.Reference2Ideal Cert.Reference2Ideal.Read
open Cert.Mixer (rms rmsFactor)

variable (x0 : Vec Ideal S128x4x1024 .f32) (x1 : Vec Ideal S2x1024 .f32) (x2 : Vec Ideal S1x1024x8320 .f32)

theorem ref_v14 (b : Fin 128) (t : Fin 4) (j : Fin 1024) :
    val_main_v14 (F := Ideal) x0 x1 (ix3 b t j) = rms (fun k => x1 (ix2 0 k)) (fun k => x0 (ix3 b t k)) j := by
  unfold rms rmsFactor
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem ref_v16 (b : Fin 128) (t : Fin 4) (j : Fin 8320) :
    val_main_v16 (F := Ideal) x0 x1 x2 (ix3 b t j) = project x0 x1 x2 b t j := by
  unfold project
  simp only [← ref_v14]
  dsimp only [val_main_v16]
  generalize val_main_v14 (F := Ideal) x0 x1 = y
  pointwise [val_main_v15]

theorem ref_v18 : val_main_v18 (F := Ideal) x0 x1 x2 = byTime x0 x1 x2 := by
  refine funext fun (y : S4x128x8320.Idx) => ?_
  obtain ⟨t, b, j, rfl⟩ : ∃ (t : Fin 4) (b : Fin 128) (j : Fin 8320), y = ix3 t b j :=
    ⟨y 0, y 1, y 2, funext fun a => match a with | ⟨0, _⟩ => rfl | ⟨1, _⟩ => rfl | ⟨2, _⟩ => rfl⟩
  refine Eq.trans ?_ (ref_v16 x0 x1 x2 b t j)
  dsimp only [val_main_v18]
  generalize val_main_v16 (F := Ideal) x0 x1 x2 = z
  pointwise

theorem ref_v21 : val_main_v21 (F := Ideal) x0 x1 x2 = lastShift x0 x1 x2 := by
  refine funext fun (y : S1x128x6272.Idx) => ?_
  obtain ⟨a, b, j, rfl⟩ : ∃ (a : Fin 1) (b : Fin 128) (j : Fin 6272), y = ix3 a b j :=
    ⟨y 0, y 1, y 2, funext fun a => match a with | ⟨0, _⟩ => rfl | ⟨1, _⟩ => rfl | ⟨2, _⟩ => rfl⟩
  refine Eq.trans ?_ (ref_v16 x0 x1 x2 b 3 ⟨j.val, by omega⟩)
  dsimp only [val_main_v21, val_main_v20, val_main_v19, val_main_v17]
  generalize val_main_v16 (F := Ideal) x0 x1 x2 = z
  pointwise

/-- The reference's run, with both arrays read. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = byTime (m ((c.tc : Thread nD τ).loc main_arg0)) (m ((c.tc : Thread nD τ).loc main_arg1)) (m ((c.tc : Thread nD τ).loc main_arg2))
      ∧ r.2.mem ((c.tc : Thread nD τ).loc main_v21)
        = lastShift (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v18_eq (F := Ideal) _ _ _).trans (ref_v18 _ _ _)),
      (h c).2.1.trans ((val_main_v21_eq (F := Ideal) _ _ _).trans (ref_v21 _ _ _)), (h c).2.2⟩)
    (Cert.Reference2Ideal.Value.run (F := Ideal) m ρ)

end Cert.NormProj

end
-- ==== Proof.Sample.Rows.lean ====
/- What the sample's body computes row by row before the mixing, each an entry of the block read at a row and a column. -/
module

public import proofs.«01_k».proof.Proof.Spec
public import proofs.«01_k».proof.Proof.Gen.Kernel3Ideal.Skeleton
public import Idealize.ShloMosaic.Lib.Pointwise

@[expose] public section

noncomputable section

namespace Cert.Sample

open Idealize.ShloMosaic Cert.Mixer Cert.Kernel3Ideal Cert.Kernel3Ideal.Gen

variable (x : Vec Ideal S256x1024 .f32) (s : Vec Ideal S1x1024 .f32) (w : Vec Ideal S1024x6144 .bf16)

theorem rows_apply (i : Fin 256) (j : Fin 1024) : k0_pay2 (F := Ideal) x (ix2 i j) = x (ix2 i j) := by
  pointwise [k0_pay2]

/-- The projection block. -/
theorem proj_entry (i : Fin 256) (c : Fin 6144) :
    k0_pay3 (F := Ideal) x s w (ix2 i c)
      = ∑ k, rms (fun j => s (ix2 0 j)) (fun j => x (ix2 i j)) k * w (ix2 k c) := by
  pointwise [k0_pay3, k0_pay2, rms, rmsFactor]

/-- Its first third, through the Gaussian unit. -/
theorem first_entry (i : Fin 256) (d : Fin 2048) :
    k0_pay4 (F := Ideal) x s w (ix2 i d) = gelu (k0_pay3 (F := Ideal) x s w (ix2 i ⟨d.val, by omega⟩)) := by
  pointwise [k0_pay4, gelu]

/-- Its last third. -/
theorem last_entry (p : FVec Ideal S256x6144 .f32) (i : Fin 256) (d : Fin 2048) :
    k0_pay7 (F := Ideal) p (ix2 i d) = p (ix2 i ⟨4096 + d.val, by omega⟩) := by
  pointwise [k0_pay7]

/-- The second third, before the Gaussian unit and as the tanh inside it. -/
theorem second_entry (i : Fin 256) (d : Fin 2048) :
    k0_pay5 (F := Ideal) x s w (ix2 i d) = k0_pay3 (F := Ideal) x s w (ix2 i ⟨2048 + d.val, by omega⟩) := by
  pointwise [k0_pay5]

theorem tanh_entry (i : Fin 256) (d : Fin 2048) :
    k0_pay6 (F := Ideal) x s w (ix2 i d)
      = (fun y : EReal => Ideal.tanh (scale * (y + cubic * (y * (y * y))))) (k0_pay5 (F := Ideal) x s w (ix2 i d)) := by
  pointwise [k0_pay6]

/-- The layer norm of the second third. -/
theorem norm_entry (y h : FVec Ideal S256x2048 .f32) (g b : Vec Ideal S1x2048 .f32) (i : Fin 256) (d : Fin 2048) :
    k0_pay8 (F := Ideal) y h g b (ix2 i d)
      = norm (fun d => g (ix2 0 d)) (fun d => b (ix2 0 d)) (fun d => y (ix2 i d) * (oneHalf * (1 + h (ix2 i d)))) d := by
  pointwise [k0_pay8, Mixer.norm, mean]

theorem cast_entry (y h : FVec Ideal S256x2048 .f32) (g b : Vec Ideal S1x2048 .f32) (i : Fin 256) (d : Fin 2048) :
    k0_pay9 (F := Ideal) y h g b (ix2 i d) = k0_pay8 (F := Ideal) y h g b (ix2 i d) := by
  dsimp only [k0_pay9]
  generalize k0_pay8 (F := Ideal) y h g b = z
  pointwise

end Cert.Sample

end
-- ==== Proof.Sample.Mixing.lean ====
/- The mixing of the sample's body: sixteen products, each of one chunk of 128 rows in one group of 256 columns, laid side
   by side and one under another. -/
module

public import proofs.«01_k».proof.Proof.Mixing
public import proofs.«01_k».proof.Proof.Gen.Kernel3Ideal.Frame

@[expose] public section

noncomputable section

namespace Cert.Sample

open Idealize.ShloMosaic Cert.Mixer Cert.Kernel3Ideal Cert.Kernel3Ideal.Gen

variable (v : FVec Ideal S256x2048 .bf16) (w : Vec Ideal S8x128x128 .f32) (b : Vec Ideal S8x128x1 .f32)

theorem slicesOf (c : Fin 2) (g : Fin 8) : S256x2048.Slices ![128 * c.val, 256 * g.val] S128x256 := by
  revert c g; decide

/-- The mixing of chunk `c` in group `g`. -/
def tile (c : Fin 2) (g : Fin 8) : FVec Ideal S128x256 .f32 :=
  addf (matmul dot_S128x128_S128x256_S128x256_1_0_0_1_n_n none (maskedW w g (wAt g))
      (extractStridedSlice S128x256 ![128 * c.val, 256 * g.val] v (slicesOf c g)) (constant S128x256 .f32 0x00000000#32))
    (broadcastTo S128x256
      (shapeCast S128x1 (View.ld b (Rect.unit (s := S8x128x1) ![g.val, 0, 0] S1x128x1.size (bAt g))) shapeCasts_S1x128x1_S128x1)
      broadcasts_S128x1_S128x256)

theorem tile_apply (c : Fin 2) (g : Fin 8) (t : Fin 128) (l : Fin 256) :
    tile v w b c g (ix2 t l)
      = (∑ s : Fin 128, (if s.val ≤ t.val then w (ix3 g t s) else 0 : EReal)
          * v (ix2 ⟨128 * c.val + s.val, by omega⟩ ⟨256 * g.val + l.val, by omega⟩)) + b (ix3 g t 0) := by
  simp only [← maskedW_apply w g (wAt g)]
  rw [← ldB_apply b g (bAt g)]
  unfold tile
  generalize View.ld b (Rect.unit (s := S8x128x1) ![g.val, 0, 0] S1x128x1.size (bAt g)) = y
  generalize maskedW w g (wAt g) = x
  pointwise

/-- One chunk's rows: the eight groups side by side. -/
def chunk (c : Fin 2) : FVec Ideal S128x2048 .f32 :=
  concatenate S128x2048 1 (List.ofFn fun g : Fin 8 => ⟨S128x256, tile v w b c g⟩)
    concatenates_S128x256_S128x256_S128x256_S128x256_S128x256_S128x256_S128x256_S128x256_S128x2048_d1

/-- The mixed block: the two chunks one under the other. -/
def block : FVec Ideal S256x2048 .f32 :=
  concatenate S256x2048 0 (List.ofFn fun c : Fin 2 => ⟨S128x2048, chunk v w b c⟩) concatenates_S128x2048_S128x2048_S256x2048_d0

theorem chunk_apply (c : Fin 2) (t : Fin 128) (d : Fin 2048) :
    chunk v w b c (ix2 t d) = tile v w b c (grp d) (ix2 t ⟨d.val % 256, by omega⟩) :=
  concatenate_ofFn_apply (t := S128x2048) (s₁ := S128x256) 1 _ _ rfl 256 rfl (ix2 t d) (grp d) rfl (ix2 t ⟨d.val % 256, by omega⟩) rfl
    (fun a ha => match a with
      | ⟨0, _⟩ => rfl
      | ⟨1, _⟩ => absurd rfl ha)

theorem block_apply (i : Fin 256) (d : Fin 2048) :
    block v w b (ix2 i d)
      = (∑ s : Fin 128, (if s.val ≤ i.val % 128 then w (ix3 (grp d) ⟨i.val % 128, by omega⟩ s) else 0)
          * v (ix2 ⟨128 * (i.val / 128) + s.val, by omega⟩ d)) + b (ix3 (grp d) ⟨i.val % 128, by omega⟩ 0) := by
  have h : block v w b (ix2 i d) = chunk v w b ⟨i.val / 128, by omega⟩ (ix2 ⟨i.val % 128, by omega⟩ d) :=
    concatenate_ofFn_apply (t := S256x2048) (s₁ := S128x2048) 0 _ _ rfl 128 rfl (ix2 i d) ⟨i.val / 128, by omega⟩ rfl
      (ix2 ⟨i.val % 128, by omega⟩ d) rfl
      (fun a ha => match a with
        | ⟨0, _⟩ => absurd rfl ha
        | ⟨1, _⟩ => rfl)
  rw [h, chunk_apply, tile_apply]
  refine congrArg (· + _) (Finset.sum_congr rfl fun s _ => congrArg (_ * v ·) (congrArg (ix2 _) (Fin.ext ?_)))
  show 256 * (d.val / 256) + d.val % 256 = d.val
  omega

end Cert.Sample

end
-- ==== Proof.Sample.Block.lean ====
/- One point of the sample's grid: the two blocks it writes, entry by entry. -/
module

public import proofs.«01_k».proof.Proof.Sample.Rows
public import proofs.«01_k».proof.Proof.Sample.Mixing

@[expose] public section

noncomputable section

namespace Cert.Sample

open Idealize.ShloMosaic Cert.Mixer Cert.Kernel3Ideal Cert.Kernel3Ideal.Gen

/-- The last part of the body, of the mixed block `M`: the thirds multiplied, the projection back, the input added, and the
    final norm. -/
theorem end_entry (x : FVec Ideal S256x1024 .f32) (z y h : FVec Ideal S256x2048 .f32) (wo : Vec Ideal S2048x1024 .bf16)
    (gf : Vec Ideal S1x1024 .f32) (u M : FVec Ideal S256x2048 .f32) (hM : y = mulf u M) (i : Fin 256) (j : Fin 1024) :
    k0_pay1 (F := Ideal) x z y h wo gf (ix2 i j)
      = rms (fun j => gf (ix2 0 j)) (fun j => x (ix2 i j) + ∑ d : Fin 2048,
          u (ix2 i d) * M (ix2 i d) * (z (ix2 i d) * (oneHalf * Ideal.tanh (h (ix2 i d)) + oneHalf)) * wo (ix2 d j)) j := by
  subst hM
  pointwise [k0_pay1, rms, rmsFactor]

theorem half_entry (z : FVec Ideal S256x2048 .f32) (i : Fin 256) (d : Fin 2048) :
    k0_pay29 (F := Ideal) z (ix2 i d) = oneHalf * z (ix2 i d) := by
  pointwise [k0_pay29]

section
variable (x0 : Vec Ideal S256x1024 .f32) (x1 : Vec Ideal S1x1024 .f32) (x2 : Vec Ideal S1024x6144 .bf16)
  (x3 x4 : Vec Ideal S1x2048 .f32) (x5 : Vec Ideal S8x128x128 .f32) (x6 : Vec Ideal S8x128x1 .f32)
  (x7 : Vec Ideal S2048x1024 .bf16) (x8 : Vec Ideal S1x1024 .f32)

/-- The weights as the body finds them in its windows. -/
def blockWeights : Weights where
  g j := x1 (ix2 0 j)
  wi k c := x2 (ix2 k c)
  vg d := x3 (ix2 0 d)
  vb d := x4 (ix2 0 d)
  ws g t s := x5 (ix3 g t s)
  bs g t := x6 (ix3 g t 0)
  wo d j := x7 (ix2 d j)

theorem ld0 (x : Vec Ideal S256x1024 .f32) : View.ld x r0_0 = x := View.ld_unit_zero (by decide) _ x
theorem ld1 (x : Vec Ideal S1x1024 .f32) : View.ld x r0_1 = x := View.ld_unit_zero (by decide) _ x
theorem ld2 (x : Vec Ideal S1024x6144 .bf16) : View.ld x r0_2 = x := View.ld_unit_zero (by decide) _ x
theorem ld3 (x : Vec Ideal S1x2048 .f32) : View.ld x r0_3 = x := View.ld_unit_zero (by decide) _ x
theorem ld21 (x : Vec Ideal S2048x1024 .bf16) : View.ld x r0_21 = x := View.ld_unit_zero (by decide) _ x

/-- A row of the block. -/
abbrev blockRow (i : Fin 256) : Fin 1024 → EReal := fun k => x0 (ix2 i k)

theorem proj_apply (i : Fin 256) (c : Fin 6144) :
    k0_pay3 (F := Ideal) x0 x1 x2 (ix2 i c) = proj (blockWeights x1 x2 x3 x4 x5 x6 x7) (blockRow x0 i) c := by
  rw [proj_entry]
  rfl

/-- The layer-normed half, as the body keeps it for the mixing and as it writes it out. -/
theorem half_apply (i : Fin 256) (d : Fin 2048) :
    k0_pay8 (F := Ideal) (k0_pay5 (F := Ideal) x0 x1 x2) (k0_pay6 (F := Ideal) x0 x1 x2) x3 x4 (ix2 i d)
      = vRow (blockWeights x1 x2 x3 x4 x5 x6 x7) (blockRow x0 i) d := by
  rw [norm_entry]
  simp only [tanh_entry, second_entry, proj_apply x0 x1 x2 x3 x4 x5 x6 x7]
  rfl

theorem out_half (i : Fin 256) (d : Fin 2048) :
    out0_10 (F := Ideal) x0 x1 x2 x3 x4 x5 x6 x7 x8 (ix2 i d) = vRow (blockWeights x1 x2 x3 x4 x5 x6 x7) (blockRow x0 i) d := by
  unfold out0_10
  rw [View.canon_unit_zero (by decide), ld3 x3, ld3 x4, ← half_apply]
  unfold k0_pay30 k0_pay31
  rw [ld0, ld1, ld2]

theorem out_apply (i : Fin 256) (j : Fin 1024) :
    out0_9 (F := Ideal) x0 x1 x2 x3 x4 x5 x6 x7 x8 (ix2 i j)
      = rms (fun j => x8 (ix2 0 j))
          (after (blockWeights x1 x2 x3 x4 x5 x6 x7)
            (fun s => blockRow x0 ⟨128 * (i.val / 128) + s.val, by omega⟩) ⟨i.val % 128, by omega⟩) j := by
  have hi : (⟨128 * (i.val / 128) + i.val % 128, by omega⟩ : Fin 256) = i := Fin.ext (by show 128 * (i.val / 128) + i.val % 128 = i.val; omega)
  unfold out0_9
  rw [View.canon_unit_zero (by decide), ld1 x8, ld21 x7,
    end_entry (u := k0_pay4 (F := Ideal) (View.ld x0 r0_0) (View.ld x1 r0_1) (View.ld x2 r0_2))
      (M := block (k0_pay33 x0 x1 x2 x3 x4 x5 x6 x7 x8) x5 x6)]
  rotate_left
  · rfl
  unfold k0_pay33 k0_pay32 k0_pay31 k0_pay30
  simp only [ld0, ld1, ld2, ld3, block_apply, cast_entry, half_entry, half_apply x0 x1 x2 x3 x4 x5 x6 x7, first_entry, last_entry, rows_apply,
    proj_apply x0 x1 x2 x3 x4 x5 x6 x7, gate_tanh]
  unfold after gated mixed
  simp only [hi]
  rfl

end

end Cert.Sample

end
-- ==== Proof.Sample.Spec.lean ====
/- The gated mixer on a sequence of four tokens, and how a chunk of 128 rows holding 32 such sequences computes it: the
   spatial weights stand on the chunk's diagonal, so a row only meets the rows of its own sequence. -/
module

public import proofs.«01_k».proof.Proof.Layer

@[expose] public section

noncomputable section

namespace Cert.Sample

open Idealize.ShloMosaic Cert.Mixer

variable (W : Weights)

/-- The causal mixing of four tokens, and the bias. -/
def shortMixed (v : Fin 4 → Fin 2048 → EReal) (t : Fin 4) (d : Fin 2048) : EReal :=
  (∑ s : Fin 4, (if s.val ≤ t.val then W.ws (grp d) ⟨t.val, by omega⟩ ⟨s.val, by omega⟩ else 0) * v s d)
    + W.bs (grp d) ⟨t.val, by omega⟩

/-- A token's row after the mixer, its input added. -/
def shortAfter (x : Fin 4 → Fin 1024 → EReal) (t : Fin 4) (j : Fin 1024) : EReal :=
  x t j + ∑ d, uRow W (x t) d * shortMixed W (fun s => vRow W (x s)) t d * gate (zRow W (x t) d) * W.wo d j

/-- The diagonal block a pair of rows lies in. -/
def eye (a b : ℕ) : EReal := if a = b then 1 else 0

/-- The weights laid out for a chunk of 32 sequences. -/
def spread : Weights where
  g := W.g
  wi := W.wi
  vg := W.vg
  vb := W.vb
  ws g r q := eye (r.val / 4) (q.val / 4) * W.ws g ⟨r.val % 4, by omega⟩ ⟨q.val % 4, by omega⟩
  bs g r := W.bs g ⟨r.val % 4, by omega⟩
  wo := W.wo

/-- A row of the chunk: sequence `a`, token `s`. -/
abbrev chunkRow (a : Fin 32) (s : Fin 4) : Fin 128 := ⟨4 * a.val + s.val, by omega⟩

/-- A sum over a chunk's rows is a sum over its sequences and their tokens. -/
theorem sum_chunk (f : Fin 128 → EReal) : ∑ q, f q = ∑ a : Fin 32, ∑ s : Fin 4, f (chunkRow a s) := by
  rw [← Fintype.sum_prod_type' (f := fun a s => f (chunkRow a s))]
  refine (Fintype.sum_equiv (finProdFinEquiv (m := 32) (n := 4)) _ _ fun p => congrArg f (Fin.ext ?_)).symm
  show 4 * p.1.val + p.2.val = p.2.val + 4 * p.1.val
  omega

/-- One row meets another through the laid-out weights only within its own sequence. -/
theorem spread_term (v : Fin 128 → Fin 2048 → EReal) (r : Fin 128) (d : Fin 2048) (a : Fin 32) (s : Fin 4) :
    (if (chunkRow a s).val ≤ r.val then (spread W).ws (grp d) r (chunkRow a s) else 0) * v (chunkRow a s) d
      = if a.val = r.val / 4 then (if s.val ≤ r.val % 4 then W.ws (grp d) ⟨r.val % 4, by omega⟩ ⟨s.val, by omega⟩ else 0)
          * v (chunkRow a s) d else 0 := by
  have hq : (4 * a.val + s.val) / 4 = a.val := by omega
  have hs : (4 * a.val + s.val) % 4 = s.val := by omega
  have hle : a.val = r.val / 4 → (4 * a.val + s.val ≤ r.val ↔ s.val ≤ r.val % 4) := fun h => by omega
  simp only [spread, eye, hq, hs]
  by_cases h : a.val = r.val / 4
  · rw [if_pos h, if_pos h.symm, one_mul]
    simp only [hle h]
  · simp [h, Ne.symm h]

theorem mixed_spread (v : Fin 128 → Fin 2048 → EReal) (r : Fin 128) (d : Fin 2048) :
    mixed (spread W) v r d = shortMixed W (fun s => v (chunkRow ⟨r.val / 4, by omega⟩ s)) ⟨r.val % 4, by omega⟩ d := by
  unfold mixed shortMixed
  refine congrArg₂ (· + ·) ?_ rfl
  rw [sum_chunk, Fintype.sum_eq_single (⟨r.val / 4, by omega⟩ : Fin 32)]
  · refine Finset.sum_congr rfl fun s _ => ?_
    rw [spread_term]
    exact if_pos rfl
  · refine fun a ha => Finset.sum_eq_zero fun s _ => ?_
    rw [spread_term]
    exact if_neg fun h => ha (Fin.ext h)

/-- A chunk's row after the mixer is its sequence's row. -/
theorem after_spread (x : Fin 128 → Fin 1024 → EReal) (r : Fin 128) :
    after (spread W) x r = shortAfter W (fun s => x (chunkRow ⟨r.val / 4, by omega⟩ s)) ⟨r.val % 4, by omega⟩ := by
  have hr : chunkRow ⟨r.val / 4, by omega⟩ ⟨r.val % 4, by omega⟩ = r := Fin.ext (by show 4 * (r.val / 4) + r.val % 4 = r.val; omega)
  funext j
  unfold after shortAfter gated
  simp only [mixed_spread, hr]
  rfl

variable (a0 : (⟨3, ![128, 4, 1024]⟩ : Shape).Idx → EReal) (gf : Fin 1024 → EReal)

/-- The rows of a sequence. -/
def seqRows (b : Fin 128) (t : Fin 4) : Fin 1024 → EReal := fun k => a0 (ix3 b t k)

/-- The layer's array: row `n` is token `n % 4` of sequence `n / 4`. -/
def layer (i : (⟨2, ![512, 1024]⟩ : Shape).Idx) : EReal :=
  rms gf (shortAfter W (seqRows a0 ⟨(i 0).val / 4, Nat.div_lt_of_lt_mul (i 0).isLt⟩) ⟨(i 0).val % 4, Nat.mod_lt _ (by norm_num)⟩) (i 1)

/-- The gated half after its layer norm, row by row. -/
def gatedHalf (i : (⟨2, ![512, 2048]⟩ : Shape).Idx) : EReal :=
  vRow W (seqRows a0 ⟨(i 0).val / 4, Nat.div_lt_of_lt_mul (i 0).isLt⟩ ⟨(i 0).val % 4, Nat.mod_lt _ (by norm_num)⟩) (i 1)

end Cert.Sample

end
-- ==== Proof.Sample.Host.lean ====
/- The arrays the sample's windows stage, as the host operations before the call leave them: each read at an index from the
   arguments. The spatial weights' first four rows and columns are laid out along a chunk's diagonal. -/
module

public import proofs.«01_k».proof.Proof.Sample.Spec
public import proofs.«01_k».proof.Proof.Gen.Kernel3Ideal.Frame
public import Idealize.ShloMosaic.Lib.Pointwise

@[expose] public section

noncomputable section

namespace Cert.Sample

open Idealize.ShloMosaic Idealize.ShloMosaic.StableHlo Idealize.ShloMosaic.TcCoe Idealize.SL.Sem Cert.Kernel3Ideal Cert.Kernel3Ideal.Gen

variable (m : (ℓ : Loc nD τ sig) → Buf (Elt Ideal) ℓ) (c : Dev nD)

theorem V_v0 (n : Fin 512) (j : Fin 1024) : (V m c main_v0 : Vec Ideal S512x1024 .f32) (ix2 n j)
    = (m ((c : Thread nD τ).loc main_arg0) : Vec Ideal S128x4x1024 .f32) (ix3 ⟨n.val / 4, by omega⟩ ⟨n.val % 4, by omega⟩ j) := by
  unfold V; simp only [hostOps0, hostOps0_1, hostOps0_2, List.flatten_cons, List.flatten_nil, List.append_nil, List.cons_append, List.nil_append]; after_results_simp
  generalize m (c, main_arg0) = a
  pointwise

theorem V_v23 (j : Fin 1024) : (V m c main_v23 : Vec Ideal S1x1024 .f32) (ix2 0 j)
    = (m ((c : Thread nD τ).loc main_arg1) : Vec Ideal S2x1024 .f32) (ix2 1 j) := by
  unfold V; simp only [hostOps0, hostOps0_1, hostOps0_2, List.flatten_cons, List.flatten_nil, List.append_nil, List.cons_append, List.nil_append]; after_results_simp
  generalize m (c, main_arg1) = a
  pointwise

theorem V_v27 (j : Fin 1024) : (V m c main_v27 : Vec Ideal S1x1024 .f32) (ix2 0 j)
    = (m ((c : Thread nD τ).loc main_arg2) : Vec Ideal S1024 .f32) (ix1 j) := by
  unfold V; simp only [hostOps0, hostOps0_1, hostOps0_2, List.flatten_cons, List.flatten_nil, List.append_nil, List.cons_append, List.nil_append]; after_results_simp
  generalize m (c, main_arg2) = a
  pointwise

theorem V_v2 (k : Fin 1024) (j : Fin 6144) : (V m c main_v2 : Vec Ideal S1024x6144 .bf16) (ix2 k j)
    = (m ((c : Thread nD τ).loc main_arg3) : Vec Ideal S1x1024x6144 .f32) (ix3 0 k j) := by
  unfold V; simp only [hostOps0, hostOps0_1, hostOps0_2, List.flatten_cons, List.flatten_nil, List.append_nil, List.cons_append, List.nil_append]; after_results_simp
  generalize m (c, main_arg3) = a
  pointwise

theorem V_v24 (d : Fin 2048) : (V m c main_v24 : Vec Ideal S1x2048 .f32) (ix2 0 d)
    = (m ((c : Thread nD τ).loc main_arg4) : Vec Ideal S1x2048 .f32) (ix2 0 d) := by
  unfold V; simp only [hostOps0, hostOps0_1, hostOps0_2, List.flatten_cons, List.flatten_nil, List.append_nil, List.cons_append, List.nil_append]; after_results_simp
  generalize m (c, main_arg4) = a
  pointwise

theorem V_v25 (d : Fin 2048) : (V m c main_v25 : Vec Ideal S1x2048 .f32) (ix2 0 d)
    = (m ((c : Thread nD τ).loc main_arg5) : Vec Ideal S1x2048 .f32) (ix2 0 d) := by
  unfold V; simp only [hostOps0, hostOps0_1, hostOps0_2, List.flatten_cons, List.flatten_nil, List.append_nil, List.cons_append, List.nil_append]; after_results_simp
  generalize m (c, main_arg5) = a
  pointwise

theorem V_v4 (d : Fin 2048) (j : Fin 1024) : (V m c main_v4 : Vec Ideal S2048x1024 .bf16) (ix2 d j)
    = (m ((c : Thread nD τ).loc main_arg8) : Vec Ideal S1x2048x1024 .f32) (ix3 0 d j) := by
  unfold V; simp only [hostOps0, hostOps0_1, hostOps0_2, List.flatten_cons, List.flatten_nil, List.append_nil, List.cons_append, List.nil_append]; after_results_simp
  generalize m (c, main_arg8) = a
  pointwise

theorem V_v26 (g : Fin 8) (r : Fin 128) : (V m c main_v26 : Vec Ideal S8x128x1 .f32) (ix3 g r 0)
    = (m ((c : Thread nD τ).loc main_arg7) : Vec Ideal S1x8x128 .f32) (ix3 0 g ⟨r.val % 4, by omega⟩) := by
  unfold V; simp only [hostOps0, hostOps0_1, hostOps0_2, List.flatten_cons, List.flatten_nil, List.append_nil, List.cons_append, List.nil_append]; after_results_simp
  generalize m (c, main_arg7) = a
  pointwise

/-- Whether two of the 32 sequence numbers are equal, as a number. -/
theorem eye_eq (a b : Fin 32) :
    ((((IntOp.cmpi CmpIPredicate.eq (BitVec.ofNat 32 a.val + 0#32) (BitVec.ofNat 32 b.val)).toNat : ℝ)) : EReal) = eye a.val b.val := by
  have h : IntOp.cmpi CmpIPredicate.eq (BitVec.ofNat 32 a.val + 0#32) (BitVec.ofNat 32 b.val) = BitVec.ofBool (decide (a.val = b.val)) := by
    revert a b; decide +kernel
  rw [h]
  unfold eye
  by_cases e : a.val = b.val <;> simp [e]

theorem V_v13 (g : Fin 8) (r q : Fin 128) : (V m c main_v13 : Vec Ideal S8x128x128 .f32) (ix3 g r q)
    = eye (r.val / 4) (q.val / 4)
      * (m ((c : Thread nD τ).loc main_arg6) : Vec Ideal S1x8x128x128 .f32) (ix4 0 g ⟨r.val % 4, by omega⟩ ⟨q.val % 4, by omega⟩) := by
  unfold V; simp only [hostOps0, hostOps0_1, hostOps0_2, List.flatten_cons, List.flatten_nil, List.append_nil, List.cons_append, List.nil_append]; after_results_simp
  generalize m (c, main_arg6) = a
  simp only [TRef.toBuf, TRef.ofBuf, cast_eq]
  pointwise
  refine congrArg₂ (· * ·) (eye_eq ⟨r.val / 4, by omega⟩ ⟨q.val / 4, by omega⟩) rfl

end Cert.Sample

end
-- ==== Proof.Sample.Array.lean ====
/- What the sample's two result arrays hold after the grid's two points: the layer of the arguments, and its gated half. -/
module

public import proofs.«01_k».proof.Proof.Sample.Block
public import proofs.«01_k».proof.Proof.Sample.Host
public import proofs.«01_k».proof.Proof.Layer
public import proofs.«01_k».proof.Proof.Gen.Kernel3Ideal.Value

@[expose] public section

noncomputable section

namespace Cert.Sample

open Cert.Mixer Idealize.ShloMosaic Idealize.ShloMosaic.TcCoe Idealize.SL.Sem Cert.Kernel3Ideal Cert.Kernel3Ideal.Gen

variable (m : (ℓ : Loc nD τ sig) → Buf (Elt Ideal) ℓ) (ρ : Dev nD → PrngReg) (c : Dev nD)

/-! ### The windows' blocks -/

theorem index_row : ∀ t : Fin cfg0.N, (win0_0.index t (0 : Fin 2) = t.val ∧ win0_0.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem index_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The array row that block row `i` of point `t` is. -/
abbrev rowOf (t : Fin cfg0.N) (i : Fin 256) : Fin 512 :=
  ⟨256 * t.val + i.val, by have : t.val < 2 := Nat.lt_of_lt_of_eq t.isLt N_0; omega⟩

theorem iblk0 (t : Fin cfg0.N) (i : Fin 256) (k : Fin 1024) :
    (iblk m c 0 t : Vec Ideal S256x1024 .f32) (ix2 i k) = (V m c main_v0 : Vec Ideal S512x1024 .f32) (ix2 (rowOf t i) k) := by
  refine congrArg (V m c main_v0) (funext fun a => Fin.ext ?_)
  obtain ⟨h0, h1⟩ := (index_row t).1
  match a with
  | ⟨0, _⟩ => show win0_0.index t (0 : Fin 2) * 256 + 1 * i.val = 256 * t.val + i.val; omega
  | ⟨1, _⟩ => show win0_0.index t (1 : Fin 2) * 1024 + 1 * k.val = k.val; omega

theorem iblk1 (t : Fin cfg0.N) : iblk m c 1 t = V m c main_v23 := by
  refine funext fun i => congrArg (V m c main_v23) (funext fun a => Fin.ext ?_)
  obtain ⟨h0, h1⟩ := (index_whole t).1
  match a with
  | ⟨0, _⟩ => show win0_1.index t (0 : Fin 2) * 1 + 1 * (i 0).val = (i 0).val; omega
  | ⟨1, _⟩ => show win0_1.index t (1 : Fin 2) * 1024 + 1 * (i 1).val = (i 1).val; omega

theorem iblk2 (t : Fin cfg0.N) : iblk m c 2 t = V m c main_v2 := by
  refine funext fun i => congrArg (V m c main_v2) (funext fun a => Fin.ext ?_)
  obtain ⟨h0, h1⟩ := (index_whole t).2.1
  match a with
  | ⟨0, _⟩ => show win0_2.index t (0 : Fin 2) * 1024 + 1 * (i 0).val = (i 0).val; omega
  | ⟨1, _⟩ => show win0_2.index t (1 : Fin 2) * 6144 + 1 * (i 1).val = (i 1).val; omega

theorem iblk3 (t : Fin cfg0.N) : iblk m c 3 t = V m c main_v24 := by
  refine funext fun i => congrArg (V m c main_v24) (funext fun a => Fin.ext ?_)
  obtain ⟨h0, h1⟩ := (index_whole t).2.2.1
  match a with
  | ⟨0, _⟩ => show win0_3.index t (0 : Fin 2) * 1 + 1 * (i 0).val = (i 0).val; omega
  | ⟨1, _⟩ => show win0_3.index t (1 : Fin 2) * 2048 + 1 * (i 1).val = (i 1).val; omega

theorem iblk4 (t : Fin cfg0.N) : iblk m c 4 t = V m c main_v25 := by
  refine funext fun i => congrArg (V m c main_v25) (funext fun a => Fin.ext ?_)
  obtain ⟨h0, h1⟩ := (index_whole t).2.2.2.1
  match a with
  | ⟨0, _⟩ => show win0_4.index t (0 : Fin 2) * 1 + 1 * (i 0).val = (i 0).val; omega
  | ⟨1, _⟩ => show win0_4.index t (1 : Fin 2) * 2048 + 1 * (i 1).val = (i 1).val; omega

theorem iblk5 (t : Fin cfg0.N) : iblk m c 5 t = V m c main_v13 := by
  refine funext fun i => congrArg (V m c main_v13) (funext fun a => Fin.ext ?_)
  obtain ⟨h0, h1, h2⟩ := (index_whole t).2.2.2.2.1
  match a with
  | ⟨0, _⟩ => show win0_5.index t (0 : Fin 3) * 8 + 1 * (i 0).val = (i 0).val; omega
  | ⟨1, _⟩ => show win0_5.index t (1 : Fin 3) * 128 + 1 * (i 1).val = (i 1).val; omega
  | ⟨2, _⟩ => show win0_5.index t (2 : Fin 3) * 128 + 1 * (i 2).val = (i 2).val; omega

theorem iblk6 (t : Fin cfg0.N) : iblk m c 6 t = V m c main_v26 := by
  refine funext fun i => congrArg (V m c main_v26) (funext fun a => Fin.ext ?_)
  obtain ⟨h0, h1, h2⟩ := (index_whole t).2.2.2.2.2.1
  match a with
  | ⟨0, _⟩ => show win0_6.index t (0 : Fin 3) * 8 + 1 * (i 0).val = (i 0).val; omega
  | ⟨1, _⟩ => show win0_6.index t (1 : Fin 3) * 128 + 1 * (i 1).val = (i 1).val; omega
  | ⟨2, _⟩ => show win0_6.index t (2 : Fin 3) * 1 + 1 * (i 2).val = (i 2).val; omega

theorem iblk7 (t : Fin cfg0.N) : iblk m c 7 t = V m c main_v4 := by
  refine funext fun i => congrArg (V m c main_v4) (funext fun a => Fin.ext ?_)
  obtain ⟨h0, h1⟩ := (index_whole t).2.2.2.2.2.2.1
  match a with
  | ⟨0, _⟩ => show win0_7.index t (0 : Fin 2) * 2048 + 1 * (i 0).val = (i 0).val; omega
  | ⟨1, _⟩ => show win0_7.index t (1 : Fin 2) * 1024 + 1 * (i 1).val = (i 1).val; omega

theorem iblk8 (t : Fin cfg0.N) : iblk m c 8 t = V m c main_v27 := by
  refine funext fun i => congrArg (V m c main_v27) (funext fun a => Fin.ext ?_)
  obtain ⟨h0, h1⟩ := (index_whole t).2.2.2.2.2.2.2
  match a with
  | ⟨0, _⟩ => show win0_8.index t (0 : Fin 2) * 1 + 1 * (i 0).val = (i 0).val; omega
  | ⟨1, _⟩ => show win0_8.index t (1 : Fin 2) * 1024 + 1 * (i 1).val = (i 1).val; omega

/-! ### The arrays -/

/-- The mixer's weights, of the launch's arguments. -/
abbrev theWeights : Weights :=
  argWeights (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The layer of the launch's arguments. -/
abbrev result0 : Vec Ideal S512x1024 .f32 :=
  layer (theWeights m c) (m ((c : Thread nD τ).loc main_arg0))
    (fun j => (m ((c : Thread nD τ).loc main_arg2) : Vec Ideal S1024 .f32) (ix1 j))

/-- Its gated half. -/
abbrev result1 : Vec Ideal S512x2048 .f32 := gatedHalf (theWeights m c) (m ((c : Thread nD τ).loc main_arg0))

theorem weights_eq (t : Fin cfg0.N) :
    blockWeights (iblk m c 1 t) (iblk m c 2 t) (iblk m c 3 t) (iblk m c 4 t) (iblk m c 5 t) (iblk m c 6 t) (iblk m c 7 t)
      = spread (theWeights m c) := by
  rw [iblk1, iblk2, iblk3, iblk4, iblk5, iblk6, iblk7]
  unfold blockWeights spread theWeights argWeights
  rw [Weights.mk.injEq]
  exact ⟨funext (V_v23 m c), funext₂ (V_v2 m c), funext (V_v24 m c), funext (V_v25 m c),
    funext fun g => funext₂ (V_v13 m c g), funext₂ (V_v26 m c), funext₂ (V_v4 m c)⟩

theorem row_eq (t : Fin cfg0.N) (i : Fin 256) :
    blockRow (iblk m c 0 t) i
      = seqRows (m ((c : Thread nD τ).loc main_arg0)) ⟨(rowOf t i).val / 4, by omega⟩ ⟨(rowOf t i).val % 4, by omega⟩ :=
  funext fun k => (iblk0 m c t i k).trans (V_v0 m c _ k)

theorem emb9 (t : Fin cfg0.N) (i : Fin 256) (j : Fin 1024) :
    ((cfg0.win 9).blk t).view.emb (ix2 i j) = (ix2 (rowOf t i) j : S512x1024.Idx) := by
  refine funext fun a => Fin.ext ?_
  obtain ⟨h0, h1⟩ := (index_row t).2.1
  match a with
  | ⟨0, _⟩ => show win0_9.index t (0 : Fin 2) * 256 + 1 * i.val = 256 * t.val + i.val; omega
  | ⟨1, _⟩ => show win0_9.index t (1 : Fin 2) * 1024 + 1 * j.val = j.val; omega

theorem cover9 (i : S512x1024.Idx) : ∃ t : Fin cfg0.N, (cfg0.win 9).flush t = true ∧ i ∈ ((cfg0.win 9).blk t).view.set := by
  have h0 : (i 0).val < 512 := (i 0).isLt
  obtain ⟨t, ht⟩ : ∃ t : Fin cfg0.N, t.val = (i 0).val / 256 :=
    ⟨⟨(i 0).val / 256, Nat.lt_of_lt_of_eq (by omega : (i 0).val / 256 < 2) N_0.symm⟩, rfl⟩
  refine ⟨t, flush0_9 t, ?_⟩
  have e : ((cfg0.win 9).blk t).view.emb (ix2 (⟨(i 0).val % 256, by omega⟩ : Fin 256) (i 1 : Fin 1024)) = i := by
    refine (emb9 t _ _).trans (funext fun a => Fin.ext ?_)
    match a with
    | ⟨0, _⟩ => show 256 * t.val + (i 0).val % 256 = (i 0).val; omega
    | ⟨1, _⟩ => rfl
  exact e ▸ View.emb_mem_set _ _

theorem emb10 (t : Fin cfg0.N) (i : Fin 256) (j : Fin 2048) :
    ((cfg0.win 10).blk t).view.emb (ix2 i j) = (ix2 (rowOf t i) j : S512x2048.Idx) := by
  refine funext fun a => Fin.ext ?_
  obtain ⟨h0, h1⟩ := (index_row t).2.2
  match a with
  | ⟨0, _⟩ => show win0_10.index t (0 : Fin 2) * 256 + 1 * i.val = 256 * t.val + i.val; omega
  | ⟨1, _⟩ => show win0_10.index t (1 : Fin 2) * 2048 + 1 * j.val = j.val; omega

theorem cover10 (i : S512x2048.Idx) : ∃ t : Fin cfg0.N, (cfg0.win 10).flush t = true ∧ i ∈ ((cfg0.win 10).blk t).view.set := by
  have h0 : (i 0).val < 512 := (i 0).isLt
  obtain ⟨t, ht⟩ : ∃ t : Fin cfg0.N, t.val = (i 0).val / 256 :=
    ⟨⟨(i 0).val / 256, Nat.lt_of_lt_of_eq (by omega : (i 0).val / 256 < 2) N_0.symm⟩, rfl⟩
  refine ⟨t, flush0_10 t, ?_⟩
  have e : ((cfg0.win 10).blk t).view.emb (ix2 (⟨(i 0).val % 256, by omega⟩ : Fin 256) (i 1 : Fin 2048)) = i := by
    refine (emb10 t _ _).trans (funext fun a => Fin.ext ?_)
    match a with
    | ⟨0, _⟩ => show 256 * t.val + (i 0).val % 256 = (i 0).val; omega
    | ⟨1, _⟩ => rfl
  exact e ▸ View.emb_mem_set _ _

theorem flushed9_eq (t : Fin cfg0.N) :
    (dats m 0 c).flushed 9 t = ((cfg0.win 9).blk t).view.read (Elt Ideal) (result0 m c) := by
  rw [Cert.Kernel3Ideal.Value.flushed9]
  refine funext fun (y : S256x1024.Idx) => ?_
  obtain ⟨i, j, rfl⟩ : ∃ (i : Fin 256) (j : Fin 1024), y = ix2 i j :=
    ⟨y 0, y 1, funext fun a => match a with | ⟨0, _⟩ => rfl | ⟨1, _⟩ => rfl⟩
  show out0_9 (F := Ideal) _ _ _ _ _ _ _ _ _ (ix2 i j) = result0 m c (((cfg0.win 9).blk t).view.emb (ix2 i j))
  rw [emb9, out_apply, weights_eq, iblk8, after_spread]
  have ht : t.val < 2 := Nat.lt_of_lt_of_eq t.isLt N_0
  refine congrFun (congrArg₂ rms (funext (V_v27 m c)) (congrArg₂ (shortAfter _) (funext fun s => ?_) (Fin.ext ?_))) j
  · refine (row_eq m c t _).trans (congrArg₂ (seqRows _) (Fin.ext ?_) (Fin.ext ?_))
    · show (256 * t.val + (128 * (i.val / 128) + (4 * (i.val % 128 / 4) + s.val))) / 4 = (256 * t.val + i.val) / 4
      omega
    · show (256 * t.val + (128 * (i.val / 128) + (4 * (i.val % 128 / 4) + s.val))) % 4 = s.val
      omega
  · show i.val % 128 % 4 = (256 * t.val + i.val) % 4
    omega

theorem flushed10_eq (t : Fin cfg0.N) :
    (dats m 0 c).flushed 10 t = ((cfg0.win 10).blk t).view.read (Elt Ideal) (result1 m c) := by
  rw [Cert.Kernel3Ideal.Value.flushed10]
  refine funext fun (y : S256x2048.Idx) => ?_
  obtain ⟨i, d, rfl⟩ : ∃ (i : Fin 256) (d : Fin 2048), y = ix2 i d :=
    ⟨y 0, y 1, funext fun a => match a with | ⟨0, _⟩ => rfl | ⟨1, _⟩ => rfl⟩
  show out0_10 (F := Ideal) _ _ _ _ _ _ _ _ _ (ix2 i d) = result1 m c (((cfg0.win 10).blk t).view.emb (ix2 i d))
  rw [emb10, out_half, weights_eq, row_eq]
  rfl

theorem final9 : (dats m 0 c).arrAt 9 cfg0.N = result0 m c :=
  (dats m 0 c).arrAt_eq_of_cover 9 (result0 m c) (fun t _ => flushed9_eq m c t) cover9

theorem final10 : (dats m 0 c).arrAt 10 cfg0.N = result1 m c :=
  (dats m 0 c).arrAt_eq_of_cover 10 (result1 m c) (fun t _ => flushed10_eq m c t) cover10

/-- The run, with both result arrays read. -/
theorem run : θ_run defs (onTc (τ := τ) (main (F := Ideal))) ⟨m, fun _ => 0, ρ⟩ fun r => ∀ c : Dev nD,
      r.2.mem ((c : Thread nD τ).loc main_v28_0) = result0 m c
      ∧ r.2.mem ((c : Thread nD τ).loc main_v28_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final9 m c), (h c).2.1.trans (final10 m c), (h c).2.2⟩)
    (Cert.Kernel3Ideal.Value.run_blocks m ρ)

end Cert.Sample

end
-- ==== Proof.Sample.Ref.lean ====
/- The sample's reference, stage by stage: each stage at a token is the mixer's function of that token's row. The reference
   pads a sequence to a whole chunk; the padding's rows are zero and leave every sum as it was. -/
module

public import proofs.«01_k».proof.Proof.Sample.Spec
public import proofs.«01_k».proof.Proof.Gen.Reference3Ideal.Read

@[expose] public section

noncomputable section

namespace Cert.Sample

open Cert.Mixer Idealize.ShloMosaic Idealize.SL.Sem Cert.Reference3Ideal Cert.Reference3Ideal.Read

variable (x0 : Vec Ideal S128x4x1024 .f32) (x1 : Vec Ideal S2x1024 .f32) (x2 : Vec Ideal S1024 .f32)
  (x3 : Vec Ideal S1x1024x6144 .f32) (x4 x5 : Vec Ideal S1x2048 .f32) (x6 : Vec Ideal S1x8x128x128 .f32)
  (x7 : Vec Ideal S1x8x128 .f32) (x8 : Vec Ideal S1x2048x1024 .f32) (b : Fin 128) (t : Fin 4)

theorem ref_v14 (j : Fin 1024) : val_main_v14 (F := Ideal) x0 x1 (ix3 b t j) = rms (argWeights x1 x3 x4 x5 x6 x7 x8).g (seqRows x0 b t) j := by
  unfold rms rmsFactor argWeights seqRows
  dsimp only [val_main_v14, val_main_v11, val_main_v10, val_main_v9, val_main_v8, val_main_v6, val_main_v4, val_main_v3, val_main_v2]
  pointwise [val_main_v13, val_main_v12, val_main_v7,
    val_main_v5, val_main_v1, val_main_v0, val_main_cst, val_main_cst_0, val_main_cst_1]

theorem ref_v21 (j : Fin 6144) : val_main_v21 (F := Ideal) x0 x1 x3 (ix3 b t j) = proj (argWeights x1 x3 x4 x5 x6 x7 x8) (seqRows x0 b t) j := by
  unfold proj
  simp only [← ref_v14 x0 x1 x3 x4 x5 x6 x7 x8]
  unfold argWeights
  dsimp only [val_main_v21]
  generalize val_main_v14 (F := Ideal) x0 x1 = y
  pointwise [val_main_v15]

theorem gelu_eq (x : EReal) : x * (oneHalf * (1 + Ideal.tanh (scale * (x + cubic * ((x * x) * x))))) = gelu x := by
  rw [mul_comm (x * x) x, gelu]

theorem ref_v35 (d : Fin 2048) : val_main_v35 (F := Ideal) x0 x1 x3 (ix3 b t d) = uRow (argWeights x1 x3 x4 x5 x6 x7 x8) (seqRows x0 b t) d := by
  unfold uRow
  rw [← ref_v21 x0 x1 x3 x4 x5 x6 x7 x8, ← gelu_eq]
  dsimp only [val_main_v35, val_main_v34, val_main_v32, val_main_v30, val_main_v29, val_main_v27, val_main_v26, val_main_v24, val_main_v23, val_main_v22]
  generalize val_main_v21 (F := Ideal) x0 x1 x3 = y
  pointwise [val_main_v33, val_main_v31, val_main_v28, val_main_v25, val_main_cst_2, val_main_cst_3, val_main_cst_4, val_main_cst_5]

theorem ref_v49 (d : Fin 2048) : val_main_v49 (F := Ideal) x0 x1 x3 (ix3 b t d) = vPre (argWeights x1 x3 x4 x5 x6 x7 x8) (seqRows x0 b t) d := by
  unfold vPre
  rw [← ref_v21 x0 x1 x3 x4 x5 x6 x7 x8, ← gelu_eq]
  dsimp only [val_main_v49, val_main_v48, val_main_v46, val_main_v44, val_main_v43, val_main_v41, val_main_v40, val_main_v38, val_main_v37, val_main_v36]
  generalize val_main_v21 (F := Ideal) x0 x1 x3 = y
  pointwise [val_main_v47, val_main_v45, val_main_v42, val_main_v39, val_main_cst_6, val_main_cst_7, val_main_cst_8, val_main_cst_9]

theorem ref_v91 (d : Fin 2048) : val_main_v91 (F := Ideal) x0 x1 x3 (ix3 b t d) = gate (zRow (argWeights x1 x3 x4 x5 x6 x7 x8) (seqRows x0 b t) d) := by
  unfold zRow gate
  rw [← ref_v21 x0 x1 x3 x4 x5 x6 x7 x8]
  dsimp only [val_main_v91, val_main_call3_v5, val_main_call3_v3, val_main_call3_v1, val_main_call3_v0, val_main_v50]
  generalize val_main_v21 (F := Ideal) x0 x1 x3 = y
  pointwise [val_main_call3_v4, val_main_call3_v2, val_main_call3_cst, val_main_call3_cst_0]

theorem ref_v54 : val_main_v54 (F := Ideal) x0 x1 x3 (ix3 b t 0) = mean (vPre (argWeights x1 x3 x4 x5 x6 x7 x8) (seqRows x0 b t)) := by
  unfold mean
  simp only [← ref_v49 x0 x1 x3 x4 x5 x6 x7 x8]
  dsimp only [val_main_v54, val_main_v52, val_main_v51]
  generalize val_main_v49 (F := Ideal) x0 x1 x3 = y
  pointwise [val_main_v53, val_main_cst_10, val_main_cst_11]

theorem ref_v74 (d : Fin 2048) : val_main_v74 (F := Ideal) x0 x1 x3 x4 x5 (ix3 b t d) = vRow (argWeights x1 x3 x4 x5 x6 x7 x8) (seqRows x0 b t) d := by
  unfold vRow Mixer.norm
  simp only [← ref_v54 x0 x1 x3 x4 x5 x6 x7 x8, ← ref_v49 x0 x1 x3 x4 x5 x6 x7 x8]
  unfold argWeights
  dsimp only [val_main_v74, val_main_v71, val_main_v68, val_main_v67, val_main_v66, val_main_v65, val_main_v63, val_main_v62, val_main_v61, val_main_v59,
    val_main_v58, val_main_v57, val_main_v56, val_main_v55]
  generalize val_main_v49 (F := Ideal) x0 x1 x3 = y
  generalize val_main_v54 (F := Ideal) x0 x1 x3 = z
  pointwise [val_main_v73, val_main_v72, val_main_v70, val_main_v69, val_main_v64, val_main_v60, val_main_v17, val_main_v16,
    val_main_cst_12, val_main_cst_13, val_main_cst_14]

theorem ref_mask (g : Fin 8) (r s : Fin 128) : val_main_v81 (F := Ideal) x6 (ix3 g r s)
    = if s.val ≤ r.val then (argWeights x1 x3 x4 x5 x6 x7 x8).ws g r s else 0 := by
  unfold argWeights
  pointwise [val_main_v81, val_main_v80, val_main_v79, val_main_v78, val_main_v77, val_main_v18, val_main_c_15, val_main_cst_16,
    val_main_call1_v0, val_main_call1_c, val_main_call1_v1, val_main_call1_v2, val_main_call1_v3, val_main_call1_v4,
    val_main_call1_c_0, val_main_call1_v5, val_main_call2_v0]
  have hr : (BitVec.ofNat 32 r.val).toInt = r.val := by
    rw [BitVec.toInt_ofNat', Int.bmod_def]; omega
  have hs : (BitVec.ofNat 32 s.val).toInt = s.val := by
    rw [BitVec.toInt_ofNat', Int.bmod_def]; omega
  have e : IntOp.cmpi CmpIPredicate.sge (IntOp.addi (BitVec.ofNat 32 r.val) 0#32) (BitVec.ofNat 32 s.val)
      = BitVec.ofBool (decide (s.val ≤ r.val)) := by
    simp [IntOp.cmpi, IntOp.addi, BitVec.sle, hr, hs]
  rw [e]
  by_cases h : s.val ≤ r.val <;> simp [h, Scalar.select]

/-- A sequence's row in the padded chunk: its own, or zero. -/
theorem ref_v75 (s : Fin 128) (d : Fin 2048) : val_main_v75 (F := Ideal) x0 x1 x3 x4 x5 (ix3 b s d)
    = if h : s.val < 4 then val_main_v74 (F := Ideal) x0 x1 x3 x4 x5 (ix3 b ⟨s.val, h⟩ d) else 0 := by
  dsimp only [val_main_v75]
  generalize val_main_v74 (F := Ideal) x0 x1 x3 x4 x5 = y
  pointwise [val_main_call0_v0, val_main_c]
  refine dite_congr rfl (fun _ => rfl) fun _ => ?_
  show ((((0#32 : BitVec 32).toInt : ℤ) : ℝ) : EReal) = 0
  simp

/-- The mixed chunk before its re-layout: row `r`, group `g`, column `e` of the group. -/
theorem ref_v87 (r : Fin 128) (g : Fin 8) (e : Fin 256) :
    val_main_v87 (F := Ideal) x0 x1 x3 x4 x5 x6 x7 (ix5 b 0 r g e)
      = (∑ s : Fin 128, val_main_v75 (F := Ideal) x0 x1 x3 x4 x5 (ix3 b s ⟨g.val * 256 + e.val, by omega⟩)
            * val_main_v81 (F := Ideal) x6 (ix3 g r s)) + x7 (ix3 0 g r) := by
  dsimp only [val_main_v87, val_main_v83, val_main_v82, val_main_v76]
  generalize val_main_v75 (F := Ideal) x0 x1 x3 x4 x5 = y
  generalize val_main_v81 (F := Ideal) x6 = w
  pointwise [val_main_v86, val_main_v85, val_main_v84, val_main_v19]

/-- A sum over a chunk whose rows past the fourth vanish. -/
theorem sum_padded (f : Fin 128 → EReal) (h : ∀ s : Fin 128, 4 ≤ s.val → f s = 0) : ∑ s, f s = ∑ s : Fin 4, f ⟨s.val, by omega⟩ := by
  rw [sum_chunk, Fintype.sum_eq_single (0 : Fin 32)]
  · exact Finset.sum_congr rfl fun s _ => congrArg f (Fin.ext (by show 4 * 0 + s.val = s.val; omega))
  · refine fun a ha => Finset.sum_eq_zero fun s _ => h _ ?_
    have : a.val ≠ 0 := fun e => ha (Fin.ext e)
    show 4 ≤ 4 * a.val + s.val
    omega

/-- The mixed tokens, at a token and a column. -/
theorem ref_v89 (d : Fin 2048) : val_main_v89 (F := Ideal) x0 x1 x3 x4 x5 x6 x7 (ix3 b t d)
    = shortMixed (argWeights x1 x3 x4 x5 x6 x7 x8) (fun s => vRow (argWeights x1 x3 x4 x5 x6 x7 x8) (seqRows x0 b s)) t d := by
  have e : val_main_v89 (F := Ideal) x0 x1 x3 x4 x5 x6 x7 (ix3 b t d)
      = val_main_v87 (F := Ideal) x0 x1 x3 x4 x5 x6 x7 (ix5 b (0 : Fin 1)
          (⟨t.val, by omega⟩ : Fin 128) (⟨d.val / 256, by omega⟩ : Fin 8) (⟨d.val % 256, by omega⟩ : Fin 256)) := by
    dsimp only [val_main_v89, val_main_v88]
    generalize val_main_v87 (F := Ideal) x0 x1 x3 x4 x5 x6 x7 = y
    pointwise
  rw [e, ref_v87, sum_padded]
  · unfold shortMixed
    refine congrArg₂ (· + ·) (Finset.sum_congr rfl fun s _ => ?_) rfl
    rw [ref_v75, dif_pos s.isLt, ref_v74 x0 x1 x3 x4 x5 x6 x7 x8, ref_mask x1 x3 x4 x5 x6 x7 x8, mul_comm]
    have h₂ : d.val / 256 * 256 + d.val % 256 = d.val := by omega
    simp only [h₂]
  · intro s hs
    rw [ref_v75, dif_neg (by omega), zero_mul]

/-- A token's row after the mixer. -/
theorem ref_v94 (j : Fin 1024) : val_main_v94 (F := Ideal) x0 x1 x3 x4 x5 x6 x7 x8 (ix3 b t j)
    = shortAfter (argWeights x1 x3 x4 x5 x6 x7 x8) (seqRows x0 b) t j := by
  unfold shortAfter
  simp only [← ref_v35 x0 x1 x3 x4 x5 x6 x7 x8, ← ref_v89 x0 x1 x3 x4 x5 x6 x7 x8, ← ref_v91 x0 x1 x3 x4 x5 x6 x7 x8]
  unfold argWeights seqRows
  dsimp only [val_main_v94, val_main_v93, val_main_v92, val_main_v90]
  generalize val_main_v35 (F := Ideal) x0 x1 x3 = y₁
  generalize val_main_v89 (F := Ideal) x0 x1 x3 x4 x5 x6 x7 = y₂
  generalize val_main_v91 (F := Ideal) x0 x1 x3 = y₃
  pointwise [val_main_v20]

theorem ref_v107 (j : Fin 1024) : val_main_v107 (F := Ideal) x0 x1 x2 x3 x4 x5 x6 x7 x8 (ix3 b t j)
    = rms (fun j => x2 (ix1 j)) (shortAfter (argWeights x1 x3 x4 x5 x6 x7 x8) (seqRows x0 b) t) j := by
  unfold rms rmsFactor
  simp only [← ref_v94 x0 x1 x3 x4 x5 x6 x7 x8]
  dsimp only [val_main_v107, val_main_v104, val_main_v103, val_main_v102, val_main_v101, val_main_v99, val_main_v97, val_main_v96, val_main_v95]
  generalize val_main_v94 (F := Ideal) x0 x1 x3 x4 x5 x6 x7 x8 = y
  pointwise [val_main_v106, val_main_v105, val_main_v100, val_main_v98, val_main_cst_17, val_main_cst_18, val_main_cst_19]

/-- The reference's first array is the layer of its arguments. -/
theorem ref_layer : val_main_v108 (F := Ideal) x0 x1 x2 x3 x4 x5 x6 x7 x8
    = layer (argWeights x1 x3 x4 x5 x6 x7 x8) x0 (fun j => x2 (ix1 j)) := by
  refine funext fun (y : S512x1024.Idx) => ?_
  obtain ⟨n, j, rfl⟩ : ∃ (n : Fin 512) (j : Fin 1024), y = ix2 n j :=
    ⟨y 0, y 1, funext fun a => match a with | ⟨0, _⟩ => rfl | ⟨1, _⟩ => rfl⟩
  have e : val_main_v108 (F := Ideal) x0 x1 x2 x3 x4 x5 x6 x7 x8 (ix2 n j)
      = val_main_v107 (F := Ideal) x0 x1 x2 x3 x4 x5 x6 x7 x8 (ix3 (⟨n.val / 4, by omega⟩ : Fin 128) (⟨n.val % 4, by omega⟩ : Fin 4) j) := by
    dsimp only [val_main_v108]
    generalize val_main_v107 (F := Ideal) x0 x1 x2 x3 x4 x5 x6 x7 x8 = z
    pointwise
  rw [e, ref_v107]
  rfl

/-- Its second array is the gated half. -/
theorem ref_half : val_main_v109 (F := Ideal) x0 x1 x3 x4 x5 = gatedHalf (argWeights x1 x3 x4 x5 x6 x7 x8) x0 := by
  refine funext fun (y : S512x2048.Idx) => ?_
  obtain ⟨n, d, rfl⟩ : ∃ (n : Fin 512) (d : Fin 2048), y = ix2 n d :=
    ⟨y 0, y 1, funext fun a => match a with | ⟨0, _⟩ => rfl | ⟨1, _⟩ => rfl⟩
  have e : val_main_v109 (F := Ideal) x0 x1 x3 x4 x5 (ix2 n d)
      = val_main_v74 (F := Ideal) x0 x1 x3 x4 x5 (ix3 (⟨n.val / 4, by omega⟩ : Fin 128) (⟨n.val % 4, by omega⟩ : Fin 4) d) := by
    dsimp only [val_main_v109]
    generalize val_main_v74 (F := Ideal) x0 x1 x3 x4 x5 = z
    pointwise
  rw [e, ref_v74 x0 x1 x3 x4 x5 x6 x7 x8]
  rfl

/-- The reference's run, with both arrays read. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108)
        = layer (argWeights (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg0)) (fun j => ((m ((c.tc : Thread nD τ).loc main_arg2)) : Vec Ideal S1024 .f32) (ix1 j))
      ∧ r.2.mem ((c.tc : Thread nD τ).loc main_v109) = gatedHalf (argWeights (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans
    ((val_main_v108_eq (F := Ideal) (StableHlo.launchContents m c)).trans (ref_layer _ _ _ _ _ _ _ _ _)),
    (h c).2.1.trans ((val_main_v109_eq (F := Ideal) (StableHlo.launchContents m c)).trans (ref_half _ _ _ _ _ _ _ _)), (h c).2.2⟩)
    (Cert.Reference3Ideal.Value.run (F := Ideal) m ρ)

end Cert.Sample

end
-- ==== Proof.OutProj.Array.lean ====
/- What the output projection's array holds after its one point: every token's row of the layer's input plus its row of
   the mixer's output times the weights, the tokens laid out time by time. -/
module

public import proofs.«01_k».proof.Proof.Gen.Kernel4Ideal.Frame
public import Idealize.ShloMosaic.Lib.Pointwise
public import Idealize.ShloMosaic.Lib.VecWindow

@[expose] public section

noncomputable section

namespace Cert.OutProj

open Idealize.ShloMosaic Idealize.ShloMosaic.TcCoe Idealize.SL.Sem Cert.Kernel4Ideal Cert.Kernel4Ideal.Gen

theorem block_apply (x : Vec Ideal S512x1024 .f32) (o : Vec Ideal S512x2048 .f32) (w : Vec Ideal S2048x1024 .bf16) (i : Fin 512) (j : Fin 1024) :
    k0_pay1 (F := Ideal) x o w (ix2 i j) = x (ix2 i j) + ∑ k : Fin 2048, o (ix2 i k) * w (ix2 k j) := by
  pointwise [k0_pay1]

theorem load0 (x : Vec Ideal S512x1024 .f32) : View.ld x r0_0 = x := View.ld_unit_zero (by decide) _ x

theorem load1 (x : Vec Ideal S512x2048 .f32) : View.ld x r0_1 = x := View.ld_unit_zero (by decide) _ x

theorem load2 (x : Vec Ideal S2048x1024 .bf16) : View.ld x r0_2 = x := View.ld_unit_zero (by decide) _ x

theorem out_eq (o : Vec Ideal S512x2048 .f32) (w : Vec Ideal S2048x1024 .bf16) (x : Vec Ideal S512x1024 .f32) :
    out0_3 (F := Ideal) o w x = k0_pay1 (F := Ideal) x o w := by
  unfold out0_3
  rw [View.canon_unit_zero (by decide), load0, load1, load2]

/-- Token `t` of sequence `b`, at column `j`: its input, plus the mixer's output projected back. -/
def residual (x : Vec Ideal S128x4x1024 .f32) (o : Vec Ideal S4x128x2048 .f32) (w : Vec Ideal S1x2048x1024 .f32)
    (b : Fin 128) (t : Fin 4) (j : Fin 1024) : EReal :=
  x (ix3 b t j) + ∑ k : Fin 2048, o (ix3 t b k) * w (ix3 0 k j)

/-- All tokens, the row of token `t` of sequence `b` at `128 * t + b`. -/
def rows (x : Vec Ideal S128x4x1024 .f32) (o : Vec Ideal S4x128x2048 .f32) (w : Vec Ideal S1x2048x1024 .f32) : Vec Ideal S512x1024 .f32 :=
  fun i => residual x o w ⟨(i 0).val % 128, Nat.mod_lt _ (by omega)⟩ ⟨(i 0).val / 128, by have : (i 0).val < 512 := (i 0).isLt; omega⟩ (i 1)

variable (m : (ℓ : Loc nD τ sig) → Buf (Elt Ideal) ℓ) (c : Dev nD)

theorem V_v3 (i : Fin 512) (k : Fin 1024) :
    (V m c main_v3 : Vec Ideal S512x1024 .f32) (ix2 i k)
      = (m ((c : Thread nD τ).loc main_arg0) : Vec Ideal S128x4x1024 .f32) (ix3 ⟨i.val % 128, by omega⟩ ⟨i.val / 128, by omega⟩ k) := by
  unfold V V0; simp only [hostOps0, List.flatten_cons, List.flatten_nil, List.append_nil]; after_results_simp
  generalize m (c, main_arg0) = a
  pointwise

theorem V_v4 (i : Fin 512) (k : Fin 2048) :
    (V m c main_v4 : Vec Ideal S512x2048 .f32) (ix2 i k)
      = (m ((c : Thread nD τ).loc main_arg1) : Vec Ideal S4x128x2048 .f32) (ix3 ⟨i.val / 128, by omega⟩ ⟨i.val % 128, by omega⟩ k) := by
  unfold V V0; simp only [hostOps0, List.flatten_cons, List.flatten_nil, List.append_nil]; after_results_simp
  generalize m (c, main_arg1) = a
  pointwise

theorem V_v1 (k : Fin 2048) (j : Fin 1024) :
    (V m c main_v1 : Vec Ideal S2048x1024 .bf16) (ix2 k j) = (m ((c : Thread nD τ).loc main_arg2) : Vec Ideal S1x2048x1024 .f32) (ix3 0 k j) := by
  unfold V V0; simp only [hostOps0, List.flatten_cons, List.flatten_nil, List.append_nil]; after_results_simp
  generalize m (c, main_arg2) = a
  pointwise

/-! ### The windows' blocks -/

theorem index_eq : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

theorem iblk0 (t : Fin cfg0.N) : iblk m c 0 t = V m c main_v4 := by
  refine funext fun i => congrArg (V m c main_v4) (funext fun a => Fin.ext ?_)
  obtain ⟨h0, h1⟩ := (index_eq t).1
  match a with
  | ⟨0, _⟩ => show win0_0.index t (0 : Fin 2) * 512 + 1 * (i 0).val = (i 0).val; omega
  | ⟨1, _⟩ => show win0_0.index t (1 : Fin 2) * 2048 + 1 * (i 1).val = (i 1).val; omega

theorem iblk1 (t : Fin cfg0.N) : iblk m c 1 t = V m c main_v1 := by
  refine funext fun i => congrArg (V m c main_v1) (funext fun a => Fin.ext ?_)
  obtain ⟨h0, h1⟩ := (index_eq t).2.1
  match a with
  | ⟨0, _⟩ => show win0_1.index t (0 : Fin 2) * 2048 + 1 * (i 0).val = (i 0).val; omega
  | ⟨1, _⟩ => show win0_1.index t (1 : Fin 2) * 1024 + 1 * (i 1).val = (i 1).val; omega

theorem iblk2 (t : Fin cfg0.N) : iblk m c 2 t = V m c main_v3 := by
  refine funext fun i => congrArg (V m c main_v3) (funext fun a => Fin.ext ?_)
  obtain ⟨h0, h1⟩ := (index_eq t).2.2.1
  match a with
  | ⟨0, _⟩ => show win0_2.index t (0 : Fin 2) * 512 + 1 * (i 0).val = (i 0).val; omega
  | ⟨1, _⟩ => show win0_2.index t (1 : Fin 2) * 1024 + 1 * (i 1).val = (i 1).val; omega

theorem emb3 (t : Fin cfg0.N) (i : S512x1024.Idx) : ((cfg0.win 3).blk t).view.emb i = i := by
  refine funext fun a => Fin.ext ?_
  obtain ⟨h0, h1⟩ := (index_eq t).2.2.2
  match a with
  | ⟨0, _⟩ => show win0_3.index t (0 : Fin 2) * 512 + 1 * (i 0).val = (i 0).val; omega
  | ⟨1, _⟩ => show win0_3.index t (1 : Fin 2) * 1024 + 1 * (i 1).val = (i 1).val; omega

/-! ### The array -/

/-- The arguments the launch has in memory, put through the projection. -/
abbrev array : Vec Ideal S512x1024 .f32 :=
  rows (m ((c : Thread nD τ).loc main_arg0)) (m ((c : Thread nD τ).loc main_arg1)) (m ((c : Thread nD τ).loc main_arg2))

theorem out_apply (t : Fin cfg0.N) (i : Fin 512) (j : Fin 1024) :
    out0_3 (F := Ideal) (iblk m c 0 t) (iblk m c 1 t) (iblk m c 2 t) (ix2 i j) = array m c (ix2 i j) := by
  rw [out_eq, block_apply, iblk0, iblk1, iblk2]
  exact congrArg₂ _ (V_v3 m c i j) (Finset.sum_congr rfl fun k _ => congrArg₂ _ (V_v4 m c i k) (V_v1 m c k j))

theorem flushed_eq (t : Fin cfg0.N) :
    (dats m 0 c).flushed 3 t = ((cfg0.win 3).blk t).view.read (Elt Ideal) (array m c) := by
  show (cfg0.win 3).cut _ ((dats m 0 c).after 3 t) = _
  rw [after0_3]
  refine funext fun (y : S512x1024.Idx) => ?_
  obtain ⟨i, j, rfl⟩ : ∃ (i : Fin 512) (j : Fin 1024), y = ix2 i j :=
    ⟨y 0, y 1, funext fun a => match a with | ⟨0, _⟩ => rfl | ⟨1, _⟩ => rfl⟩
  show out0_3 (F := Ideal) (iblk m c 0 t) (iblk m c 1 t) (iblk m c 2 t) (ix2 i j) = array m c (((cfg0.win 3).blk t).view.emb (ix2 i j))
  rw [emb3, out_apply]

theorem cover (i : S512x1024.Idx) : ∃ t : Fin cfg0.N, (cfg0.win 3).flush t = true ∧ i ∈ ((cfg0.win 3).blk t).view.set :=
  ⟨t0_0, flush0_3 t0_0, emb3 t0_0 i ▸ View.emb_mem_set _ _⟩

theorem final : (dats m 0 c).arrAt 3 cfg0.N = array m c :=
  (dats m 0 c).arrAt_eq_of_cover 3 (array m c) (fun t _ => flushed_eq m c t) cover

end Cert.OutProj

end
-- ==== Proof.OutProj.Tail.lean ====
/- The output projection's run: the array the host lines after the region leave, read from the call's array. -/
module

public import proofs.«01_k».proof.Proof.OutProj.Array

@[expose] public section

noncomputable section

namespace Cert.OutProj

open Idealize.ShloMosaic Idealize.ShloMosaic.TcCoe Idealize.SL.Sem Cert.Kernel4Ideal Cert.Kernel4Ideal.Gen

/-- The projection, sequence by sequence. -/
def bySequence (x : Vec Ideal S128x4x1024 .f32) (o : Vec Ideal S4x128x2048 .f32) (w : Vec Ideal S1x2048x1024 .f32) : Vec Ideal S128x4x1024 .f32 :=
  fun i => residual x o w (i 0) (i 1) (i 2)

variable (m : (ℓ : Loc nD τ sig) → Buf (Elt Ideal) ℓ) (ρ : Dev nD → PrngReg) (c : Dev nD)

/-- The launch's arguments, put through the projection. -/
abbrev result : Vec Ideal S128x4x1024 .f32 :=
  bySequence (m ((c : Thread nD τ).loc main_arg0)) (m ((c : Thread nD τ).loc main_arg1)) (m ((c : Thread nD τ).loc main_arg2))

/-- The call's array, as the lines after the region find it. -/
theorem exit_array : Pipeline.withArrays (cfgs 0).spec c (V0 m c) (fun w => (dats m 0 c).arrAt w (cfgs 0).N) (Proc.devRef .tc main_v5) = array m c :=
  (Pipeline.withArrays_arr (cfgs 0).spec (by decide) c (V0 m c) _ 3).trans (final m c)

/-- The array's row of token `t` of sequence `b`. -/
theorem array_row (t : Fin 4) (b : Fin 128) (j : Fin 1024) :
    array m c (ix2 (⟨t.val * 128 + b.val, by omega⟩ : Fin 512) j)
      = residual (m ((c : Thread nD τ).loc main_arg0)) (m ((c : Thread nD τ).loc main_arg1)) (m ((c : Thread nD τ).loc main_arg2)) b t j := by
  refine congrArg₂ (fun b t => residual _ _ _ b t j) (Fin.ext ?_) (Fin.ext ?_)
  · show (t.val * 128 + b.val) % 128 = b.val
    omega
  · show (t.val * 128 + b.val) / 128 = t.val
    omega

theorem tail : Pipeline.afterTail₀ cfgs (dats m) 0 (V0 m) [hostOps1] c main_v7 = result m c := by
  have h := exit_array m c
  unfold Pipeline.afterTail₀
  revert h
  generalize Pipeline.withArrays (cfgs 0).spec c (V0 m c) (fun w => (dats m 0 c).arrAt w (cfgs 0).N) = W
  intro h
  simp only [hostOps1, List.flatten_cons, List.flatten_nil, List.append_nil]; after_results_simp
  rw [h]
  refine funext fun (y : S128x4x1024.Idx) => ?_
  obtain ⟨b, t, j, rfl⟩ : ∃ (b : Fin 128) (t : Fin 4) (j : Fin 1024), y = ix3 b t j :=
    ⟨y 0, y 1, y 2, funext fun a => match a with | ⟨0, _⟩ => rfl | ⟨1, _⟩ => rfl | ⟨2, _⟩ => rfl⟩
  refine Eq.trans ?_ (array_row m c t b j)
  generalize array m c = z
  pointwise

/-- The run, with the array read. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v7 (Pipeline.mem_restRefs_of main_v7 (by decide) (by decide))).trans (tail m c), h.2 c⟩)
    (θ_run_and (run_main m ρ) (unchanged m ρ))

end Cert.OutProj

end
-- ==== Proof.OutProj.Ref.lean ====
/- The output projection's reference: its array is the same function of the arguments. -/
module

public import proofs.«01_k».proof.Proof.OutProj.Tail
public import proofs.«01_k».proof.Proof.Gen.Reference4Ideal.Read

@[expose] public section

noncomputable section

namespace Cert.OutProj

open Idealize.ShloMosaic Idealize.SL.Sem Cert.Reference4Ideal Cert.Reference4Ideal.Read

variable (x0 : Vec Ideal S128x4x1024 .f32) (x1 : Vec Ideal S4x128x2048 .f32) (x2 : Vec Ideal S1x2048x1024 .f32)

theorem ref_v3 : val_main_v3 (F := Ideal) x0 x1 x2 = bySequence x0 x1 x2 := by
  refine funext fun (y : S128x4x1024.Idx) => ?_
  obtain ⟨b, t, j, rfl⟩ : ∃ (b : Fin 128) (t : Fin 4) (j : Fin 1024), y = ix3 b t j :=
    ⟨y 0, y 1, y 2, funext fun a => match a with | ⟨0, _⟩ => rfl | ⟨1, _⟩ => rfl | ⟨2, _⟩ => rfl⟩
  show _ = residual x0 x1 x2 b t j
  unfold residual
  pointwise [val_main_v3, val_main_v2, val_main_v1, val_main_v0]

/-- The reference's run, with its array read. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = bySequence (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v3_eq (F := Ideal) _ _ _).trans (ref_v3 _ _ _)), (h c).2⟩)
    (Cert.Reference4Ideal.Value.run (F := Ideal) m ρ)

end Cert.OutProj

end
-- ==== Proof.Wkv.Spec.lean ====
/- The scalars of the recurrence: what each token gives it, and the two forms in which the decay and the removal key are
   written. -/
module

public import proofs.«01_k».proof.Proof.Spec

@[expose] public section

noncomputable section

namespace Cert.Wkv

open Idealize.ShloMosaic

/-- A column of the projection mixed with the column one token earlier. -/
def mix (p : Fin 4 → EReal) (q mu : EReal) (t : Fin 4) : EReal := p t + ((![q, p 0, p 1, p 2] : Fin 4 → EReal) t - p t) * mu

/-- The decay of a column of the state. -/
def decay (x : EReal) : EReal := Ideal.exp (-(Ideal.exp ((-(1 / 2) : ℝ) : EReal) * Ideal.logistic x))

/-- The least length that a vector is scaled by: the single-precision number next to 1/10¹². -/
abbrev floor : ℝ := 2305843 / 2305843009213693952

/-- A head's vector scaled to unit length, the length held away from zero. -/
def unit (x : Fin 64 → EReal) (j : Fin 64) : EReal :=
  Ideal.div (x j) (max (Ideal.sqrt (∑ i, x i * x i)) ((floor : ℝ) : EReal))

/-- The key of a column, weakened where the rate of learning is low. -/
def key (k a ka : EReal) : EReal := k * (1 + (a - 1) * ka)

/-- One step of the recurrence: the row decays, and takes up its product with the removal key and the new value. -/
def step (s a w b k : Fin 64 → EReal) (v : EReal) : Fin 64 → EReal :=
  fun j => s j * w j + (∑ i, s i * a i) * b j + v * k j

/-- A row of the state after the four steps, given each step's vectors. -/
def steps (s : Fin 64 → EReal) (u : Fin 6 → Fin 4 → Fin 64 → EReal) (v : Fin 4 → EReal) : Fin 64 → EReal :=
  step (step (step (step s (u 0 0) (u 1 0) (u 2 0) (u 3 0) (v 0)) (u 0 1) (u 1 1) (u 2 1) (u 3 1) (v 1))
    (u 0 2) (u 1 2) (u 2 2) (u 3 2) (v 2)) (u 0 3) (u 1 3) (u 2 3) (u 3 3) (v 3)

/-- A row of the state after the four steps, given the keys, the values, and what the two low-rank maps give. -/
def newRow (s : Fin 64 → EReal) (k : Fin 4 → Fin 64 → EReal) (v : Fin 4 → EReal) (wf af : Fin 4 → Fin 64 → EReal)
    (kk ka : Fin 64 → EReal) : Fin 64 → EReal :=
  steps s (fun p t j => (![-(unit (fun i => k t i * kk i) j), decay (wf t j), unit (fun i => k t i * kk i) j * Ideal.logistic (af t j),
    key (k t j) (Ideal.logistic (af t j)) (ka j), 0, 0] : Fin 6 → EReal) p) v

/-! ### The decay through softplus -/

theorem logistic_bot : Ideal.logistic ⊥ = 0 := by
  have e : (1 : EReal) + ⊤ = ⊤ := by rw [← EReal.coe_one]; exact EReal.coe_add_top 1
  simp [Ideal.logistic, Ideal.div, e]

theorem logistic_top : Ideal.logistic ⊤ = 1 := by
  rw [Ideal.logistic, EReal.neg_top, Mixer.exp_bot, add_zero, ← EReal.coe_one, Ideal.div_coe one_ne_zero]
  norm_num

theorem logistic_coe (r : ℝ) : Ideal.logistic (r : EReal) = ((1 / (1 + Real.exp (-r)) : ℝ) : EReal) := by
  have hpos : (1 + Real.exp (-r) : ℝ) ≠ 0 := by positivity
  rw [Ideal.logistic, ← EReal.coe_neg, Mixer.exp_coe, ← EReal.coe_one, ← EReal.coe_add, Ideal.div_coe hpos, EReal.coe_one, one_mul]

theorem coe_max (a b : ℝ) : ((max a b : ℝ) : EReal) = max (a : EReal) (b : EReal) := EReal.coe_strictMono.monotone.map_max

theorem coe_min (a b : ℝ) : ((min a b : ℝ) : EReal) = min (a : EReal) (b : EReal) := EReal.coe_strictMono.monotone.map_min

theorem log_one : Ideal.log 1 = 0 := by
  show (if (1 : ℝ) ≤ 0 then (⊥ : EReal) else ((Real.log 1 : ℝ) : EReal)) = 0
  rw [if_neg (by norm_num), Real.log_one, EReal.coe_zero]

/-- The softplus of the reference, at a value. -/
def softplus (y : EReal) : EReal := max y 0 + Ideal.log1p (Ideal.exp (-(max (y - 0) (-(y - 0)))))

theorem softplus_coe (r : ℝ) : softplus (r : EReal) = ((Real.log (1 + Real.exp r) : ℝ) : EReal) := by
  have h : ∀ a : ℝ, Ideal.log1p (Ideal.exp (a : EReal)) = ((Real.log (1 + Real.exp a) : ℝ) : EReal) := fun a => by
    have hp : ¬ (1 + Real.exp a ≤ 0) := by have := Real.exp_pos a; linarith
    rw [Mixer.exp_coe, Ideal.log1p, ← EReal.coe_one, ← EReal.coe_add]
    show (if 1 + Real.exp a ≤ 0 then (⊥ : EReal) else ((Real.log (1 + Real.exp a) : ℝ) : EReal)) = _
    rw [if_neg hp]
  have hp := Real.exp_pos r
  have hp' := Real.exp_pos (-r)
  have hr : Real.exp r * Real.exp (-r) = 1 := by rw [← Real.exp_add]; simp
  unfold softplus
  rw [sub_zero, ← EReal.coe_neg, ← EReal.coe_zero, ← coe_max, ← coe_max, ← EReal.coe_neg, h, ← EReal.coe_add]
  congr 1
  rcases le_total 0 r with h0 | h0
  · rw [max_eq_left h0, max_eq_left (by linarith)]
    have : 1 + Real.exp r = Real.exp r * (1 + Real.exp (-r)) := by rw [mul_add, hr]; ring
    rw [this, Real.log_mul hp.ne' (by positivity), Real.log_exp]
  · rw [max_eq_right h0, max_eq_right (by linarith), neg_neg, zero_add]

theorem decay_softplus (x : EReal) : Ideal.exp (-(Ideal.exp (-(softplus (-x)) - ((1 / 2 : ℝ) : EReal)))) = decay x := by
  unfold decay
  congr 2
  induction x with
  | bot =>
    rw [logistic_bot, mul_zero, EReal.neg_bot]
    have : softplus ⊤ = ⊤ := by simp [softplus, Ideal.log1p, Mixer.exp_bot, log_one]
    rw [this, EReal.neg_top, EReal.bot_sub, Mixer.exp_bot]
  | top =>
    rw [logistic_top, mul_one, EReal.neg_top]
    have : softplus ⊥ = 0 := by simp [softplus, Ideal.log1p, log_one]
    rw [this]
    simp
  | coe r =>
    have hp := Real.exp_pos (-r)
    rw [← EReal.coe_neg, softplus_coe, logistic_coe, ← EReal.coe_neg, ← EReal.coe_sub, Mixer.exp_coe, Mixer.exp_coe, ← EReal.coe_mul]
    congr 1
    rw [sub_eq_add_neg, Real.exp_add, Real.exp_neg (Real.log _), Real.exp_log (by positivity)]
    ring

/-! ### The unit vector through the reciprocal root -/

theorem sq_nonneg' (x : EReal) : 0 ≤ x * x := by
  induction x with
  | bot => simp
  | top => simp
  | coe r => rw [← EReal.coe_mul]; exact_mod_cast mul_self_nonneg r

theorem unit_rsqrt (x : Fin 64 → EReal) (j : Fin 64) :
    x j * min (Ideal.rsqrt (∑ i, x i * x i)) ((floor⁻¹ : ℝ) : EReal) = unit x j := by
  unfold unit
  have hf : 0 < floor := by norm_num
  have hf' : 0 < floor⁻¹ := inv_pos.2 hf
  generalize floor = f at hf hf' ⊢
  have h0 : 0 ≤ ∑ i, x i * x i := Finset.sum_nonneg fun i _ => sq_nonneg' (x i)
  generalize (∑ i, x i * x i) = s at h0 ⊢
  induction s with
  | bot => simp at h0
  | top => simp [Ideal.div, hf'.le, hf.le]
  | coe r =>
    have hr : 0 ≤ r := by exact_mod_cast h0
    rw [Ideal.rsqrt_coe, Ideal.sqrt_coe, if_neg (not_lt.2 hr), if_neg (not_lt.2 hr), ← coe_max, Ideal.div_coe (by positivity)]
    congr 1
    rcases hr.eq_or_lt with rfl | hpos
    · rw [if_pos rfl, Real.sqrt_zero, max_eq_right hf.le, min_eq_right le_top, one_div]
    · rw [if_neg hpos.ne', ← coe_min]
      congr 1
      have hs : 0 < Real.sqrt r := Real.sqrt_pos.2 hpos
      rcases le_total (Real.sqrt r) f with h | h
      · rw [max_eq_right h, min_eq_right, one_div]
        exact inv_anti₀ hs h
      · rw [max_eq_left h, min_eq_left, one_div]
        exact inv_anti₀ hf h

end Cert.Wkv

end
-- ==== Proof.Wkv.Step.lean ====
/- One step of the recurrence on one row of the state: the kernel's vector operations, read at an index. -/
module

public import proofs.«01_k».proof.Proof.Wkv.Spec
public import proofs.«01_k».proof.Proof.Gen.Kernel5Ideal.Loops
public import Idealize.ShloMosaic.Lib.Pointwise

@[expose] public section

noncomputable section

namespace Cert.Wkv

open Idealize.ShloMosaic Idealize.ShloMosaic.TcCoe Cert.Kernel5Ideal Cert.Kernel5Ideal.Gen

/-- One step of the recurrence in the kernel's vector operations, on one row of the state for every token of the batch. -/
def rowStep (s : FVec Ideal S64x128 .f32) (a w b k : Vec Ideal S1x1x64x128 .f32) (v : FVec Ideal S1x128 .f32) :
    FVec Ideal S64x128 .f32 :=
  addf (addf (mulf s (shapeCast S64x128 w shapeCasts_S1x1x64x128_S64x128))
      (mulf (broadcastTo S64x128 (shapeCast S1x128
          (multiReduction .add [0] S128 (mulf s (shapeCast S64x128 a shapeCasts_S1x1x64x128_S64x128)) 0x00000000#32
            reduces_S64x128_S128 (.inl rfl) rfl) shapeCasts_S128_S1x128) broadcasts_S1x128_S64x128)
        (shapeCast S64x128 b shapeCasts_S1x1x64x128_S64x128)))
    (mulf (broadcastTo S64x128 v broadcasts_S1x128_S64x128) (shapeCast S64x128 k shapeCasts_S1x1x64x128_S64x128))

theorem rowStep_apply (s : FVec Ideal S64x128 .f32) (a w b k : Vec Ideal S1x1x64x128 .f32) (v : FVec Ideal S1x128 .f32)
    (j : Fin 64) (l : Fin 128) :
    rowStep s a w b k v (ix2 j l) = step (fun j => s (ix2 j l)) (fun j => a (ix4 0 0 j l)) (fun j => w (ix4 0 0 j l))
      (fun j => b (ix4 0 0 j l)) (fun j => k (ix4 0 0 j l)) (v (ix2 0 l)) j := by
  pointwise [rowStep, step]

end Cert.Wkv

end
-- ==== Proof.Wkv.Trip.lean ====
/- One trip of each of the two loops over a head's rows: eight rows of the state, each taken through the four steps. -/
module

public import proofs.«01_k».proof.Proof.Wkv.Step

@[expose] public section

noncomputable section

namespace Cert.Wkv

open Idealize.ShloMosaic Idealize.ShloMosaic.TcCoe Cert.Kernel5Ideal Cert.Kernel5Ideal.Gen

/-- The four steps on a row of the state, in the kernel's vector operations. -/
def rowSteps (s : Vec Ideal S1x1x64x128 .f32) (u : Fin 6 → Fin 4 → Vec Ideal S1x1x64x128 .f32)
    (v : Fin 4 → FVec Ideal S1x128 .f32) : FVec Ideal S1x1x64x128 .f32 :=
  shapeCast S1x1x64x128
    (rowStep (rowStep (rowStep (rowStep (shapeCast S64x128 s shapeCasts_S1x1x64x128_S64x128)
      (u 0 0) (u 1 0) (u 2 0) (u 3 0) (v 0)) (u 0 1) (u 1 1) (u 2 1) (u 3 1) (v 1))
      (u 0 2) (u 1 2) (u 2 2) (u 3 2) (v 2)) (u 0 3) (u 1 3) (u 2 3) (u 3 3) (v 3)) shapeCasts_S64x128_S1x1x64x128

theorem rowSteps_apply (s : Vec Ideal S1x1x64x128 .f32) (u : Fin 6 → Fin 4 → Vec Ideal S1x1x64x128 .f32)
    (v : Fin 4 → FVec Ideal S1x128 .f32) (j : Fin 64) (l : Fin 128) :
    rowSteps s u v (ix4 0 0 j l)
      = steps (fun j => s (ix4 0 0 j l)) (fun p t j => u p t (ix4 0 0 j l)) (fun t => v t (ix2 0 l)) j := by
  unfold rowSteps steps
  pointwise []
  simp only [rowStep_apply]
  pointwise []

variable (𝒱 : Variants) (c : Dev nD) (bd : Option 𝒱.V) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole) (v89 : FVec Ideal S512x128 .f32) (v292 : FVec Ideal S1x1x128x128 .f32) (X_arg24 : BufTy.Contents (Elt Ideal) arg24.view.ty) (X_arg27 : BufTy.Contents (Elt Ideal) arg27.view.ty)

/-- What the loops leave in a cell of the state, given the state before and the vectors of the four steps. -/
def rowsOut (s : S2x64x64x128.Idx → EReal) (u : S6x4x128x128.Idx → EReal) (y : S2x64x64x128.Idx) : EReal :=
  steps (fun j => s (ix4 (y 0) (y 1) j (y 3)))
    (fun p t j => u (ix4 p t ⟨64 * (y 0).val + j.val, by have h : (y 0).val < 2 := (y 0).isLt; omega⟩ (y 3)))
    (fun t => u (ix4 5 t ⟨64 * (y 0).val + (y 1).val, by have h : (y 0).val < 2 := (y 0).isLt; have h' : (y 1).val < 64 := (y 1).isLt; omega⟩ (y 3))) (y 2)

/-- One vector of one step, as the loop over head `h` loads it. -/
def slab (h : Fin 2) (X : BufTy.Contents (Elt Ideal) arg27.view.ty) (p : Fin 6) (t : Fin 4) : Vec Ideal S1x1x64x128 .f32 :=
  View.readAt (Elt Ideal) arg27.view (Rect.unit (s := S6x4x128x128) ![p.val, t.val, 64 * h.val, 0] S1x1x64x128.size
    (by revert p t h; decide)).toLoadRect X

theorem slab_apply (h : Fin 2) (X : BufTy.Contents (Elt Ideal) arg27.view.ty) (p : Fin 6) (t : Fin 4) (j : Fin 64) (l : Fin 128) :
    slab arg27 h X p t (ix4 0 0 j l) = arg27.view.read (Elt Ideal) X (ix4 p t ⟨64 * h.val + j.val, by omega⟩ l) := by
  refine congrArg (arg27.view.read (Elt Ideal) X) (funext fun a => Fin.ext ?_)
  fin_cases a <;> simp [Rect.unit, LoadRect.idx, Rect.toLoadRect]

/-- The row of values of one step, as a trip loads its eight and takes the `u`-th. -/
def vals (X : BufTy.Contents (Elt Ideal) arg27.view.ty) (off : Fin 4 → ℕ) (inb : ∀ a, off a + S1x1x8x128.size a ≤ S6x4x128x128.size a)
    (u : Fin 8) : FVec Ideal S1x128 .f32 :=
  extractStridedSlice S1x128 ![u.val, 0] (shapeCast S8x128 (View.readAt (Elt Ideal) arg27.view
    (Rect.unit (s := S6x4x128x128) off S1x1x8x128.size inb).toLoadRect X) shapeCasts_S1x1x8x128_S8x128) (by revert u; decide)

theorem vals_apply (X : BufTy.Contents (Elt Ideal) arg27.view.ty) (off : Fin 4 → ℕ) (inb) (u : Fin 8) (t : Fin 4) (o : Fin 128)
    (ho : ∃ k, off = ![5, t.val, k, 0] ∧ o.val = k + u.val) (l : Fin 128) :
    vals arg27 X off inb u (ix2 0 l) = arg27.view.read (Elt Ideal) X (ix4 5 t o l) := by
  obtain ⟨k, rfl, h⟩ := ho
  unfold vals
  rw [extractStridedSlice_apply (k := ix2 u l) (hk := fun a => by fin_cases a <;> simp)]
  rw [shapeCast_apply (k := ix4 0 0 u l) (hk := by
    rw [Shape.rowMajor_val_four, Shape.rowMajor_val_two]
    simp)]
  refine congrArg (arg27.view.read (Elt Ideal) X) (funext fun a => Fin.ext ?_)
  fin_cases a <;> simp [Rect.unit, LoadRect.idx, Rect.toLoadRect, h]

theorem row_out (h : Fin 2) (o : Fin 64) (X24 : BufTy.Contents (Elt Ideal) arg24.view.ty) (X27 : BufTy.Contents (Elt Ideal) arg27.view.ty)
    (off : Fin 4 → ℕ) (inb) (hoff : off = ![h.val, o.val, 0, 0]) (offs : Fin 4 → Fin 4 → ℕ)
    (inbs : ∀ t a, offs t a + S1x1x8x128.size a ≤ S6x4x128x128.size a) (u : Fin 8)
    (hoffs : ∀ t, ∃ k, offs t = ![5, t.val, k, 0] ∧ 64 * h.val + o.val = k + u.val) (x : S1x1x64x128.Idx) :
    rowSteps (View.readAt (Elt Ideal) arg24.view (Rect.unit (s := S2x64x64x128) off S1x1x64x128.size inb).toLoadRect X24)
        (slab arg27 h X27) (fun t => vals arg27 X27 (offs t) (inbs t) u) x
      = rowsOut (arg24.view.read (Elt Ideal) X24) (arg27.view.read (Elt Ideal) X27)
        ((Rect.unit (s := S2x64x64x128) off S1x1x64x128.size inb).emb x) := by
  subst hoff
  obtain ⟨j, l, rfl⟩ : ∃ j l, x = ix4 0 0 j l := ⟨x 2, x 3, funext fun a => by fin_cases a <;> first | rfl | exact Subsingleton.elim (α := Fin 1) _ _⟩
  rw [rowSteps_apply]
  have e : (Rect.unit (s := S2x64x64x128) ![h.val, o.val, 0, 0] S1x1x64x128.size inb).emb (ix4 0 0 j l) = ix4 h o j l := by
    refine funext fun a => Fin.ext ?_
    fin_cases a <;> simp [Rect.unit, Rect.emb]
  have e' : ∀ i : Fin 64, View.readAt (Elt Ideal) arg24.view (Rect.unit (s := S2x64x64x128) ![h.val, o.val, 0, 0] S1x1x64x128.size inb).toLoadRect X24
      (ix4 0 0 i l) = arg24.view.read (Elt Ideal) X24 (ix4 h o i l) := fun i => by
    refine congrArg (arg24.view.read (Elt Ideal) X24) (funext fun a => Fin.ext ?_)
    fin_cases a <;> simp [Rect.unit, LoadRect.idx, Rect.toLoadRect]
  have e'' : ∀ t, vals arg27 X27 (offs t) (inbs t) u (ix2 0 l) = arg27.view.read (Elt Ideal) X27 (ix4 5 t ⟨64 * h.val + o.val, by omega⟩ l) :=
    fun t => vals_apply arg27 X27 (offs t) (inbs t) u t _ (hoffs t) l
  rw [e]
  simp only [slab_apply, e', e'']
  rfl

/-- The rows of the first head, as one trip stores them. -/
theorem trip1_out (k : Fin k0_t1_loop.trips) (p) (hp : p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 k).1) (x : p.1.shape.Idx) :
    p.2 x = rowsOut (arg24.view.read (Elt Ideal) X_arg24) (arg27.view.read (Elt Ideal) X_arg27) (p.1.emb x) := by
  have hk : k.val < 8 := Nat.lt_of_lt_of_le k.isLt k0_t1_abs.2.1
  have key := fun (u : Fin 8) inb => row_out arg24 arg27 0 ⟨8 * k.val + u.val, by have := u.isLt; omega⟩ X_arg24 X_arg27
    (k0_off5 k (BitVec.ofNat 32 u.val)) inb (k0_off5_eq k u) ![k0_off1 k, k0_off2 k, k0_off3 k, k0_off4 k]
    (fun t => by fin_cases t <;> first | exact k0_off1_inb k | exact k0_off2_inb k | exact k0_off3_inb k | exact k0_off4_inb k) u
    (fun t => ⟨8 * k.val, by fin_cases t <;> first | exact k0_off1_eq k | exact k0_off2_eq k | exact k0_off3_eq k | exact k0_off4_eq k, by simp⟩)
  unfold trip_k0_t1 at hp
  dsimp only at hp
  simp only [List.mem_cons, List.mem_nil_iff, or_false] at hp
  rcases hp with rfl | rfl | rfl | rfl | rfl | rfl | rfl | rfl
  · exact key 7 _ x
  · exact key 6 _ x
  · exact key 5 _ x
  · exact key 4 _ x
  · exact key 3 _ x
  · exact key 2 _ x
  · exact key 1 _ x
  · exact key 0 _ x

/-- The rows of the second head, as one trip stores them. -/
theorem trip2_out (k : Fin k0_t2_loop.trips) (p) (hp : p ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 k).1) (x : p.1.shape.Idx) :
    p.2 x = rowsOut (arg24.view.read (Elt Ideal) X_arg24) (arg27.view.read (Elt Ideal) X_arg27) (p.1.emb x) := by
  have hk : k.val < 8 := Nat.lt_of_lt_of_le k.isLt k0_t2_abs.2.1
  have key := fun (u : Fin 8) inb => row_out arg24 arg27 1 ⟨8 * k.val + u.val, by have := u.isLt; omega⟩ X_arg24 X_arg27
    (k0_off14 k (BitVec.ofNat 32 u.val)) inb (k0_off14_eq k u) ![k0_off10 k, k0_off11 k, k0_off12 k, k0_off13 k]
    (fun t => by fin_cases t <;> first | exact k0_off10_inb k | exact k0_off11_inb k | exact k0_off12_inb k | exact k0_off13_inb k) u
    (fun t => ⟨8 * k.val + 64, by fin_cases t <;> first | exact k0_off10_eq k | exact k0_off11_eq k | exact k0_off12_eq k | exact k0_off13_eq k, by show 64 * 1 + (8 * k.val + u.val) = 8 * k.val + 64 + u.val; omega⟩)
  unfold trip_k0_t2 at hp
  dsimp only at hp
  simp only [List.mem_cons, List.mem_nil_iff, or_false] at hp
  rcases hp with rfl | rfl | rfl | rfl | rfl | rfl | rfl | rfl
  · exact key 7 _ x
  · exact key 6 _ x
  · exact key 5 _ x
  · exact key 4 _ x
  · exact key 3 _ x
  · exact key 2 _ x
  · exact key 1 _ x
  · exact key 0 _ x

end Cert.Wkv

end
-- ==== Proof.Wkv.Mask.lean ====
/- The matrix of ones that sums a vector over each head of a pair. -/
module

public import proofs.«01_k».proof.Proof.Wkv.Spec
public import proofs.«01_k».proof.Proof.Gen.Kernel5Ideal.Skeleton
public import Idealize.ShloMosaic.Lib.Pointwise

@[expose] public section

noncomputable section

namespace Cert.Wkv

open Idealize.ShloMosaic Idealize.ShloMosaic.TcCoe Cert.Kernel5Ideal Cert.Kernel5Ideal.Gen

theorem rowHead (i j : Fin 128) : k0_pay225 (ix2 i j) = BitVec.ofNat 32 (i.val / 64) := by
  pointwise [k0_pay225]
  clear j
  revert i
  decide +kernel

/-- The quotient of a lane, as the kernel computes it. -/
theorem laneHead (i j : Fin 128) :
    select (andi k0_pay227 (cmpi .ne k0_pay228 k0_pay229)) (subi k0_pay226 (broadcast S128x128 1#32)) k0_pay226 (ix2 i j)
      = BitVec.ofNat 32 (j.val / 64) := by
  pointwise [k0_pay226, k0_pay227, k0_pay228, k0_pay229]
  clear i
  revert j
  decide +kernel

/-- The ones of the two heads of a pair. -/
abbrev headOnes : FVec Ideal S128x128 .bf16 := k0_pay230 (F := Ideal) k0_pay225 k0_pay226 k0_pay227 k0_pay228 k0_pay229

theorem headOnes_apply (i j : Fin 128) : headOnes (ix2 i j) = if i.val / 64 = j.val / 64 then 1 else 0 := by
  have h : headOnes (ix2 i j) = (((BitVec.setWidth 32 (IntOp.cmpi .eq (BitVec.ofNat 32 (i.val / 64)) (BitVec.ofNat 32 (j.val / 64)))).toInt : ℝ) : EReal) := by
    rw [← laneHead i j, ← rowHead i j]
    rfl
  rw [h]
  have hi : i.val / 64 < 2 := by omega
  have hj : j.val / 64 < 2 := by omega
  generalize i.val / 64 = a at *
  generalize j.val / 64 = b at *
  interval_cases a <;> interval_cases b <;> simp [IntOp.cmpi]

/-- A sum against the ones is the sum over the lane's own head. -/
theorem sum_headOnes (x : Fin 128 → EReal) (h : Fin 2) (j : Fin 64) :
    ∑ i : Fin 128, x i * headOnes (ix2 i ⟨64 * h.val + j.val, by omega⟩) = ∑ i : Fin 64, x ⟨64 * h.val + i.val, by omega⟩ := by
  have hd : (64 * h.val + j.val) / 64 = h.val := by omega
  simp only [headOnes_apply, hd, mul_ite, mul_one, mul_zero]
  rw [← Finset.sum_filter]
  refine (Finset.sum_bij (fun (i : Fin 64) _ => (⟨64 * h.val + i.val, by omega⟩ : Fin 128)) ?_ ?_ ?_ ?_).symm
  · intro i _
    simp only [Finset.mem_filter, Finset.mem_univ, true_and]
    omega
  · intro a _ b _ e
    have := congrArg Fin.val e
    exact Fin.ext (by simpa using this)
  · intro b hb
    simp only [Finset.mem_filter, Finset.mem_univ, true_and] at hb
    exact ⟨⟨b.val - 64 * h.val, by omega⟩, Finset.mem_univ _, Fin.ext (by show 64 * h.val + (b.val - 64 * h.val) = b.val; omega)⟩
  · intro i _
    rfl

end Cert.Wkv

end
-- ==== Proof.Wkv.Vecs.lean ====
/- What each of the kernel's vectors holds at a token of the batch, a step and a lane of the pair of heads. -/
module

public import proofs.«01_k».proof.Proof.Wkv.Mask

@[expose] public section

noncomputable section

namespace Cert.Wkv

open Idealize.ShloMosaic Idealize.ShloMosaic.TcCoe Cert.Kernel5Ideal Cert.Kernel5Ideal.Gen

/-- The row of step `t` and token `b` in the vectors that hold the steps one under another. -/
abbrev row (t : Fin 4) (b : Fin 128) : Fin 512 := ⟨128 * t.val + b.val, by omega⟩

theorem split_row (x : Vec Ideal S4x128x128 .f32) (n : ℕ) (t : Fin 4) (b l : Fin 128) (hn : n = 128 * t.val + b.val) (h h') :
    x (ix3 ⟨n / 128, h⟩ ⟨n % 128, h'⟩ l) = x (ix3 t b l) := by
  have e : (⟨n / 128, h⟩ : Fin 4) = t := Fin.ext (by show n / 128 = t.val; omega)
  have e' : (⟨n % 128, h'⟩ : Fin 128) = b := Fin.ext (by show n % 128 = b.val; omega)
  rw [e, e']

/-- The mixing of a projection with the projection one token earlier, in vectors. -/
def mixed (x : Vec Ideal S4x128x128 .f32) (q : Vec Ideal S128x128 .f32) (mu : Vec Ideal S1x128 .f32) : FVec Ideal S512x128 .f32 :=
  k0_pay232 x q mu

theorem mixed_apply (x : Vec Ideal S4x128x128 .f32) (q : Vec Ideal S128x128 .f32) (mu : Vec Ideal S1x128 .f32)
    (t : Fin 4) (b l : Fin 128) :
    mixed x q mu (ix2 (row t b) l) = mix (fun t => x (ix3 t b l)) (q (ix2 b l)) (mu (ix2 0 l)) t := by
  unfold mixed
  fin_cases t <;> pointwise [k0_pay232, mix]
  · rw [split_row x _ 0 b l (by simp)]
  · rw [split_row x _ 1 b l (by simp), split_row x _ 0 b l (by simp)]
  · rw [dif_neg (by omega), split_row x _ 2 b l (by simp), split_row x _ 1 b l (by show _ = 128 * 1 + b.val; omega)]
  · rw [dif_neg (by omega), split_row x _ 3 b l (by simp), split_row x _ 2 b l (by show _ = 128 * 2 + b.val; omega)]

theorem vals_eq (x : Vec Ideal S4x128x128 .f32) (q : Vec Ideal S128x128 .f32) (mu : Vec Ideal S1x128 .f32) :
    k0_pay235 (F := Ideal) (k0_pay233 x) (k0_pay234 x q) mu = mixed x q mu := rfl

theorem lora_eq (x : Vec Ideal S4x128x128 .f32) (q : Vec Ideal S128x128 .f32) (mu : Vec Ideal S1x128 .f32) :
    k0_pay236 (F := Ideal) x q mu = mixed x q mu := rfl

/-- A sum over the lanes, split between the two low-rank maps. -/
theorem sum_halves (f : Fin 128 → EReal) :
    ∑ i : Fin 128, f i = ∑ i : Fin 64, f ⟨i.val, by omega⟩ + ∑ i : Fin 64, f ⟨64 + i.val, by omega⟩ :=
  Fin.sum_univ_add (a := 64) (b := 64) f

theorem lane_low (i : Fin 64) : IntOp.cmpi .slt (BitVec.ofNat 32 i.val) 64#32 = 1#1 := by
  revert i
  decide +kernel

theorem decayIn_apply (x : Vec Ideal S4x128x128 .f32) (q : Vec Ideal S128x128 .f32) (mu w0 : Vec Ideal S1x128 .f32)
    (w2 : Vec Ideal S128x128 .bf16) (hw : ∀ (i : Fin 64) (l : Fin 128), w2 (ix2 ⟨64 + i.val, by omega⟩ l) = (0 : EReal)) (n : Fin 512) (l : Fin 128) :
    k0_pay238 (F := Ideal) x q mu w0 w2 (ix2 n l)
      = w0 (ix2 0 l) + ∑ i : Fin 64, Ideal.tanh (mixed x q mu (ix2 n ⟨i.val, by omega⟩)) * w2 (ix2 ⟨i.val, by omega⟩ l) := by
  unfold k0_pay238
  simp only [lora_eq]
  generalize mixed x q mu = y
  have e : ∀ f : Fin 128 → EReal, (∀ i : Fin 64, f ⟨64 + i.val, by omega⟩ = 0) → ∑ i, f i = ∑ i : Fin 64, f ⟨i.val, by omega⟩ := fun f h => by
    rw [sum_halves, Finset.sum_eq_zero (fun i _ => h i), add_zero]
  pointwise []
  rw [e _ (fun i => by rw [hw, mul_zero])]
  refine congrArg (w0 (ix2 0 l) + ·) (Finset.sum_congr rfl fun i _ => ?_)
  rw [lane_low]
  rfl

theorem rateIn_apply (x : Vec Ideal S4x128x128 .f32) (q : Vec Ideal S128x128 .f32) (mu a0 : Vec Ideal S1x128 .f32)
    (a2 : Vec Ideal S128x128 .bf16) (ha : ∀ (i : Fin 64) (l : Fin 128), a2 (ix2 ⟨i.val, by omega⟩ l) = (0 : EReal)) (n : Fin 512) (l : Fin 128) :
    k0_pay243 (F := Ideal) (k0_pay239 a0) (k0_pay240 a2) (k0_pay241 x q mu) (constant S512x128 .f32 0x00000000#32) (ix2 n l)
      = Ideal.logistic (a0 (ix2 0 l) + ∑ i : Fin 64, mixed x q mu (ix2 n ⟨64 + i.val, by omega⟩) * a2 (ix2 ⟨64 + i.val, by omega⟩ l)) := by
  unfold k0_pay241
  simp only [lora_eq]
  generalize mixed x q mu = y
  have e : ∀ f : Fin 128 → EReal, (∀ i : Fin 64, f ⟨i.val, by omega⟩ = 0) → ∑ i, f i = ∑ i : Fin 64, f ⟨64 + i.val, by omega⟩ := fun f h => by
    rw [sum_halves, Finset.sum_eq_zero (fun i _ => h i), zero_add]
  rw [← e (fun i => y (ix2 n i) * a2 (ix2 i l)) (fun i => by rw [ha, mul_zero])]
  unfold Ideal.logistic
  rw [← Mixer.tanh_logistic]
  pointwise [k0_pay243, k0_pay239, k0_pay240]

theorem neg_half : Ideal.ofBits FTy.f32 0xBF000000#32 = ((-(1 / 2) : ℝ) : EReal) := by
  simp [Ideal.ofBits, Ideal.ieee]
  norm_num [← EReal.coe_mul]

theorem cap_eq : (Named.named κ "cap" (0x5368D4A5#32 : BitVec FTy.f32.bits) : Ideal FTy.f32) = ((floor⁻¹ : ℝ) : EReal) := by
  simp [Named.named, κ]

theorem decay_apply (y : FVec Ideal S512x128 .f32) (n : Fin 512) (l : Fin 128) : k0_pay242 (F := Ideal) y (ix2 n l) = decay (y (ix2 n l)) := by
  unfold decay Ideal.logistic
  rw [← Mixer.tanh_logistic, ← neg_half, ← EReal.neg_mul, ← zero_sub]
  pointwise [k0_pay242]

theorem key_apply (k : FVec Ideal S512x128 .f32) (p1 p2 p3 p4) (ka : Vec Ideal S1x128 .f32) (n : Fin 512) (l : Fin 128) :
    k0_pay245 (F := Ideal) k p1 p2 p3 p4 ka (ix2 n l) = key (k (ix2 n l)) (k0_pay243 (F := Ideal) p1 p2 p3 p4 (ix2 n l)) (ka (ix2 0 l)) := by
  unfold k0_pay245
  generalize k0_pay243 (F := Ideal) p1 p2 p3 p4 = y
  pointwise [key]

theorem rawKey_apply (k : FVec Ideal S512x128 .f32) (kk : Vec Ideal S1x128 .f32) (n : Fin 512) (l : Fin 128) :
    k0_pay244 (F := Ideal) k kk (ix2 n l) = k (ix2 n l) * kk (ix2 0 l) := by
  pointwise [k0_pay244]

/-- The rows of the first half of the sums' input are the squares of the removal keys. -/
theorem squares_apply (r k : FVec Ideal S512x128 .f32) (p1 p2 p3 p4) (kk ka rk : Vec Ideal S1x128 .f32) (n : Fin 512) (l : Fin 128) :
    k0_pay246 (F := Ideal) r k p1 p2 p3 p4 kk ka rk (ix2 ⟨n.val, by omega⟩ l)
      = k0_pay244 (F := Ideal) k kk (ix2 n l) * k0_pay244 (F := Ideal) k kk (ix2 n l) := by
  unfold k0_pay246
  generalize k0_pay244 (F := Ideal) k kk = y
  generalize k0_pay245 (F := Ideal) k p1 p2 p3 p4 ka = y'
  pointwise []

/-- The removal key at unit length, its square sum taken as a high and a low part against the ones of its head. -/
theorem unit_apply (x : FVec Ideal S512x128 .f32) (z : FVec Ideal S1024x128 .f32) (n : Fin 512) (h : Fin 2) (j : Fin 64)
    (hz : ∀ l, z (ix2 ⟨n.val, by omega⟩ l) = x (ix2 n l) * x (ix2 n l)) (hx : ∀ l, ∃ r : ℝ, x (ix2 n l) = (r : EReal)) :
    k0_pay248 (F := Ideal) headOnes x z (ix2 n ⟨64 * h.val + j.val, by omega⟩) = unit (fun i => x (ix2 n ⟨64 * h.val + i.val, by omega⟩)) j := by
  have e : ∀ l, z (ix2 ⟨n.val, by omega⟩ l) - z (ix2 ⟨n.val, by omega⟩ l) = (0 : EReal) := fun l => by
    obtain ⟨r, hr⟩ := hx l
    rw [hz, hr, ← EReal.coe_mul, ← EReal.coe_sub, sub_self, EReal.coe_zero]
  rw [← unit_rsqrt, ← cap_eq, ← sum_headOnes (fun l => x (ix2 n l) * x (ix2 n l)) h j]
  simp only [← hz]
  generalize headOnes = y at *
  have e' : ∑ l, (z (ix2 ⟨n.val, by omega⟩ l) - z (ix2 ⟨n.val, by omega⟩ l)) * y (ix2 l ⟨64 * h.val + j.val, by omega⟩) = 0 :=
    Finset.sum_eq_zero fun l _ => by rw [e, zero_mul]
  pointwise [k0_pay248, k0_pay247]
  rw [e', add_zero]

theorem unit_neg (x : FVec Ideal S512x128 .f32) (z : FVec Ideal S1024x128 .f32) (n : Fin 512) (l : Fin 128) :
    k0_pay250 (F := Ideal) headOnes x z (ix2 n l) = -(k0_pay248 (F := Ideal) headOnes x z (ix2 n l)) := by
  unfold k0_pay250
  generalize k0_pay248 (F := Ideal) headOnes x z = y
  rw [← zero_sub]
  pointwise []

theorem unit_rate (x a : FVec Ideal S512x128 .f32) (z : FVec Ideal S1024x128 .f32) (n : Fin 512) (l : Fin 128) :
    k0_pay251 (F := Ideal) headOnes a x z (ix2 n l) = k0_pay248 (F := Ideal) headOnes x z (ix2 n l) * a (ix2 n l) := by
  unfold k0_pay251
  generalize k0_pay248 (F := Ideal) headOnes x z = y
  pointwise []

/-- The rows of a step, turned so that the lanes come before the tokens. -/
theorem plane_apply (t : Fin 4) (y : FVec Ideal S512x128 .f32) (hs : S512x128.Slices ![128 * t.val, 0] S128x128)
    (ht : S128x128.Transposes [1, 0] S128x128) (hc : S128x128.ShapeCasts S1x1x128x128) (l b : Fin 128) :
    shapeCast S1x1x128x128 (transpose S128x128 [1, 0] (extractStridedSlice S128x128 ![128 * t.val, 0] y hs) ht) hc (ix4 0 0 l b)
      = y (ix2 (row t b) l) := by
  fin_cases t <;> pointwise [] <;> exact congrArg (fun n => y (ix2 n l)) (Fin.ext (by simp))

end Cert.Wkv

end
-- ==== Proof.Wkv.Run.lean ====
/- The run of the recurrence kernel's body: what its stores leave in the two output buffers. The second scratch buffer
   is held at contents named outside the run, because the first output is read from it after two loops have each
   written one half of it. -/
module

public import proofs.«01_k».proof.Proof.Gen.Kernel5Ideal.Frame
public import proofs.«01_k».proof.Proof.Gen.Kernel5Ideal.Skeleton
public import proofs.«01_k».proof.Proof.Gen.Kernel5Ideal.Loops

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One staging buffer of output window 23. -/
abbrev VO0_23 : View sig .tc .vmem S4x128x128 .f32 := (Memref.whole cc0_stg23_0 : Memref sig .tc .vmem S4x128x128 .f32).view
/-- One staging buffer of output window 24. -/
abbrev VO0_24 : View sig .tc .vmem S2x64x64x128 .f32 := (Memref.whole cc0_stg24_0 : Memref sig .tc .vmem S2x64x64x128 .f32).view
/-- Each window's current staging memref at point `t`, and that it is a whole buffer. -/
abbrev ms0_0 (t : Fin cfg0.N) : Memref sig .tc .vmem S4x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S2x64x64x128 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S4x128x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S2x64x64x128 .f32 := win0_24.stage (cfg0.slots t 24)
abbrev hs0_24 (t : Fin cfg0.N) : (ms0_24 t).IsWhole := hstage0_24 ((cfg0.slots t 24).cast nbuf0_24)
/-- The scratch operands of the kernel, each a whole buffer. -/
abbrev scM0_0 : Memref sig .tc .vmem S6x4x128x128 .f32 := Memref.whole cc0_scratch0
abbrev scM0_1 : Memref sig .tc .vmem S4x128x128 .f32 := Memref.whole cc0_scratch1

/-- What the body is handed beside its windows: both scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 16000000 in
/-- What the body's stores leave in the two outputs, as pieces, with the proof that the body runs on whole buffers. -/
def kernelRun0_A (c : Dev nD) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole)
    (x0 : Vec F S4x128x128 .f32) (x1 : Vec F S4x128x128 .f32) (x2 : Vec F S4x128x128 .f32) (x3 : Vec F S4x128x128 .f32) (x4 : Vec F S4x128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x128 .bf16) (x15 : Vec F S1x128 .f32) (x16 : Vec F S128x128 .bf16) (x17 : Vec F S1x128 .f32) (x18 : Vec F S1x128 .f32) (x19 : Vec F S1x128 .f32) (x20 : Vec F S1x128 .f32) (x21 : Vec F S1x128 .f32) (x22 : Vec F S2x64x64x128 .f32)
    (f28 : BufTy.Contents (Elt F) arg28.view.ty) :
    Σ' (L23 : List (View.Piece (Elt F) S4x128x128 .f32)), { L24 : List (View.Piece (Elt F) S2x64x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (arg28.view.loc (c : Thread nD τ) ↦[arg28.view.set]{fullShare} f28)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ d, owns (c : Thread nD τ) arg27 fullShare d) ∗ (∃ d, owns (c : Thread nD τ) arg28 fullShare d)) -∗ K ⟨⟩))
          ⊢ wp frame (wpE (defs₀ (F := F)) Variants.none c none) E (cc0_wkv_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_wkv_seq_eq_skeleton]; unfold cc0_wkv_seq_skel
    simp only [k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%ds0, %fs0, -, HS0⟩, HS1, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]; · iexists _; iexact H23
    isplitl [H24]; · iexists _; iexact H24
    isplitl [HS0]
    · iexists _, _; isplitr; swap; · iexact HS0
      ipureintro; rfl
    iexists _, _; isplitr; swap; · iexact HS1
    ipureintro; rfl

end Cert.Kernel5Ideal.Gen

end
-- ==== Proof.Wkv.Frame.lean ====
/- The frame of the recurrence kernel. Its second scratch buffer is written by two loops, a half each, and read only where
   they have written, so what it held before is not seen; with that the pipeline's rules apply to the body's run. -/
module

public import proofs.«01_k».proof.Proof.Wkv.Run
public import Idealize.ShloMosaic.Lib.Claim
public import proofs.«01_k».proof.Proof.Gen.Kernel5Ideal.Skeleton
public import proofs.«01_k».proof.Proof.Gen.Kernel5Ideal.Loops

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is handed beside its windows, the second scratch buffer at its contents. -/
theorem PhiA0_open (c : Dev nD) :
    (Pipeline.ΦA spec0 c : sProp 𝕄)
      = iprop(iprop((∃ d, owns (c : Thread nD τ) scM0_0 fullShare d)
        ∗ (∃ f : BufTy.Contents (Elt F) scM0_1.view.ty, (scM0_1.view.loc (c : Thread nD τ) ↦[scM0_1.view.set]{fullShare} f))) ∗ (∃ r, prngReg c r)) := by
  unfold Pipeline.ΦA
  rw [scopedRest0_eq]
  simp only [scM0_0, scM0_1, owns_whole, Memref.view_whole, View.set_whole]
  rfl

/-- A load from a buffer whose pieces tile it does not depend on what the buffer held. -/
theorem readAt_tiled {κ : Kind} {sp : Space} {s : Shape} {e : EltTy} (v : View sig κ sp s e) (f g : v.ty.Contents (Elt F))
    (L : List (View.Piece (Elt F) s e)) (B : LoadRect s) (size : Fin s.rank → ℕ) (h : View.Piece.tiledL L size = true) :
    View.readAt (Elt F) v B (v.writes (Elt F) f L) = View.readAt (Elt F) v B (v.writes (Elt F) g L) :=
  (View.readAt_writes_of_cover v f L B fun j => View.cover_of_tiledL L size h (B.idx j)).trans
    (View.readAt_writes_of_cover v g L B fun j => View.cover_of_tiledL L size h (B.idx j)).symm

section Junk
variable  (c : Dev nD) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole)
    (x0 : Vec F S4x128x128 .f32) (x1 : Vec F S4x128x128 .f32) (x2 : Vec F S4x128x128 .f32) (x3 : Vec F S4x128x128 .f32) (x4 : Vec F S4x128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x128 .bf16) (x15 : Vec F S1x128 .f32) (x16 : Vec F S128x128 .bf16) (x17 : Vec F S1x128 .f32) (x18 : Vec F S1x128 .f32) (x19 : Vec F S1x128 .f32) (x20 : Vec F S1x128 .f32) (x21 : Vec F S1x128 .f32) (x22 : Vec F S2x64x64x128 .f32)
    (f28 : BufTy.Contents (Elt F) arg28.view.ty)

/-- What the body reads of the second scratch buffer at step 0 does not depend on what the buffer held. -/
theorem v305_junk : kernelRun0_A.sl.v305 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 f28 = kernelRun0_A.sl.v305 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 arg28.view.junk := by
  unfold kernelRun0_A.sl.v305
  exact readAt_tiled _ _ _ _ _ S1x8x128.size (by sl_kernel_rfl)

/-- What the body reads of the second scratch buffer at step 1 does not depend on what the buffer held. -/
theorem v308_junk : kernelRun0_A.sl.v308 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 f28 = kernelRun0_A.sl.v308 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 arg28.view.junk := by
  unfold kernelRun0_A.sl.v308
  exact readAt_tiled _ _ _ _ _ S1x8x128.size (by sl_kernel_rfl)

/-- What the body reads of the second scratch buffer at step 2 does not depend on what the buffer held. -/
theorem v311_junk : kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 f28 = kernelRun0_A.sl.v311 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 arg28.view.junk := by
  unfold kernelRun0_A.sl.v311
  exact readAt_tiled _ _ _ _ _ S1x8x128.size (by sl_kernel_rfl)

/-- What the body reads of the second scratch buffer at step 3 does not depend on what the buffer held. -/
theorem v314_junk : kernelRun0_A.sl.v314 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 f28 = kernelRun0_A.sl.v314 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x5 x6 x7 x8 x9 x10 x11 x12 x13 x14 x15 x16 x17 x18 x19 x22 arg28.view.junk := by
  unfold kernelRun0_A.sl.v314
  exact readAt_tiled _ _ _ _ _ S1x8x128.size (by sl_kernel_rfl)

theorem run_fst_junk : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 f28).1 = (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 arg28.view.junk).1 := by
  unfold kernelRun0_A
  dsimp only
  unfold kernelRun0_A.sl.r_21 kernelRun0_A.sl.r_22 kernelRun0_A.sl.r_23
  rw [v305_junk, v308_junk, v311_junk, v314_junk]

theorem run_snd_junk : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 f28).2.1 = (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 arg28.view.junk).2.1 := by
  unfold kernelRun0_A
  dsimp only

end Junk

/-- The one store into the first output covers its block. -/
theorem cover0_A_23 (c : Dev nD) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole)
    (x0 : Vec F S4x128x128 .f32) (x1 : Vec F S4x128x128 .f32) (x2 : Vec F S4x128x128 .f32) (x3 : Vec F S4x128x128 .f32) (x4 : Vec F S4x128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x128 .bf16) (x15 : Vec F S1x128 .f32) (x16 : Vec F S128x128 .bf16) (x17 : Vec F S1x128 .f32) (x18 : Vec F S1x128 .f32) (x19 : Vec F S1x128 .f32) (x20 : Vec F S1x128 .f32) (x21 : Vec F S1x128 .f32) (x22 : Vec F S2x64x64x128 .f32) (f28 : BufTy.Contents (Elt F) arg28.view.ty) (y : S4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 f28).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 f28).1 S4x128x128.size (by sl_kernel_rfl) y

/-- What the body leaves in output window 23, its stores read back. -/
def out0_A_23 (c : Dev nD) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole)
    (x0 : Vec F S4x128x128 .f32) (x1 : Vec F S4x128x128 .f32) (x2 : Vec F S4x128x128 .f32) (x3 : Vec F S4x128x128 .f32) (x4 : Vec F S4x128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x128 .bf16) (x15 : Vec F S1x128 .f32) (x16 : Vec F S128x128 .bf16) (x17 : Vec F S1x128 .f32) (x18 : Vec F S1x128 .f32) (x19 : Vec F S1x128 .f32) (x20 : Vec F S1x128 .f32) (x21 : Vec F S1x128 .f32) (x22 : Vec F S2x64x64x128 .f32) : Vec F S4x128x128 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 arg28.view.junk).1)

/-- The stores of the two loops tile the block of the second output. -/
theorem cover0_A_24 (c : Dev nD) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole)
    (x0 : Vec F S4x128x128 .f32) (x1 : Vec F S4x128x128 .f32) (x2 : Vec F S4x128x128 .f32) (x3 : Vec F S4x128x128 .f32) (x4 : Vec F S4x128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x128 .bf16) (x15 : Vec F S1x128 .f32) (x16 : Vec F S128x128 .bf16) (x17 : Vec F S1x128 .f32) (x18 : Vec F S1x128 .f32) (x19 : Vec F S1x128 .f32) (x20 : Vec F S1x128 .f32) (x21 : Vec F S1x128 .f32) (x22 : Vec F S2x64x64x128 .f32) (f28 : BufTy.Contents (Elt F) arg28.view.ty) (y : S2x64x64x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 f28).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 f28).2.1 S1x1x64x128.size (by sl_kernel_rfl) y

/-- What the body leaves in output window 24, its stores read back. -/
def out0_A_24 (c : Dev nD) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole)
    (x0 : Vec F S4x128x128 .f32) (x1 : Vec F S4x128x128 .f32) (x2 : Vec F S4x128x128 .f32) (x3 : Vec F S4x128x128 .f32) (x4 : Vec F S4x128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S1x128 .f32) (x14 : Vec F S128x128 .bf16) (x15 : Vec F S1x128 .f32) (x16 : Vec F S128x128 .bf16) (x17 : Vec F S1x128 .f32) (x18 : Vec F S1x128 .f32) (x19 : Vec F S1x128 .f32) (x20 : Vec F S1x128 .f32) (x21 : Vec F S1x128 .f32) (x22 : Vec F S2x64x64x128 .f32) : Vec F S2x64x64x128 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 arg28.view.junk).2.1)

/-! ## What the outputs hold after each point -/

/-- The two outputs' blocks after the body at point `t`. -/
def outsAt0 (c : Dev nD) (t : Fin cfg0.N) : Vec F S4x128x128 .f32 × Vec F S2x64x64x128 .f32 :=
  (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t))

/-! ## The pipeline's proof data -/

/-- What the call's buffers hold, point by point: each input its block, the outputs what the body leaves. An array that several
    windows read is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t).1
    | ⟨24, _⟩ => (outsAt0 m c t).2
    | ⟨_ + 25, h⟩ => absurd h (Nat.not_lt.2 (Nat.le_add_left _ _))
  Φ _ := Pipeline.ΦA spec0 c
  q w := Pipeline.shareOf spec0 w
  owed _ := 0

/-- The arrays are as the host lines before the call leave them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt0 m c t).1 := by dsimp only [dats]
theorem after0_24 (c : Dev nD) (t : Fin cfg0.N) : (dats m 0 c).after 24 t = (outsAt0 m c t).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is given at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
/-- The body at any grid point: its input buffers hold their blocks, so the run applies, at whatever the second scratch
    buffer holds; the first output does not depend on that. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = Pipeline.ΦA spec0 c from rfl, PhiA0_eq,
    show (dats m 0 c).Φ t.castSucc = Pipeline.ΦA spec0 c from rfl, PhiA0_open]
  unfold outsAt0
  unfold out0_A_23 out0_A_24; (try dsimp only)
  iintro ⟨⟨⟨HS0, ⟨%g28, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) g28).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [HS0]; · iexact HS0
  isplitl [HS1]; · iexact HS1
  iintro ⟨H0, H1, H2, H3, H4, H5, H6, H7, H8, H9, H10, H11, H12, H13, H14, H15, H16, H17, H18, H19, H20, H21, H22, ⟨%e23, H23⟩, ⟨%e24, H24⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; rw [run_fst_junk]; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; rw [run_snd_junk]; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The pipeline's condition on the body, at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole run: the arrays at the end, and no semaphore raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The whole run: the arrays at the end. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- Every run of the kernel ends, with its argument arrays unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel5Ideal.Gen

end
-- ==== Proof.Wkv.State.lean ====
/- What the two loops leave in the state, given what the vectors of the steps hold. -/
module

public import proofs.«01_k».proof.Proof.Wkv.Trip
public import proofs.«01_k».proof.Proof.Wkv.Vecs
public import proofs.«01_k».proof.Proof.Wkv.Frame
public import Idealize.ShloMosaic.Lib.VecWindow

@[expose] public section

set_option maxRecDepth 16384

noncomputable section

namespace Cert.Wkv

open Idealize.ShloMosaic Idealize.ShloMosaic.TcCoe Idealize.ShloMosaic.Tactic Cert.Kernel5Ideal Cert.Kernel5Ideal.Gen

section Loops
variable (𝒱 : Variants) (c : Dev nD) (bd : Option 𝒱.V) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole) (v89 : FVec Ideal S512x128 .f32) (v292 : FVec Ideal S1x1x128x128 .f32) (X_arg24 : BufTy.Contents (Elt Ideal) arg24.view.ty) (X_arg27 : BufTy.Contents (Elt Ideal) arg27.view.ty)

/-- What the trips of the first loop store. -/
theorem loop1_out (n : ℕ) (hn : n ≤ k0_t1_loop.trips) (p) (hp : p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 n).1) (x : p.1.shape.Idx) :
    p.2 x = rowsOut (arg24.view.read (Elt Ideal) X_arg24) (arg27.view.read (Elt Ideal) X_arg27) (p.1.emb x) := by
  induction n with
  | zero => rw [pb_k0_t1.eq_1] at hp; exact absurd hp (by simp)
  | succ k ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 ⟨k, hn⟩] at hp
    rcases List.mem_append.mp hp with h | h
    · exact trip1_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 ⟨k, hn⟩ p h x
    · exact ih (Nat.le_of_succ_le hn) h

/-- What the trips of the second loop store. -/
theorem loop2_out (n : ℕ) (hn : n ≤ k0_t2_loop.trips) (p) (hp : p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 n).1) (x : p.1.shape.Idx) :
    p.2 x = rowsOut (arg24.view.read (Elt Ideal) X_arg24) (arg27.view.read (Elt Ideal) X_arg27) (p.1.emb x) := by
  induction n with
  | zero => rw [pb_k0_t2.eq_1] at hp; exact absurd hp (by simp)
  | succ k ih =>
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 ⟨k, hn⟩] at hp
    rcases List.mem_append.mp hp with h | h
    · exact trip2_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v89 v292 X_arg24 X_arg27 ⟨k, hn⟩ p h x
    · exact ih (Nat.le_of_succ_le hn) h

end Loops

section Reads

theorem read3 (a : Memref sig .tc .vmem S4x128x128 .f32) (h : a.IsWhole) (x : Vec Ideal S4x128x128 .f32) (inb) :
    View.readAt (Elt Ideal) a.view (Rect.unit (s := S4x128x128) ![0, 0, 0] S4x128x128.size inb).toLoadRect (h.unread x) = x :=
  (Idealize.ShloMosaic.View.readAt_full _ _ _).trans (Memref.IsWhole.read_unread _ _)

theorem read2 (a : Memref sig .tc .vmem S128x128 .f32) (h : a.IsWhole) (x : Vec Ideal S128x128 .f32) (inb) :
    View.readAt (Elt Ideal) a.view (Rect.unit (s := S128x128) ![0, 0] S128x128.size inb).toLoadRect (h.unread x) = x :=
  (Idealize.ShloMosaic.View.readAt_full _ _ _).trans (Memref.IsWhole.read_unread _ _)

theorem read2' (a : Memref sig .tc .vmem S128x128 .bf16) (h : a.IsWhole) (x : Vec Ideal S128x128 .bf16) (inb) :
    View.readAt (Elt Ideal) a.view (Rect.unit (s := S128x128) ![0, 0] S128x128.size inb).toLoadRect (h.unread x) = x :=
  (Idealize.ShloMosaic.View.readAt_full _ _ _).trans (Memref.IsWhole.read_unread _ _)

theorem read1 (a : Memref sig .tc .vmem S1x128 .f32) (h : a.IsWhole) (x : Vec Ideal S1x128 .f32) (inb) :
    View.readAt (Elt Ideal) a.view (Rect.unit (s := S1x128) ![0, 0] S1x128.size inb).toLoadRect (h.unread x) = x :=
  (Idealize.ShloMosaic.View.readAt_full _ _ _).trans (Memref.IsWhole.read_unread _ _)

end Reads

/-- The six vectors of the steps, from the blocks the body is given. -/
def vecs (x0 x1 x2 x3 : Vec Ideal S4x128x128 .f32) (x5 x6 x7 x8 : Vec Ideal S128x128 .f32) (x9 x10 x11 x12 x13 : Vec Ideal S1x128 .f32)
    (x14 : Vec Ideal S128x128 .bf16) (x15 : Vec Ideal S1x128 .f32) (x16 : Vec Ideal S128x128 .bf16) (x17 x18 x19 : Vec Ideal S1x128 .f32) :
    Fin 6 → FVec Ideal S512x128 .f32 :=
  let k := mixed x1 x6 x10
  let r := k0_pay231 (F := Ideal) x0 x5 x9
  let o := constant (F := Ideal) S512x128 .f32 0x00000000#32
  let a := k0_pay243 (F := Ideal) (k0_pay239 x15) (k0_pay240 x16) (k0_pay241 x3 x8 x12) o
  let kk := k0_pay244 (F := Ideal) k x17
  let z := k0_pay246 (F := Ideal) r k (k0_pay239 x15) (k0_pay240 x16) (k0_pay241 x3 x8 x12) o x17 x18 x19
  ![k0_pay250 (F := Ideal) headOnes kk z, k0_pay242 (F := Ideal) (k0_pay238 (F := Ideal) x3 x8 x12 x13 x14), k0_pay251 (F := Ideal) headOnes a kk z,
    k0_pay245 (F := Ideal) k (k0_pay239 x15) (k0_pay240 x16) (k0_pay241 x3 x8 x12) o x18, r, mixed x2 x7 x11]

/-- The vectors, laid out by vector, step, lane and token. -/
def table (u : Fin 6 → FVec Ideal S512x128 .f32) (y : S6x4x128x128.Idx) : EReal := u (y 0) (ix2 (row (y 1) (y 3)) (y 2))

theorem piece_out (u : Fin 6 → FVec Ideal S512x128 .f32) (p : Fin 6) (t : Fin 4) (z : FVec Ideal S1x1x128x128 .f32)
    (inb) (hz : ∀ l b, z (ix4 0 0 l b) = u p (ix2 (row t b) l)) (x : S1x1x128x128.Idx) :
    z x = table u ((Rect.unit (s := S6x4x128x128) ![p.val, t.val, 0, 0] S1x1x128x128.size inb).emb x) := by
  obtain ⟨l, b, rfl⟩ : ∃ l b, x = ix4 0 0 l b := ⟨x 2, x 3, funext fun a => by fin_cases a <;> first | rfl | exact Subsingleton.elim (α := Fin 1) _ _⟩
  have e : (Rect.unit (s := S6x4x128x128) ![p.val, t.val, 0, 0] S1x1x128x128.size inb).emb (ix4 0 0 l b) = ix4 p t l b := by
    refine funext fun a => Fin.ext ?_
    fin_cases a <;> simp [Rect.unit, Rect.emb]
  rw [e, hz]
  rfl

section Run
variable (c : Dev nD) (i : grid0.Coords) (arg2 : Memref sig .tc .vmem S4x128x128 .f32) (harg2 : arg2.IsWhole) (arg3 : Memref sig .tc .vmem S4x128x128 .f32) (harg3 : arg3.IsWhole) (arg4 : Memref sig .tc .vmem S4x128x128 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S2x64x64x128 .f32) (harg24 : arg24.IsWhole) (arg25 : Memref sig .tc .vmem S4x128x128 .f32) (harg25 : arg25.IsWhole) (arg26 : Memref sig .tc .vmem S2x64x64x128 .f32) (harg26 : arg26.IsWhole) (arg27 : Memref sig .tc .vmem S6x4x128x128 .f32) (harg27 : arg27.IsWhole) (arg28 : Memref sig .tc .vmem S4x128x128 .f32) (harg28 : arg28.IsWhole) (x0 : Vec Ideal S4x128x128 .f32) (x1 : Vec Ideal S4x128x128 .f32) (x2 : Vec Ideal S4x128x128 .f32) (x3 : Vec Ideal S4x128x128 .f32) (x4 : Vec Ideal S4x128x128 .f32) (x5 : Vec Ideal S128x128 .f32) (x6 : Vec Ideal S128x128 .f32) (x7 : Vec Ideal S128x128 .f32) (x8 : Vec Ideal S128x128 .f32) (x9 : Vec Ideal S1x128 .f32) (x10 : Vec Ideal S1x128 .f32) (x11 : Vec Ideal S1x128 .f32) (x12 : Vec Ideal S1x128 .f32) (x13 : Vec Ideal S1x128 .f32) (x14 : Vec Ideal S128x128 .bf16) (x15 : Vec Ideal S1x128 .f32) (x16 : Vec Ideal S128x128 .bf16) (x17 : Vec Ideal S1x128 .f32) (x18 : Vec Ideal S1x128 .f32) (x19 : Vec Ideal S1x128 .f32) (x20 : Vec Ideal S1x128 .f32) (x21 : Vec Ideal S1x128 .f32) (x22 : Vec Ideal S2x64x64x128 .f32)

theorem vectors_out (p) (hp : p ∈ kernelRun0_A.sl.HS0_24 (F := Ideal) c arg2 harg2 arg3 harg3 arg4 harg4 arg5 harg5 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x5 x6 x7 x8 x9 x10 x11 x12 x13 x14 x15 x16 x17 x18 x19) (x : p.1.shape.Idx) :
    p.2 x = table (vecs x0 x1 x2 x3 x5 x6 x7 x8 x9 x10 x11 x12 x13 x14 x15 x16 x17 x18 x19) (p.1.emb x) := by
  have hr : kernelRun0_A.sl.r c arg2 harg2 arg7 harg7 arg11 harg11 x0 x5 x9 = k0_pay231 (F := Ideal) x0 x5 x9 := by
    unfold kernelRun0_A.sl.r
    rw [read3, read2, read1]
  have hr1 : kernelRun0_A.sl.r_1 c arg3 harg3 arg8 harg8 arg12 harg12 x1 x6 x10 = mixed x1 x6 x10 := by
    unfold kernelRun0_A.sl.r_1
    rw [read3, read2, read1]
    rfl
  have hr4 : kernelRun0_A.sl.r_4 c arg4 harg4 arg9 harg9 arg13 harg13 x2 x7 x11 = mixed x2 x7 x11 := by
    unfold kernelRun0_A.sl.r_4 kernelRun0_A.sl.r_2 kernelRun0_A.sl.r_3
    rw [read3, read2, read1]
    rfl
  have hr6 : kernelRun0_A.sl.r_6 c arg5 harg5 arg10 harg10 arg14 harg14 arg15 harg15 arg16 harg16 x3 x8 x12 x13 x14 = k0_pay238 (F := Ideal) x3 x8 x12 x13 x14 := by
    unfold kernelRun0_A.sl.r_6
    rw [read3, read2, read1, read1, read2']
  have hr7 : kernelRun0_A.sl.r_7 c arg17 harg17 x15 = k0_pay239 (F := Ideal) x15 := by
    unfold kernelRun0_A.sl.r_7
    rw [read1]
  have hr8 : kernelRun0_A.sl.r_8 c arg18 harg18 x16 = k0_pay240 (F := Ideal) x16 := by
    unfold kernelRun0_A.sl.r_8
    rw [read2']
  have hr9 : kernelRun0_A.sl.r_9 c arg5 harg5 arg10 harg10 arg14 harg14 x3 x8 x12 = k0_pay241 (F := Ideal) x3 x8 x12 := by
    unfold kernelRun0_A.sl.r_9
    rw [read3, read2, read1]
  have hr12 : kernelRun0_A.sl.r_12 c arg3 harg3 arg8 harg8 arg12 harg12 arg19 harg19 x1 x6 x10 x17 = k0_pay244 (F := Ideal) (mixed x1 x6 x10) x17 := by
    unfold kernelRun0_A.sl.r_12
    rw [hr1, read1]
  have hr13 : kernelRun0_A.sl.r_13 c arg3 harg3 arg5 harg5 arg8 harg8 arg10 harg10 arg12 harg12 arg14 harg14 arg17 harg17 arg18 harg18 arg20 harg20 x1 x3 x6 x8 x10 x12 x15 x16 x18 = k0_pay245 (F := Ideal) (mixed x1 x6 x10) (k0_pay239 x15) (k0_pay240 x16) (k0_pay241 x3 x8 x12) (constant (F := Ideal) S512x128 .f32 0x00000000#32) x18 := by
    unfold kernelRun0_A.sl.r_13
    rw [hr1, hr7, hr8, hr9, read1]
    rfl
  have hr14 : kernelRun0_A.sl.r_14 c arg2 harg2 arg3 harg3 arg5 harg5 arg7 harg7 arg8 harg8 arg10 harg10 arg11 harg11 arg12 harg12 arg14 harg14 arg17 harg17 arg18 harg18 arg19 harg19 arg20 harg20 arg21 harg21 x0 x1 x3 x5 x6 x8 x9 x10 x12 x15 x16 x17 x18 x19 = k0_pay246 (F := Ideal) (k0_pay231 (F := Ideal) x0 x5 x9) (mixed x1 x6 x10) (k0_pay239 x15) (k0_pay240 x16) (k0_pay241 x3 x8 x12) (constant (F := Ideal) S512x128 .f32 0x00000000#32) x17 x18 x19 := by
    unfold kernelRun0_A.sl.r_14
    rw [hr, hr1, hr7, hr8, hr9, read1, read1, read1]
    rfl
  have hr11 : kernelRun0_A.sl.r_11 c arg5 harg5 arg10 harg10 arg14 harg14 arg17 harg17 arg18 harg18 x3 x8 x12 x15 x16 = k0_pay243 (F := Ideal) (k0_pay239 x15) (k0_pay240 x16) (k0_pay241 x3 x8 x12) (constant (F := Ideal) S512x128 .f32 0x00000000#32) := by
    unfold kernelRun0_A.sl.r_11
    rw [hr7, hr8, hr9]
    rfl
  have hs : ∀ t : Fin 4, S512x128.Slices ![128 * t.val, 0] S128x128 := fun t => by
    fin_cases t
    exacts [slices_S512x128_o0_0_S128x128, slices_S512x128_o128_0_S128x128, slices_S512x128_o256_0_S128x128, slices_S512x128_o384_0_S128x128]
  have key := fun (p : Fin 6) (t : Fin 4) => piece_out (vecs x0 x1 x2 x3 x5 x6 x7 x8 x9 x10 x11 x12 x13 x14 x15 x16 x17 x18 x19) p t _ (by revert p t; decide)
    (fun l b => plane_apply t (vecs x0 x1 x2 x3 x5 x6 x7 x8 x9 x10 x11 x12 x13 x14 x15 x16 x17 x18 x19 p) (hs t) transposes_S128x128_p1_0_S128x128 shapeCasts_S128x128_S1x1x128x128 l b)
  unfold kernelRun0_A.sl.HS0_24 kernelRun0_A.sl.r_20 kernelRun0_A.sl.r_19 kernelRun0_A.sl.r_18 kernelRun0_A.sl.r_17 kernelRun0_A.sl.r_16 kernelRun0_A.sl.r_10 at hp
  simp only [hr, hr4, hr6, hr11, hr12, hr13, hr14, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl
  · exact key 5 3 x
  · exact key 5 2 x
  · exact key 5 1 x
  · exact key 5 0 x
  · exact key 4 3 x
  · exact key 4 2 x
  · exact key 4 1 x
  · exact key 4 0 x
  · exact key 3 3 x
  · exact key 3 2 x
  · exact key 3 1 x
  · exact key 3 0 x
  · exact key 2 3 x
  · exact key 2 2 x
  · exact key 2 1 x
  · exact key 2 0 x
  · exact key 1 3 x
  · exact key 1 2 x
  · exact key 1 1 x
  · exact key 1 0 x
  · exact key 0 3 x
  · exact key 0 2 x
  · exact key 0 1 x
  · exact key 0 0 x

/-- What the scratch of the vectors reads as once they are stored. -/
theorem vectors_read (f : BufTy.Contents (Elt Ideal) arg27.view.ty) :
    arg27.view.read (Elt Ideal) (arg27.view.writes (Elt Ideal) f (kernelRun0_A.sl.HS0_24 (F := Ideal) c arg2 harg2 arg3 harg3 arg4 harg4 arg5 harg5 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x5 x6 x7 x8 x9 x10 x11 x12 x13 x14 x15 x16 x17 x18 x19))
      = table (vecs x0 x1 x2 x3 x5 x6 x7 x8 x9 x10 x11 x12 x13 x14 x15 x16 x17 x18 x19) :=
  funext fun y => View.read_writes_apply_of_pieces arg27.view f _ _
    (fun p hp x => vectors_out c arg2 harg2 arg3 harg3 arg4 harg4 arg5 harg5 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x5 x6 x7 x8 x9 x10 x11 x12 x13 x14 x15 x16 x17 x18 x19 p hp x) y
    (View.cover_of_tiledL (kernelRun0_A.sl.HS0_24 (F := Ideal) c arg2 harg2 arg3 harg3 arg4 harg4 arg5 harg5 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x5 x6 x7 x8 x9 x10 x11 x12 x13 x14 x15 x16 x17 x18 x19) S1x1x128x128.size (by sl_kernel_rfl) y)

/-- The block of the state that the body leaves. -/
theorem state_out (y : S2x64x64x128.Idx) :
    out0_A_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 y
      = rowsOut x22 (table (vecs x0 x1 x2 x3 x5 x6 x7 x8 x9 x10 x11 x12 x13 x14 x15 x16 x17 x18 x19)) y := by
  unfold out0_A_24
  refine View.read_writes_apply_of_pieces VO0_24 _ _ _ (fun p hp x => ?_) y (cover0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 arg28.view.junk y)
  unfold kernelRun0_A at hp
  dsimp only at hp
  rcases List.mem_append.mp hp with h | h
  · refine (loop2_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _) p h x).trans ?_
    rw [Memref.IsWhole.read_unread, vectors_read]
  · refine (loop1_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _) p h x).trans ?_
    rw [Memref.IsWhole.read_unread, vectors_read]

end Run

end Cert.Wkv

end
-- ==== Proof.Wkv.Args.lean ====
/- The new state of every sequence and head, as a function of the call's arrays. -/
module

public import proofs.«01_k».proof.Proof.Wkv.Spec

@[expose] public section

noncomputable section

namespace Cert.Wkv

open Idealize.ShloMosaic

/-- The arrays the new state is made from: the projection, the projection's row before the first token, the state, and the weights. -/
structure Args where
  p : Fin 4 → Fin 128 → Fin 8320 → EReal
  q : Fin 128 → Fin 6272 → EReal
  s : Fin 128 → Fin 32 → Fin 64 → Fin 64 → EReal
  mu : Fin 6272 → EReal
  w0 : Fin 2048 → EReal
  w2 : Fin 64 → Fin 2048 → EReal
  a0 : Fin 2048 → EReal
  a2 : Fin 64 → Fin 2048 → EReal
  kk : Fin 2048 → EReal
  ka : Fin 2048 → EReal

namespace Args
variable (A : Args)

/-- A column of the projection, mixed with the column one token earlier. -/
def mixed (b : Fin 128) (t : Fin 4) (c : Fin 6272) : EReal :=
  mix (fun t => A.p t b ⟨c.val, by omega⟩) (A.q b c) (A.mu c) t

/-- What the decay of a column is taken from. -/
def wf (b : Fin 128) (t : Fin 4) (c : Fin 2048) : EReal :=
  A.w0 c + ∑ i : Fin 64, Ideal.tanh (A.mixed b t ⟨6144 + i.val, by omega⟩) * A.w2 i c

/-- What the rate of learning of a column is taken from. -/
def af (b : Fin 128) (t : Fin 4) (c : Fin 2048) : EReal :=
  A.a0 c + ∑ i : Fin 64, A.mixed b t ⟨6208 + i.val, by omega⟩ * A.a2 i c

/-- The column of entry `j` of head `h`. -/
abbrev col (h : Fin 32) (j : Fin 64) : Fin 2048 := ⟨64 * h.val + j.val, by omega⟩

/-- The removal key of a head before it is scaled. -/
def raw (b : Fin 128) (t : Fin 4) (h : Fin 32) (j : Fin 64) : EReal :=
  A.mixed b t ⟨2048 + (64 * h.val + j.val), by omega⟩ * A.kk (col h j)

/-- The state after the four tokens. -/
def newState (b : Fin 128) (h : Fin 32) (v j : Fin 64) : EReal :=
  newRow (fun j => A.s b h v j) (fun t j => A.mixed b t ⟨2048 + (64 * h.val + j.val), by omega⟩)
    (fun t => A.mixed b t ⟨4096 + (64 * h.val + v.val), by omega⟩) (fun t j => A.wf b t (col h j)) (fun t j => A.af b t (col h j))
    (fun j => A.kk (col h j)) (fun j => A.ka (col h j)) j

/-- One step of a row of the state, with the vectors of token `t`. -/
def stepAt (b : Fin 128) (h : Fin 32) (v : Fin 64) (t : Fin 4) (s : Fin 64 → EReal) : Fin 64 → EReal :=
  step s (fun j => -(unit (fun i => A.raw b t h i) j)) (fun j => decay (A.wf b t (col h j)))
    (fun j => unit (fun i => A.raw b t h i) j * Ideal.logistic (A.af b t (col h j)))
    (fun j => key (A.mixed b t ⟨2048 + (64 * h.val + j.val), by omega⟩) (Ideal.logistic (A.af b t (col h j))) (A.ka (col h j)))
    (A.mixed b t ⟨4096 + (64 * h.val + v.val), by omega⟩)

/-- The entries that the square sum is taken of are real where the projection, the row before, the mixing and the scale are. -/
theorem raw_real (hp : ∀ t b c, ∃ r : ℝ, A.p t b c = (r : EReal)) (hq : ∀ b c, ∃ r : ℝ, A.q b c = (r : EReal))
    (hm : ∀ c, ∃ r : ℝ, A.mu c = (r : EReal)) (hk : ∀ c, ∃ r : ℝ, A.kk c = (r : EReal)) (b : Fin 128) (t : Fin 4) (h : Fin 32) (j : Fin 64) :
    ∃ r : ℝ, A.raw b t h j = (r : EReal) := by
  unfold raw mixed mix
  obtain ⟨m, hm⟩ := hm ⟨2048 + (64 * h.val + j.val), by omega⟩
  obtain ⟨k, hk⟩ := hk (col h j)
  obtain ⟨x, hx⟩ := hp t b ⟨2048 + (64 * h.val + j.val), by omega⟩
  obtain ⟨y, hy⟩ : ∃ y : ℝ, (![A.q b ⟨2048 + (64 * h.val + j.val), by omega⟩, A.p 0 b ⟨2048 + (64 * h.val + j.val), by omega⟩,
      A.p 1 b ⟨2048 + (64 * h.val + j.val), by omega⟩, A.p 2 b ⟨2048 + (64 * h.val + j.val), by omega⟩] : Fin 4 → EReal) t = (y : EReal) := by
    fin_cases t
    exacts [hq _ _, hp _ _ _, hp _ _ _, hp _ _ _]
  refine ⟨(x + (y - x) * m) * k, ?_⟩
  rw [EReal.coe_mul, EReal.coe_add, EReal.coe_mul, EReal.coe_sub, ← hx, ← hy, ← hm, ← hk]

end Args

end Cert.Wkv

end
-- ==== Proof.Wkv.Block.lean ====
/- The state's block at a point of the grid, when the body is given the blocks of the call's arrays. -/
module

public import proofs.«01_k».proof.Proof.Wkv.State
public import proofs.«01_k».proof.Proof.Wkv.Args

@[expose] public section

noncomputable section

namespace Cert.Wkv

open Idealize.ShloMosaic Idealize.ShloMosaic.TcCoe Cert.Kernel5Ideal Cert.Kernel5Ideal.Gen

/-- The head that is the first or the second of a pair. -/
abbrev head (i : Fin 16) (h : Fin 2) : Fin 32 := ⟨2 * i.val + h.val, by omega⟩

/-- The lane of an entry of a head of a pair. -/
abbrev lane (h : Fin 2) (j : Fin 64) : Fin 128 := ⟨64 * h.val + j.val, by omega⟩

/-- The blocks of pair `i` hold their parts of the arrays. -/
structure Block (A : Args) (i : Fin 16) (x1 x2 x3 : Vec Ideal S4x128x128 .f32) (x6 x7 x8 : Vec Ideal S128x128 .f32)
    (x10 x11 x12 x13 : Vec Ideal S1x128 .f32) (x14 : Vec Ideal S128x128 .bf16) (x15 : Vec Ideal S1x128 .f32) (x16 : Vec Ideal S128x128 .bf16)
    (x17 x18 : Vec Ideal S1x128 .f32) (x22 : Vec Ideal S2x64x64x128 .f32) : Prop where
  pk : ∀ (t : Fin 4) (b : Fin 128) (h : Fin 2) (j : Fin 64), x1 (ix3 t b (lane h j)) = A.p t b ⟨2048 + (64 * (head i h).val + j.val), by omega⟩
  pv : ∀ (t : Fin 4) (b : Fin 128) (h : Fin 2) (j : Fin 64), x2 (ix3 t b (lane h j)) = A.p t b ⟨4096 + (64 * (head i h).val + j.val), by omega⟩
  pw : ∀ (t : Fin 4) (b : Fin 128) (j : Fin 64), x3 (ix3 t b ⟨j.val, by omega⟩) = A.p t b ⟨6144 + j.val, by omega⟩
  pa : ∀ (t : Fin 4) (b : Fin 128) (j : Fin 64), x3 (ix3 t b ⟨64 + j.val, by omega⟩) = A.p t b ⟨6208 + j.val, by omega⟩
  qk : ∀ (b : Fin 128) (h : Fin 2) (j : Fin 64), x6 (ix2 b (lane h j)) = A.q b ⟨2048 + (64 * (head i h).val + j.val), by omega⟩
  qv : ∀ (b : Fin 128) (h : Fin 2) (j : Fin 64), x7 (ix2 b (lane h j)) = A.q b ⟨4096 + (64 * (head i h).val + j.val), by omega⟩
  qw : ∀ (b : Fin 128) (j : Fin 64), x8 (ix2 b ⟨j.val, by omega⟩) = A.q b ⟨6144 + j.val, by omega⟩
  qa : ∀ (b : Fin 128) (j : Fin 64), x8 (ix2 b ⟨64 + j.val, by omega⟩) = A.q b ⟨6208 + j.val, by omega⟩
  muk : ∀ (h : Fin 2) (j : Fin 64), x10 (ix2 0 (lane h j)) = A.mu ⟨2048 + (64 * (head i h).val + j.val), by omega⟩
  muv : ∀ (h : Fin 2) (j : Fin 64), x11 (ix2 0 (lane h j)) = A.mu ⟨4096 + (64 * (head i h).val + j.val), by omega⟩
  muw : ∀ j : Fin 64, x12 (ix2 0 ⟨j.val, by omega⟩) = A.mu ⟨6144 + j.val, by omega⟩
  mua : ∀ j : Fin 64, x12 (ix2 0 ⟨64 + j.val, by omega⟩) = A.mu ⟨6208 + j.val, by omega⟩
  w0 : ∀ (h : Fin 2) (j : Fin 64), x13 (ix2 0 (lane h j)) = A.w0 (Args.col (head i h) j)
  w2 : ∀ (k : Fin 64) (h : Fin 2) (j : Fin 64), x14 (ix2 ⟨k.val, by omega⟩ (lane h j)) = A.w2 k (Args.col (head i h) j)
  w2z : ∀ (k : Fin 64) (l : Fin 128), x14 (ix2 ⟨64 + k.val, by omega⟩ l) = (0 : EReal)
  a0 : ∀ (h : Fin 2) (j : Fin 64), x15 (ix2 0 (lane h j)) = A.a0 (Args.col (head i h) j)
  a2 : ∀ (k : Fin 64) (h : Fin 2) (j : Fin 64), x16 (ix2 ⟨64 + k.val, by omega⟩ (lane h j)) = A.a2 k (Args.col (head i h) j)
  a2z : ∀ (k : Fin 64) (l : Fin 128), x16 (ix2 ⟨k.val, by omega⟩ l) = (0 : EReal)
  kk : ∀ (h : Fin 2) (j : Fin 64), x17 (ix2 0 (lane h j)) = A.kk (Args.col (head i h) j)
  ka : ∀ (h : Fin 2) (j : Fin 64), x18 (ix2 0 (lane h j)) = A.ka (Args.col (head i h) j)
  s : ∀ (b : Fin 128) (h : Fin 2) (v j : Fin 64), x22 (ix4 h v j b) = A.s b (head i h) v j

theorem steps_congr {s s' : Fin 64 → EReal} {u u' : Fin 6 → Fin 4 → Fin 64 → EReal} {v v' : Fin 4 → EReal} (hs : s = s')
    (h0 : u 0 = u' 0) (h1 : u 1 = u' 1) (h2 : u 2 = u' 2) (h3 : u 3 = u' 3) (hv : v = v') : steps s u v = steps s' u' v' := by
  unfold steps
  rw [hs, h0, h1, h2, h3, hv]

theorem rowsOut_table (s : Vec Ideal S2x64x64x128 .f32) (u : Fin 6 → FVec Ideal S512x128 .f32) (h : Fin 2) (v j : Fin 64) (b : Fin 128) :
    rowsOut s (table u) (ix4 h v j b)
      = steps (fun j => s (ix4 h v j b)) (fun p t j => u p (ix2 (row t b) (lane h j))) (fun t => u 5 (ix2 (row t b) (lane h v))) j := rfl

section
variable {A : Args} {i : Fin 16} {x0 x1 x2 x3 : Vec Ideal S4x128x128 .f32} {x5 x6 x7 x8 : Vec Ideal S128x128 .f32}
    {x9 x10 x11 x12 x13 : Vec Ideal S1x128 .f32} {x14 : Vec Ideal S128x128 .bf16} {x15 : Vec Ideal S1x128 .f32} {x16 : Vec Ideal S128x128 .bf16}
    {x17 x18 x19 : Vec Ideal S1x128 .f32} {x22 : Vec Ideal S2x64x64x128 .f32}

theorem block_out (B : Block A i x1 x2 x3 x6 x7 x8 x10 x11 x12 x13 x14 x15 x16 x17 x18 x22)
    (hr : ∀ b t h j, ∃ r : ℝ, A.raw b t h j = (r : EReal)) (h : Fin 2) (v j : Fin 64) (b : Fin 128) :
    rowsOut x22 (table (vecs x0 x1 x2 x3 x5 x6 x7 x8 x9 x10 x11 x12 x13 x14 x15 x16 x17 x18 x19)) (ix4 h v j b) = A.newState b (head i h) v j := by
  have hk : ∀ t h j, mixed x1 x6 x10 (ix2 (row t b) (lane h j)) = A.mixed b t ⟨2048 + (64 * (head i h).val + j.val), by omega⟩ := fun t h j => by
    rw [mixed_apply, B.qk, B.muk]
    simp only [B.pk]
    rfl
  have hv : ∀ t h j, mixed x2 x7 x11 (ix2 (row t b) (lane h j)) = A.mixed b t ⟨4096 + (64 * (head i h).val + j.val), by omega⟩ := fun t h j => by
    rw [mixed_apply, B.qv, B.muv]
    simp only [B.pv]
    rfl
  have hw : ∀ t h j, k0_pay242 (F := Ideal) (k0_pay238 (F := Ideal) x3 x8 x12 x13 x14) (ix2 (row t b) (lane h j))
      = decay (A.wf b t (Args.col (head i h) j)) := fun t h j => by
    rw [decay_apply, decayIn_apply _ _ _ _ _ B.w2z, B.w0]
    unfold Args.wf
    refine congrArg (fun z => decay (_ + z)) (Finset.sum_congr rfl fun k _ => ?_)
    rw [mixed_apply, B.qw, B.muw, B.w2]
    simp only [B.pw]
    rfl
  have ha : ∀ t h j, k0_pay243 (F := Ideal) (k0_pay239 x15) (k0_pay240 x16) (k0_pay241 x3 x8 x12) (constant (F := Ideal) S512x128 .f32 0x00000000#32)
      (ix2 (row t b) (lane h j)) = Ideal.logistic (A.af b t (Args.col (head i h) j)) := fun t h j => by
    rw [rateIn_apply _ _ _ _ _ B.a2z, B.a0]
    unfold Args.af
    refine congrArg (fun z => Ideal.logistic (_ + z)) (Finset.sum_congr rfl fun k _ => ?_)
    rw [mixed_apply, B.qa, B.mua, B.a2]
    simp only [B.pa]
    rfl
  have hkk : ∀ t h j, k0_pay244 (F := Ideal) (mixed x1 x6 x10) x17 (ix2 (row t b) (lane h j)) = A.raw b t (head i h) j := fun t h j => by
    rw [rawKey_apply, hk, B.kk]
    rfl
  have hu : ∀ t h j, k0_pay248 (F := Ideal) headOnes (k0_pay244 (F := Ideal) (mixed x1 x6 x10) x17)
      (k0_pay246 (F := Ideal) (k0_pay231 (F := Ideal) x0 x5 x9) (mixed x1 x6 x10) (k0_pay239 x15) (k0_pay240 x16) (k0_pay241 x3 x8 x12)
        (constant (F := Ideal) S512x128 .f32 0x00000000#32) x17 x18 x19) (ix2 (row t b) (lane h j)) = unit (A.raw b t (head i h)) j := fun t h j => by
    refine (unit_apply _ _ (row t b) h j (squares_apply _ _ _ _ _ _ _ _ _ _) fun l => ?_).trans ?_
    · obtain ⟨h', j', rfl⟩ : ∃ h' j', l = lane h' j' := ⟨⟨l.val / 64, by omega⟩, ⟨l.val % 64, by omega⟩, Fin.ext (by show l.val = 64 * (l.val / 64) + l.val % 64; omega)⟩
      rw [hkk]
      exact hr _ _ _ _
    · exact congrArg (fun f => unit f j) (funext fun j => hkk t h j)
  rw [rowsOut_table]
  unfold Args.newState newRow
  refine congrFun (steps_congr (funext fun j => B.s b h v j) ?_ ?_ ?_ ?_ (funext fun t => hv t h v)) j
  · refine funext fun t => funext fun j => (unit_neg _ _ _ _).trans (congrArg _ (hu t h j))
  · exact funext fun t => funext fun j => hw t h j
  · exact funext fun t => funext fun j => (unit_rate _ _ _ _ _).trans (congrArg₂ _ (hu t h j) (ha t h j))
  · refine funext fun t => funext fun j => (key_apply _ _ _ _ _ _ _ _).trans ?_
    exact (congrArg₂ (fun k a => key k a _) (hk t h j) (ha t h j)).trans (congrArg _ (B.ka h j))

end

end Cert.Wkv

end
-- ==== Proof.Wkv.Array.lean ====
/- What the call's array of states holds after the sixteen points of the grid. -/
module

public import proofs.«01_k».proof.Proof.Wkv.Block

@[expose] public section

noncomputable section

namespace Cert.Wkv

open Idealize.ShloMosaic Idealize.ShloMosaic.TcCoe Idealize.SL.Sem Cert.Kernel5Ideal Cert.Kernel5Ideal.Gen

/-- The entries of the arguments, by their coordinates. -/
def argsOf (p : Vec Ideal S4x128x8320 .f32) (q : Vec Ideal S1x128x6272 .f32) (s : Vec Ideal S1x128x32x64x64 .f32) (mu : Vec Ideal S1x6272 .f32)
    (w0 : Vec Ideal S1x2048 .f32) (w2 : Vec Ideal S1x64x2048 .f32) (a0 : Vec Ideal S1x2048 .f32) (a2 : Vec Ideal S1x64x2048 .f32)
    (kk ka : Vec Ideal S1x2048 .f32) : Args where
  p t b j := p (ix3 t b j)
  q b j := q (ix3 0 b j)
  s b h v j := s (ix5 0 b h v j)
  mu j := mu (ix2 0 j)
  w0 j := w0 (ix2 0 j)
  w2 k j := w2 (ix3 0 k j)
  a0 j := a0 (ix2 0 j)
  a2 k j := a2 (ix3 0 k j)
  kk j := kk (ix2 0 j)
  ka j := ka (ix2 0 j)

variable (m : (ℓ : Loc nD τ sig) → Buf (Elt Ideal) ℓ) (c : Dev nD)

/-- The arguments the launch has in memory. -/
abbrev args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ### The arrays, read from the arguments -/

theorem V_p (t : Fin 4) (b : Fin 128) (j : Fin 8320) : (V m c main_arg0 : Vec Ideal S4x128x8320 .f32) (ix3 t b j) = (args m c).p t b j := by
  rw [V_main_arg0]
  rfl

theorem V_q (b : Fin 128) (j : Fin 6272) : (V m c main_v23 : Vec Ideal S128x6272 .f32) (ix2 b j) = (args m c).q b j := by
  unfold V V0; simp only [hostOps0, List.flatten_cons, List.flatten_nil, List.append_nil]; after_results_simp
  unfold args argsOf
  dsimp only
  generalize m (c, main_arg1) = a
  pointwise

theorem V_mu (j : Fin 6272) : (V m c main_v2 : Vec Ideal S1x6272 .f32) (ix2 0 j) = (args m c).mu j := by
  unfold V V0; simp only [hostOps0, List.flatten_cons, List.flatten_nil, List.append_nil]; after_results_simp
  unfold args argsOf
  dsimp only
  generalize m (c, main_arg3) = a
  pointwise

theorem V_w0 (j : Fin 2048) : (V m c main_v4 : Vec Ideal S1x2048 .f32) (ix2 0 j) = (args m c).w0 j := by
  unfold V V0; simp only [hostOps0, List.flatten_cons, List.flatten_nil, List.append_nil]; after_results_simp
  unfold args argsOf
  dsimp only
  generalize m (c, main_arg4) = a
  pointwise

theorem V_w2 (k : Fin 64) (j : Fin 2048) : (V m c main_v9 : Vec Ideal S128x2048 .bf16) (ix2 ⟨k.val, by omega⟩ j) = (args m c).w2 k j := by
  unfold V V0; simp only [hostOps0, List.flatten_cons, List.flatten_nil, List.append_nil]; after_results_simp
  unfold args argsOf
  dsimp only
  pointwise
  after_results_simp
  generalize m (c, main_arg5) = a
  pointwise

theorem V_w2z (k : Fin 64) (j : Fin 2048) : (V m c main_v9 : Vec Ideal S128x2048 .bf16) (ix2 ⟨64 + k.val, by omega⟩ j) = (0 : EReal) := by
  unfold V V0; simp only [hostOps0, List.flatten_cons, List.flatten_nil, List.append_nil]; after_results_simp
  pointwise
  after_results_simp
  generalize m (c, main_arg5) = a
  pointwise

theorem V_a0 (j : Fin 2048) : (V m c main_v6 : Vec Ideal S1x2048 .f32) (ix2 0 j) = (args m c).a0 j := by
  unfold V V0; simp only [hostOps0, List.flatten_cons, List.flatten_nil, List.append_nil]; after_results_simp
  unfold args argsOf
  dsimp only
  generalize m (c, main_arg6) = a
  pointwise

theorem V_a2 (k : Fin 64) (j : Fin 2048) : (V m c main_v12 : Vec Ideal S128x2048 .bf16) (ix2 ⟨64 + k.val, by omega⟩ j) = (args m c).a2 k j := by
  unfold V V0; simp only [hostOps0, List.flatten_cons, List.flatten_nil, List.append_nil]; after_results_simp
  unfold args argsOf
  dsimp only
  pointwise
  after_results_simp
  generalize m (c, main_arg7) = a
  pointwise

theorem V_a2z (k : Fin 64) (j : Fin 2048) : (V m c main_v12 : Vec Ideal S128x2048 .bf16) (ix2 ⟨k.val, by omega⟩ j) = (0 : EReal) := by
  unfold V V0; simp only [hostOps0, List.flatten_cons, List.flatten_nil, List.append_nil]; after_results_simp
  pointwise
  after_results_simp
  generalize m (c, main_arg7) = a
  pointwise

theorem V_kk (j : Fin 2048) : (V m c main_v14 : Vec Ideal S1x2048 .f32) (ix2 0 j) = (args m c).kk j := by
  unfold V V0; simp only [hostOps0, List.flatten_cons, List.flatten_nil, List.append_nil]; after_results_simp
  unfold args argsOf
  dsimp only
  generalize m (c, main_arg8) = a
  pointwise

theorem V_ka (j : Fin 2048) : (V m c main_v16 : Vec Ideal S1x2048 .f32) (ix2 0 j) = (args m c).ka j := by
  unfold V V0; simp only [hostOps0, List.flatten_cons, List.flatten_nil, List.append_nil]; after_results_simp
  unfold args argsOf
  dsimp only
  generalize m (c, main_arg9) = a
  pointwise

theorem V_s (h : Fin 32) (v j : Fin 64) (b : Fin 128) : (V m c main_v25 : Vec Ideal S32x64x64x128 .f32) (ix4 h v j b) = (args m c).s b h v j := by
  unfold V V0; simp only [hostOps0, List.flatten_cons, List.flatten_nil, List.append_nil]; after_results_simp
  unfold args argsOf
  dsimp only
  generalize m (c, main_arg2) = a
  pointwise

/-! ### The windows' blocks -/

theorem index_eq : ∀ t : Fin cfg0.N,
    (win0_1.index t (0 : Fin 3) = 0 ∧ win0_1.index t (1 : Fin 3) = 0 ∧ win0_1.index t (2 : Fin 3) = 16 + t.val)
    ∧ (win0_2.index t (0 : Fin 3) = 0 ∧ win0_2.index t (1 : Fin 3) = 0 ∧ win0_2.index t (2 : Fin 3) = 32 + t.val)
    ∧ (win0_3.index t (0 : Fin 3) = 0 ∧ win0_3.index t (1 : Fin 3) = 0 ∧ win0_3.index t (2 : Fin 3) = 48)
    ∧ (win0_6.index t (0 : Fin 2) = 0 ∧ win0_6.index t (1 : Fin 2) = 16 + t.val)
    ∧ (win0_7.index t (0 : Fin 2) = 0 ∧ win0_7.index t (1 : Fin 2) = 32 + t.val)
    ∧ (win0_8.index t (0 : Fin 2) = 0 ∧ win0_8.index t (1 : Fin 2) = 48)
    ∧ (win0_10.index t (0 : Fin 2) = 0 ∧ win0_10.index t (1 : Fin 2) = 16 + t.val)
    ∧ (win0_11.index t (0 : Fin 2) = 0 ∧ win0_11.index t (1 : Fin 2) = 32 + t.val)
    ∧ (win0_12.index t (0 : Fin 2) = 0 ∧ win0_12.index t (1 : Fin 2) = 48) :=
  (by decide +kernel : ∀ t : Fin grid0.N, _)

theorem index_eq' : ∀ t : Fin cfg0.N,
    (win0_13.index t (0 : Fin 2) = 0 ∧ win0_13.index t (1 : Fin 2) = t.val)
    ∧ (win0_14.index t (0 : Fin 2) = 0 ∧ win0_14.index t (1 : Fin 2) = t.val)
    ∧ (win0_15.index t (0 : Fin 2) = 0 ∧ win0_15.index t (1 : Fin 2) = t.val)
    ∧ (win0_16.index t (0 : Fin 2) = 0 ∧ win0_16.index t (1 : Fin 2) = t.val)
    ∧ (win0_17.index t (0 : Fin 2) = 0 ∧ win0_17.index t (1 : Fin 2) = t.val)
    ∧ (win0_18.index t (0 : Fin 2) = 0 ∧ win0_18.index t (1 : Fin 2) = t.val)
    ∧ (win0_22.index t (0 : Fin 4) = t.val ∧ win0_22.index t (1 : Fin 4) = 0 ∧ win0_22.index t (2 : Fin 4) = 0 ∧ win0_22.index t (3 : Fin 4) = 0)
    ∧ (win0_24.index t (0 : Fin 4) = t.val ∧ win0_24.index t (1 : Fin 4) = 0 ∧ win0_24.index t (2 : Fin 4) = 0 ∧ win0_24.index t (3 : Fin 4) = 0) :=
  (by decide +kernel : ∀ t : Fin grid0.N, _)

/-- The pair of heads of a point. -/
abbrev pair (t : Fin cfg0.N) : Fin 16 := ⟨t.val, Nat.lt_of_lt_of_eq t.isLt N_0⟩

variable (t : Fin cfg0.N)

theorem iblk1 (s : Fin 4) (b l : Fin 128) : (iblk m c 1 t : Vec Ideal S4x128x128 .f32) (ix3 s b l) = V m c main_arg0 (ix3 s b (⟨128 * (16 + t.val) + l.val, by have := (pair t).isLt; dsimp only at this; omega⟩ : Fin 8320)) := by
  refine congrArg (V m c main_arg0) (funext fun a => Fin.ext ?_)
  obtain ⟨h0, h1, h2⟩ := (index_eq t).1
  match a with
  | ⟨0, _⟩ => show win0_1.index t (0 : Fin 3) * 4 + 1 * (s.val) = s.val; omega
  | ⟨1, _⟩ => show win0_1.index t (1 : Fin 3) * 128 + 1 * (b.val) = b.val; omega
  | ⟨2, _⟩ => show win0_1.index t (2 : Fin 3) * 128 + 1 * (l.val) = 128 * (16 + t.val) + l.val; omega

theorem iblk2 (s : Fin 4) (b l : Fin 128) : (iblk m c 2 t : Vec Ideal S4x128x128 .f32) (ix3 s b l) = V m c main_arg0 (ix3 s b (⟨128 * (32 + t.val) + l.val, by have := (pair t).isLt; dsimp only at this; omega⟩ : Fin 8320)) := by
  refine congrArg (V m c main_arg0) (funext fun a => Fin.ext ?_)
  obtain ⟨h0, h1, h2⟩ := (index_eq t).2.1
  match a with
  | ⟨0, _⟩ => show win0_2.index t (0 : Fin 3) * 4 + 1 * (s.val) = s.val; omega
  | ⟨1, _⟩ => show win0_2.index t (1 : Fin 3) * 128 + 1 * (b.val) = b.val; omega
  | ⟨2, _⟩ => show win0_2.index t (2 : Fin 3) * 128 + 1 * (l.val) = 128 * (32 + t.val) + l.val; omega

theorem iblk3 (s : Fin 4) (b l : Fin 128) : (iblk m c 3 t : Vec Ideal S4x128x128 .f32) (ix3 s b l) = V m c main_arg0 (ix3 s b (⟨128 * (48) + l.val, by have := (pair t).isLt; dsimp only at this; omega⟩ : Fin 8320)) := by
  refine congrArg (V m c main_arg0) (funext fun a => Fin.ext ?_)
  obtain ⟨h0, h1, h2⟩ := (index_eq t).2.2.1
  match a with
  | ⟨0, _⟩ => show win0_3.index t (0 : Fin 3) * 4 + 1 * (s.val) = s.val; omega
  | ⟨1, _⟩ => show win0_3.index t (1 : Fin 3) * 128 + 1 * (b.val) = b.val; omega
  | ⟨2, _⟩ => show win0_3.index t (2 : Fin 3) * 128 + 1 * (l.val) = 128 * (48) + l.val; omega

theorem iblk6 (b l : Fin 128) : (iblk m c 6 t : Vec Ideal S128x128 .f32) (ix2 b l) = V m c main_v23 (ix2 b (⟨128 * (16 + t.val) + l.val, by have := (pair t).isLt; dsimp only at this; omega⟩ : Fin 6272)) := by
  refine congrArg (V m c main_v23) (funext fun a => Fin.ext ?_)
  obtain ⟨h0, h1⟩ := (index_eq t).2.2.2.1
  match a with
  | ⟨0, _⟩ => show win0_6.index t (0 : Fin 2) * 128 + 1 * (b.val) = b.val; omega
  | ⟨1, _⟩ => show win0_6.index t (1 : Fin 2) * 128 + 1 * (l.val) = 128 * (16 + t.val) + l.val; omega

theorem iblk7 (b l : Fin 128) : (iblk m c 7 t : Vec Ideal S128x128 .f32) (ix2 b l) = V m c main_v23 (ix2 b (⟨128 * (32 + t.val) + l.val, by have := (pair t).isLt; dsimp only at this; omega⟩ : Fin 6272)) := by
  refine congrArg (V m c main_v23) (funext fun a => Fin.ext ?_)
  obtain ⟨h0, h1⟩ := (index_eq t).2.2.2.2.1
  match a with
  | ⟨0, _⟩ => show win0_7.index t (0 : Fin 2) * 128 + 1 * (b.val) = b.val; omega
  | ⟨1, _⟩ => show win0_7.index t (1 : Fin 2) * 128 + 1 * (l.val) = 128 * (32 + t.val) + l.val; omega

theorem iblk8 (b l : Fin 128) : (iblk m c 8 t : Vec Ideal S128x128 .f32) (ix2 b l) = V m c main_v23 (ix2 b (⟨128 * (48) + l.val, by have := (pair t).isLt; dsimp only at this; omega⟩ : Fin 6272)) := by
  refine congrArg (V m c main_v23) (funext fun a => Fin.ext ?_)
  obtain ⟨h0, h1⟩ := (index_eq t).2.2.2.2.2.1
  match a with
  | ⟨0, _⟩ => show win0_8.index t (0 : Fin 2) * 128 + 1 * (b.val) = b.val; omega
  | ⟨1, _⟩ => show win0_8.index t (1 : Fin 2) * 128 + 1 * (l.val) = 128 * (48) + l.val; omega

theorem iblk10 (l : Fin 128) : (iblk m c 10 t : Vec Ideal S1x128 .f32) (ix2 (0 : Fin 1) l) = V m c main_v2 (ix2 (0 : Fin 1) (⟨128 * (16 + t.val) + l.val, by have := (pair t).isLt; dsimp only at this; omega⟩ : Fin 6272)) := by
  refine congrArg (V m c main_v2) (funext fun a => Fin.ext ?_)
  obtain ⟨h0, h1⟩ := (index_eq t).2.2.2.2.2.2.1
  match a with
  | ⟨0, _⟩ => show win0_10.index t (0 : Fin 2) * 1 + 1 * (0) = 0; omega
  | ⟨1, _⟩ => show win0_10.index t (1 : Fin 2) * 128 + 1 * (l.val) = 128 * (16 + t.val) + l.val; omega

theorem iblk11 (l : Fin 128) : (iblk m c 11 t : Vec Ideal S1x128 .f32) (ix2 (0 : Fin 1) l) = V m c main_v2 (ix2 (0 : Fin 1) (⟨128 * (32 + t.val) + l.val, by have := (pair t).isLt; dsimp only at this; omega⟩ : Fin 6272)) := by
  refine congrArg (V m c main_v2) (funext fun a => Fin.ext ?_)
  obtain ⟨h0, h1⟩ := (index_eq t).2.2.2.2.2.2.2.1
  match a with
  | ⟨0, _⟩ => show win0_11.index t (0 : Fin 2) * 1 + 1 * (0) = 0; omega
  | ⟨1, _⟩ => show win0_11.index t (1 : Fin 2) * 128 + 1 * (l.val) = 128 * (32 + t.val) + l.val; omega

theorem iblk12 (l : Fin 128) : (iblk m c 12 t : Vec Ideal S1x128 .f32) (ix2 (0 : Fin 1) l) = V m c main_v2 (ix2 (0 : Fin 1) (⟨128 * (48) + l.val, by have := (pair t).isLt; dsimp only at this; omega⟩ : Fin 6272)) := by
  refine congrArg (V m c main_v2) (funext fun a => Fin.ext ?_)
  obtain ⟨h0, h1⟩ := (index_eq t).2.2.2.2.2.2.2.2
  match a with
  | ⟨0, _⟩ => show win0_12.index t (0 : Fin 2) * 1 + 1 * (0) = 0; omega
  | ⟨1, _⟩ => show win0_12.index t (1 : Fin 2) * 128 + 1 * (l.val) = 128 * (48) + l.val; omega

theorem iblk13 (l : Fin 128) : (iblk m c 13 t : Vec Ideal S1x128 .f32) (ix2 (0 : Fin 1) l) = V m c main_v4 (ix2 (0 : Fin 1) (⟨128 * t.val + l.val, by have := (pair t).isLt; dsimp only at this; omega⟩ : Fin 2048)) := by
  refine congrArg (V m c main_v4) (funext fun a => Fin.ext ?_)
  obtain ⟨h0, h1⟩ := (index_eq' t).1
  match a with
  | ⟨0, _⟩ => show win0_13.index t (0 : Fin 2) * 1 + 1 * (0) = 0; omega
  | ⟨1, _⟩ => show win0_13.index t (1 : Fin 2) * 128 + 1 * (l.val) = 128 * t.val + l.val; omega

theorem iblk15 (l : Fin 128) : (iblk m c 15 t : Vec Ideal S1x128 .f32) (ix2 (0 : Fin 1) l) = V m c main_v6 (ix2 (0 : Fin 1) (⟨128 * t.val + l.val, by have := (pair t).isLt; dsimp only at this; omega⟩ : Fin 2048)) := by
  refine congrArg (V m c main_v6) (funext fun a => Fin.ext ?_)
  obtain ⟨h0, h1⟩ := (index_eq' t).2.2.1
  match a with
  | ⟨0, _⟩ => show win0_15.index t (0 : Fin 2) * 1 + 1 * (0) = 0; omega
  | ⟨1, _⟩ => show win0_15.index t (1 : Fin 2) * 128 + 1 * (l.val) = 128 * t.val + l.val; omega

theorem iblk17 (l : Fin 128) : (iblk m c 17 t : Vec Ideal S1x128 .f32) (ix2 (0 : Fin 1) l) = V m c main_v14 (ix2 (0 : Fin 1) (⟨128 * t.val + l.val, by have := (pair t).isLt; dsimp only at this; omega⟩ : Fin 2048)) := by
  refine congrArg (V m c main_v14) (funext fun a => Fin.ext ?_)
  obtain ⟨h0, h1⟩ := (index_eq' t).2.2.2.2.1
  match a with
  | ⟨0, _⟩ => show win0_17.index t (0 : Fin 2) * 1 + 1 * (0) = 0; omega
  | ⟨1, _⟩ => show win0_17.index t (1 : Fin 2) * 128 + 1 * (l.val) = 128 * t.val + l.val; omega

theorem iblk18 (l : Fin 128) : (iblk m c 18 t : Vec Ideal S1x128 .f32) (ix2 (0 : Fin 1) l) = V m c main_v16 (ix2 (0 : Fin 1) (⟨128 * t.val + l.val, by have := (pair t).isLt; dsimp only at this; omega⟩ : Fin 2048)) := by
  refine congrArg (V m c main_v16) (funext fun a => Fin.ext ?_)
  obtain ⟨h0, h1⟩ := (index_eq' t).2.2.2.2.2.1
  match a with
  | ⟨0, _⟩ => show win0_18.index t (0 : Fin 2) * 1 + 1 * (0) = 0; omega
  | ⟨1, _⟩ => show win0_18.index t (1 : Fin 2) * 128 + 1 * (l.val) = 128 * t.val + l.val; omega

theorem iblk14 (k l : Fin 128) : (iblk m c 14 t : Vec Ideal S128x128 .bf16) (ix2 k l) = V m c main_v9 (ix2 k (⟨128 * t.val + l.val, by have := (pair t).isLt; dsimp only at this; omega⟩ : Fin 2048)) := by
  refine congrArg (V m c main_v9) (funext fun a => Fin.ext ?_)
  obtain ⟨h0, h1⟩ := (index_eq' t).2.1
  match a with
  | ⟨0, _⟩ => show win0_14.index t (0 : Fin 2) * 128 + 1 * (k.val) = k.val; omega
  | ⟨1, _⟩ => show win0_14.index t (1 : Fin 2) * 128 + 1 * (l.val) = 128 * t.val + l.val; omega

theorem iblk16 (k l : Fin 128) : (iblk m c 16 t : Vec Ideal S128x128 .bf16) (ix2 k l) = V m c main_v12 (ix2 k (⟨128 * t.val + l.val, by have := (pair t).isLt; dsimp only at this; omega⟩ : Fin 2048)) := by
  refine congrArg (V m c main_v12) (funext fun a => Fin.ext ?_)
  obtain ⟨h0, h1⟩ := (index_eq' t).2.2.2.1
  match a with
  | ⟨0, _⟩ => show win0_16.index t (0 : Fin 2) * 128 + 1 * (k.val) = k.val; omega
  | ⟨1, _⟩ => show win0_16.index t (1 : Fin 2) * 128 + 1 * (l.val) = 128 * t.val + l.val; omega

theorem iblk22 (h : Fin 2) (v j : Fin 64) (b : Fin 128) : (iblk m c 22 t : Vec Ideal S2x64x64x128 .f32) (ix4 h v j b) = V m c main_v25 (ix4 (head (pair t) h) v j b) := by
  refine congrArg (V m c main_v25) (funext fun a => Fin.ext ?_)
  obtain ⟨h0, h1, h2, h3⟩ := (index_eq' t).2.2.2.2.2.2.1
  match a with
  | ⟨0, _⟩ => show win0_22.index t (0 : Fin 4) * 2 + 1 * (h.val) = 2 * t.val + h.val; omega
  | ⟨1, _⟩ => show win0_22.index t (1 : Fin 4) * 64 + 1 * (v.val) = v.val; omega
  | ⟨2, _⟩ => show win0_22.index t (2 : Fin 4) * 64 + 1 * (j.val) = j.val; omega
  | ⟨3, _⟩ => show win0_22.index t (3 : Fin 4) * 128 + 1 * (b.val) = b.val; omega

theorem emb24 (h : Fin 2) (v j : Fin 64) (b : Fin 128) :
    ((cfg0.win 24).blk t).view.emb (ix4 h v j b) = (ix4 (head (pair t) h) v j b : S32x64x64x128.Idx) := by
  refine funext fun a => Fin.ext ?_
  obtain ⟨h0, h1, h2, h3⟩ := (index_eq' t).2.2.2.2.2.2.2
  match a with
  | ⟨0, _⟩ => show win0_24.index t (0 : Fin 4) * 2 + 1 * h.val = 2 * t.val + h.val; omega
  | ⟨1, _⟩ => show win0_24.index t (1 : Fin 4) * 64 + 1 * v.val = v.val; omega
  | ⟨2, _⟩ => show win0_24.index t (2 : Fin 4) * 64 + 1 * j.val = j.val; omega
  | ⟨3, _⟩ => show win0_24.index t (3 : Fin 4) * 128 + 1 * b.val = b.val; omega

/-- The column of a lane of a pair of heads. -/
theorem lane_col (h : Fin 2) (j : Fin 64) :
    (⟨128 * t.val + (lane h j).val, by have := (pair t).isLt; dsimp only at this; omega⟩ : Fin 2048) = Args.col (head (pair t) h) j :=
  Fin.ext (by show 128 * t.val + (64 * h.val + j.val) = 64 * (2 * t.val + h.val) + j.val; omega)

/-- The blocks of a point are its parts of the arguments. -/
theorem blocks : Block (args m c) (pair t) (iblk m c 1 t) (iblk m c 2 t) (iblk m c 3 t) (iblk m c 6 t) (iblk m c 7 t) (iblk m c 8 t)
    (iblk m c 10 t) (iblk m c 11 t) (iblk m c 12 t) (iblk m c 13 t) (iblk m c 14 t) (iblk m c 15 t) (iblk m c 16 t) (iblk m c 17 t)
    (iblk m c 18 t) (iblk m c 22 t) where
  pk s b h j := ((iblk1 m c t s b (lane h j)).trans (V_p m c s b _)).trans (congrArg _ (Fin.ext (by show 128 * (16 + t.val) + (64 * h.val + j.val) = 2048 + (64 * (2 * t.val + h.val) + j.val); omega)))
  pv s b h j := ((iblk2 m c t s b (lane h j)).trans (V_p m c s b _)).trans (congrArg _ (Fin.ext (by show 128 * (32 + t.val) + (64 * h.val + j.val) = 4096 + (64 * (2 * t.val + h.val) + j.val); omega)))
  pw s b j := ((iblk3 m c t s b _).trans (V_p m c s b _)).trans (congrArg _ (Fin.ext (by show 128 * 48 + j.val = 6144 + j.val; omega)))
  pa s b j := ((iblk3 m c t s b _).trans (V_p m c s b _)).trans (congrArg _ (Fin.ext (by show 128 * 48 + (64 + j.val) = 6208 + j.val; omega)))
  qk b h j := ((iblk6 m c t b (lane h j)).trans (V_q m c b _)).trans (congrArg _ (Fin.ext (by show 128 * (16 + t.val) + (64 * h.val + j.val) = 2048 + (64 * (2 * t.val + h.val) + j.val); omega)))
  qv b h j := ((iblk7 m c t b (lane h j)).trans (V_q m c b _)).trans (congrArg _ (Fin.ext (by show 128 * (32 + t.val) + (64 * h.val + j.val) = 4096 + (64 * (2 * t.val + h.val) + j.val); omega)))
  qw b j := ((iblk8 m c t b _).trans (V_q m c b _)).trans (congrArg _ (Fin.ext (by show 128 * 48 + j.val = 6144 + j.val; omega)))
  qa b j := ((iblk8 m c t b _).trans (V_q m c b _)).trans (congrArg _ (Fin.ext (by show 128 * 48 + (64 + j.val) = 6208 + j.val; omega)))
  muk h j := ((iblk10 m c t (lane h j)).trans (V_mu m c _)).trans (congrArg _ (Fin.ext (by show 128 * (16 + t.val) + (64 * h.val + j.val) = 2048 + (64 * (2 * t.val + h.val) + j.val); omega)))
  muv h j := ((iblk11 m c t (lane h j)).trans (V_mu m c _)).trans (congrArg _ (Fin.ext (by show 128 * (32 + t.val) + (64 * h.val + j.val) = 4096 + (64 * (2 * t.val + h.val) + j.val); omega)))
  muw j := ((iblk12 m c t _).trans (V_mu m c _)).trans (congrArg _ (Fin.ext (by show 128 * 48 + j.val = 6144 + j.val; omega)))
  mua j := ((iblk12 m c t _).trans (V_mu m c _)).trans (congrArg _ (Fin.ext (by show 128 * 48 + (64 + j.val) = 6208 + j.val; omega)))
  w0 h j := ((iblk13 m c t (lane h j)).trans (V_w0 m c _)).trans (congrArg _ (lane_col t h j))
  w2 k h j := ((iblk14 m c t _ (lane h j)).trans (V_w2 m c k _)).trans (congrArg _ (lane_col t h j))
  w2z k l := (iblk14 m c t _ l).trans (V_w2z m c k _)
  a0 h j := ((iblk15 m c t (lane h j)).trans (V_a0 m c _)).trans (congrArg _ (lane_col t h j))
  a2 k h j := ((iblk16 m c t _ (lane h j)).trans (V_a2 m c k _)).trans (congrArg _ (lane_col t h j))
  a2z k l := (iblk16 m c t _ l).trans (V_a2z m c k _)
  kk h j := ((iblk17 m c t (lane h j)).trans (V_kk m c _)).trans (congrArg _ (lane_col t h j))
  ka h j := ((iblk18 m c t (lane h j)).trans (V_ka m c _)).trans (congrArg _ (lane_col t h j))
  s b h v j := (iblk22 m c t h v j b).trans (V_s m c _ v j b)

end Cert.Wkv

end
-- ==== Proof.Wkv.Final.lean ====
/- The call's array of states after the whole grid. -/
module

public import proofs.«01_k».proof.Proof.Wkv.Array

@[expose] public section

noncomputable section

namespace Cert.Wkv

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- The states after the four tokens, the tokens of the batch last. -/
abbrev states : Vec Ideal S32x64x64x128 .f32 := fun i => (args m c).newState (i 3) (i 0) (i 1) (i 2)

variable (hr : ∀ b t h j, ∃ r : ℝ, (args m c).raw b t h j = (r : EReal))
include hr

theorem out_apply (t : Fin cfg0.N) (h : Fin 2) (v j : Fin 64) (b : Fin 128) :
    ((outsAt0 m c t).2 : Vec Ideal S2x64x64x128 .f32) (ix4 h v j b) = states m c (ix4 (head (pair t) h) v j b) := by
  unfold outsAt0
  dsimp only
  rw [state_out]
  exact block_out (blocks m c t) hr h v j b

theorem flushed_eq (t : Fin cfg0.N) : (dats m 0 c).flushed 24 t = ((cfg0.win 24).blk t).view.read (Elt Ideal) (states m c) := by
  show (cfg0.win 24).cut _ ((dats m 0 c).after 24 t) = _
  rw [after0_24]
  refine funext fun (y : S2x64x64x128.Idx) => ?_
  obtain ⟨h, v, j, b, rfl⟩ : ∃ (h : Fin 2) (v j : Fin 64) (b : Fin 128), y = ix4 h v j b :=
    ⟨y 0, y 1, y 2, y 3, funext fun a => match a with | ⟨0, _⟩ => rfl | ⟨1, _⟩ => rfl | ⟨2, _⟩ => rfl | ⟨3, _⟩ => rfl⟩
  show ((outsAt0 m c t).2 : Vec Ideal S2x64x64x128 .f32) (ix4 h v j b) = states m c (((cfg0.win 24).blk t).view.emb (ix4 h v j b))
  rw [emb24, out_apply m c hr]

omit hr in
theorem cover (i : S32x64x64x128.Idx) : ∃ t : Fin cfg0.N, (cfg0.win 24).flush t = true ∧ i ∈ ((cfg0.win 24).blk t).view.set := by
  have h0 : (i 0).val < 32 := (i 0).isLt
  obtain ⟨t, ht⟩ : ∃ t : Fin cfg0.N, t.val = (i 0).val / 2 := ⟨⟨(i 0).val / 2, Nat.lt_of_lt_of_eq (by omega : (i 0).val / 2 < 16) N_0.symm⟩, rfl⟩
  refine ⟨t, flush0_24 t, ?_⟩
  have e : ((cfg0.win 24).blk t).view.emb (ix4 (⟨(i 0).val % 2, by omega⟩ : Fin 2) (i 1 : Fin 64) (i 2 : Fin 64) (i 3 : Fin 128)) = i := by
    refine (emb24 t _ _ _ _).trans (funext fun a => Fin.ext ?_)
    match a with
    | ⟨0, _⟩ => show 2 * t.val + (i 0).val % 2 = (i 0).val; omega
    | ⟨1, _⟩ => rfl
    | ⟨2, _⟩ => rfl
    | ⟨3, _⟩ => rfl
  exact e ▸ View.emb_mem_set _ _

theorem final : (dats m 0 c).arrAt 24 cfg0.N = states m c :=
  (dats m 0 c).arrAt_eq_of_cover 24 (states m c) (fun t _ => flushed_eq m c hr t) cover

end Cert.Wkv

end
-- ==== Proof.Wkv.Tail.lean ====
/- The recurrence call's run: the state the program returns, read from the call's array. -/
module

public import proofs.«01_k».proof.Proof.Wkv.Final

@[expose] public section

noncomputable section

namespace Cert.Wkv

open Idealize.ShloMosaic Idealize.ShloMosaic.TcCoe Idealize.SL.Sem Cert.Kernel5Ideal Cert.Kernel5Ideal.Gen

/-- The new state in the layout in which it came. -/
def Args.stateOut (A : Args) : Vec Ideal S1x128x32x64x64 .f32 := fun i => A.newState (i 1) (i 2) (i 3) (i 4)

variable (m : (ℓ : Loc nD τ sig) → Buf (Elt Ideal) ℓ) (ρ : Dev nD → PrngReg) (c : Dev nD)

/-- No other window of the call lies on its array of states. -/
theorem only_window : ∀ w : Fin 25, Pipeline.arrRef (cfgs 0).spec w = main_v26_1 → w = 24 := by decide

theorem exit_array (hr : ∀ b t h j, ∃ r : ℝ, (args m c).raw b t h j = (r : EReal)) :
    Pipeline.withArrays (cfgs 0).spec c (V0 m c) (fun w => (dats m 0 c).arrAt w (cfgs 0).N) (Proc.devRef .tc main_v26_1) = states m c := by
  refine Eq.trans ?_ (final m c hr)
  unfold Pipeline.withArrays
  have h : ∃ w, Proc.devRef .tc (Pipeline.arrRef (cfgs 0).spec w) = Proc.devRef (τ := τ) .tc main_v26_1 := ⟨24, rfl⟩
  rw [dif_pos h]
  have e := only_window h.choose (Proc.devRef_injective _ h.choose_spec)
  have key : ∀ w (_ : w = (24 : Fin 25)) (p : Proc.devRef .tc (Pipeline.arrRef (cfgs 0).spec w) = Proc.devRef (τ := τ) .tc main_v26_1),
      cast (congrArg (fun b : DevRef τ sig => b.ty.Contents (Elt Ideal)) p) ((dats m 0 c).arrAt w (cfgs 0).N) = (dats m 0 c).arrAt 24 cfg0.N := by
    rintro _ rfl p
    rfl
  exact key _ e h.choose_spec

theorem tail28 (hr : ∀ b t h j, ∃ r : ℝ, (args m c).raw b t h j = (r : EReal)) :
    Pipeline.afterTail₀ cfgs (dats m) 0 (V0 m) [hostOps1] c main_v28 = (args m c).stateOut := by
  have h := exit_array m c hr
  unfold Pipeline.afterTail₀
  revert h
  generalize Pipeline.withArrays (cfgs 0).spec c (V0 m c) (fun w => (dats m 0 c).arrAt w (cfgs 0).N) = W
  intro h
  simp only [hostOps1, List.flatten_cons, List.flatten_nil, List.append_nil]; after_results_simp
  rw [h]
  refine funext fun (y : S1x128x32x64x64.Idx) => ?_
  obtain ⟨a, b, h, v, j, rfl⟩ : ∃ (a : Fin 1) (b : Fin 128) (h : Fin 32) (v j : Fin 64), y = ix5 a b h v j :=
    ⟨y 0, y 1, y 2, y 3, y 4, funext fun a => match a with | ⟨0, _⟩ => rfl | ⟨1, _⟩ => rfl | ⟨2, _⟩ => rfl | ⟨3, _⟩ => rfl | ⟨4, _⟩ => rfl⟩
  show _ = states m c (ix4 h v j b)
  generalize states m c = z
  pointwise

/-- The run, with the state read. -/
theorem run (hr : ∀ c b t h j, ∃ r : ℝ, (args m c).raw b t h j = (r : EReal)) :
    θ_run defs (onTc (τ := τ) (main (F := Ideal))) ⟨m, fun _ => 0, ρ⟩ fun r => ∀ c : Dev nD,
      r.2.mem ((c : Thread nD τ).loc main_v28) = (args m c).stateOut
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨((h.1 c).2 main_v28 (Pipeline.mem_restRefs_of main_v28 (by decide) (by decide))).trans (tail28 m c (hr c)), h.2 c⟩)
    (θ_run_and (run_main m ρ) (unchanged m ρ))

end Cert.Wkv

end
-- ==== Proof.Wkv.Ref.lean ====
/- The reference's stages, one entry at a time, up to the vectors of the recurrence. -/
module

public import proofs.«01_k».proof.Proof.Wkv.Args
public import proofs.«01_k».proof.Proof.Gen.Reference5Ideal.Read
public import Idealize.ShloMosaic.Lib.Pointwise

@[expose] public section

noncomputable section

namespace Cert.Wkv

open Idealize.ShloMosaic Idealize.ShloMosaic.TcCoe Cert.Reference5Ideal Cert.Reference5Ideal.Gen Cert.Reference5Ideal.Read

variable (x0 : Vec Ideal S4x128x8320 .f32) (x1 : Vec Ideal S1x128x6272 .f32) (x2 : Vec Ideal S1x128x32x64x64 .f32)
  (x3 : Vec Ideal S1x6272 .f32) (x4 : Vec Ideal S1x2048 .f32) (x5 : Vec Ideal S1x64x2048 .f32) (x6 : Vec Ideal S1x2048 .f32)
  (x7 : Vec Ideal S1x64x2048 .f32) (x8 x9 : Vec Ideal S1x2048 .f32)

/-- The arguments of the reference. -/
def refArgs : Args where
  p t b j := x0 (ix3 t b j)
  q b j := x1 (ix3 0 b j)
  s b h v j := x2 (ix5 0 b h v j)
  mu j := x3 (ix2 0 j)
  w0 j := x4 (ix2 0 j)
  w2 k j := x5 (ix3 0 k j)
  a0 j := x6 (ix2 0 j)
  a2 k j := x7 (ix3 0 k j)
  kk j := x8 (ix2 0 j)
  ka j := x9 (ix2 0 j)

theorem ref_prev (b : Fin 128) (t : Fin 4) (c : Fin 6272) : val_main_v5 (F := Ideal) x0 x1 (ix3 b t c)
    = (![x1 (ix3 0 b c), x0 (ix3 0 b ⟨c.val, by omega⟩), x0 (ix3 1 b ⟨c.val, by omega⟩), x0 (ix3 2 b ⟨c.val, by omega⟩)] : Fin 4 → EReal) t := by
  fin_cases t <;> pointwise [val_main_v5, val_main_v4, val_main_v3, val_main_v2, val_main_v1, val_main_v0]

theorem ref_mixed (b : Fin 128) (t : Fin 4) (c : Fin 6272) : val_main_v11 (F := Ideal) x0 x1 x3 (ix3 b t c) = (refArgs x0 x1 x2 x3 x4 x5 x6 x7 x8 x9).mixed b t c := by
  have h := ref_prev x0 x1 b t c
  dsimp only [val_main_v11, val_main_v10, val_main_v6]
  generalize val_main_v5 (F := Ideal) x0 x1 = z at h ⊢
  pointwise [val_main_v1, val_main_v0, val_main_v9, val_main_v8, val_main_v7]
  rw [h]
  rfl

theorem ref_wf (b : Fin 128) (t : Fin 4) (c : Fin 2048) : val_main_v22 (F := Ideal) x0 x1 x3 x4 x5 (ix3 b t c) = (refArgs x0 x1 x2 x3 x4 x5 x6 x7 x8 x9).wf b t c := by
  have h := fun c => ref_mixed x0 x1 x2 x3 x4 x5 x6 x7 x8 x9 b t c
  dsimp only [val_main_v22, val_main_v19, val_main_v17, val_main_v14]
  generalize val_main_v11 (F := Ideal) x0 x1 x3 = z at h ⊢
  pointwise [val_main_v21, val_main_v20, val_main_v16, val_main_v18]
  simp only [h]
  rfl

theorem ref_af (b : Fin 128) (t : Fin 4) (c : Fin 2048) : val_main_v36 (F := Ideal) x0 x1 x3 x6 x7 (ix3 b t c) = (refArgs x0 x1 x2 x3 x4 x5 x6 x7 x8 x9).af b t c := by
  have h := fun c => ref_mixed x0 x1 x2 x3 x4 x5 x6 x7 x8 x9 b t c
  dsimp only [val_main_v36, val_main_v33, val_main_v15]
  generalize val_main_v11 (F := Ideal) x0 x1 x3 = z at h ⊢
  pointwise [val_main_v35, val_main_v34, val_main_v31, val_main_v32]
  simp only [h]
  rfl

end Cert.Wkv

end
-- ==== Proof.Wkv.RefHeads.lean ====
/- The reference's vectors of the recurrence, one entry at a time. -/
module

public import proofs.«01_k».proof.Proof.Wkv.Ref

@[expose] public section

noncomputable section

namespace Cert.Wkv

open Idealize.ShloMosaic Idealize.ShloMosaic.TcCoe Cert.Reference5Ideal Cert.Reference5Ideal.Gen Cert.Reference5Ideal.Read

variable (x0 : Vec Ideal S4x128x8320 .f32) (x1 : Vec Ideal S1x128x6272 .f32) (x2 : Vec Ideal S1x128x32x64x64 .f32)
  (x3 : Vec Ideal S1x6272 .f32) (x4 : Vec Ideal S1x2048 .f32) (x5 : Vec Ideal S1x64x2048 .f32) (x6 : Vec Ideal S1x2048 .f32)
  (x7 : Vec Ideal S1x64x2048 .f32) (x8 x9 : Vec Ideal S1x2048 .f32)

theorem abs_eq (x : EReal) : FloatOps.absf (F := Ideal) (φ := FTy.f32) x = max x (-x) := rfl

theorem half_eq : Ideal.ofBits FTy.f32 0x3F000000#32 = ((2⁻¹ : ℝ) : EReal) := by
  simp [Ideal.ofBits, Ideal.ieee]
  norm_num [← EReal.coe_mul]

theorem floor_eq : Ideal.ofBits FTy.f32 0x2B8CBCCC#32 = ((floor : ℝ) : EReal) := by
  simp [Ideal.ofBits, Ideal.ieee]
  norm_num [← EReal.coe_mul]

theorem ref_decay (b : Fin 128) (t : Fin 4) (c : Fin 2048) : val_main_v30 (F := Ideal) x0 x1 x3 x4 x5 (ix3 b t c) = decay ((refArgs x0 x1 x2 x3 x4 x5 x6 x7 x8 x9).wf b t c) := by
  rw [← decay_softplus, ← ref_wf]
  dsimp only [val_main_v30, val_main_v29, val_main_v28, val_main_v27, val_main_v25, val_main_v24, val_main_call0_v11, val_main_call0_v10, val_main_call0_v9,
    val_main_call0_v8, val_main_call0_v7, val_main_call0_v6, val_main_call0_v4, val_main_call0_v3, val_main_call0_v1, val_main_v23]
  generalize val_main_v22 (F := Ideal) x0 x1 x3 x4 x5 = z
  pointwise [val_main_v26, val_main_cst, val_main_call0_v0, val_main_call0_v2, val_main_call0_v5, val_main_call0_cst]
  simp [softplus, half_eq, abs_eq]

theorem ref_rate (b : Fin 128) (t : Fin 4) (h : Fin 32) (j : Fin 64) :
    val_main_v45 (F := Ideal) x0 x1 x3 x6 x7 (ix4 b t h j) = Ideal.logistic ((refArgs x0 x1 x2 x3 x4 x5 x6 x7 x8 x9).af b t (Args.col h j)) := by
  rw [← ref_af]
  dsimp only [val_main_v45, val_main_v42, val_main_v40, val_main_v38, val_main_v37]
  generalize val_main_v36 (F := Ideal) x0 x1 x3 x6 x7 = z
  pointwise [val_main_v39, val_main_v41, val_main_cst_0, val_main_cst_1]
  simp only [Nat.mul_comm h.val 64]
  rfl

theorem ref_decays (b : Fin 128) (t : Fin 4) (h : Fin 32) (j : Fin 64) :
    val_main_v46 (F := Ideal) x0 x1 x3 x4 x5 (ix4 b t h j) = decay ((refArgs x0 x1 x2 x3 x4 x5 x6 x7 x8 x9).wf b t (Args.col h j)) := by
  rw [← ref_decay]
  dsimp only [val_main_v46]
  generalize val_main_v30 (F := Ideal) x0 x1 x3 x4 x5 = z
  pointwise
  simp only [Nat.mul_comm h.val 64]

theorem ref_keys (b : Fin 128) (t : Fin 4) (h : Fin 32) (j : Fin 64) :
    val_main_v43 (F := Ideal) x0 x1 x3 (ix4 b t h j) = (refArgs x0 x1 x2 x3 x4 x5 x6 x7 x8 x9).mixed b t ⟨2048 + (64 * h.val + j.val), by omega⟩ := by
  rw [← ref_mixed]
  dsimp only [val_main_v43, val_main_v12]
  generalize val_main_v11 (F := Ideal) x0 x1 x3 = z
  pointwise
  simp only [Nat.mul_comm h.val 64]

theorem ref_values (b : Fin 128) (t : Fin 4) (h : Fin 32) (j : Fin 64) :
    val_main_v44 (F := Ideal) x0 x1 x3 (ix4 b t h j) = (refArgs x0 x1 x2 x3 x4 x5 x6 x7 x8 x9).mixed b t ⟨4096 + (64 * h.val + j.val), by omega⟩ := by
  rw [← ref_mixed]
  dsimp only [val_main_v44, val_main_v13]
  generalize val_main_v11 (F := Ideal) x0 x1 x3 = z
  pointwise
  simp only [Nat.mul_comm h.val 64]

theorem ref_raw (b : Fin 128) (t : Fin 4) (h : Fin 32) (j : Fin 64) :
    val_main_v51 (F := Ideal) x0 x1 x3 x8 (ix4 b t h j) = (refArgs x0 x1 x2 x3 x4 x5 x6 x7 x8 x9).raw b t h j := by
  unfold Args.raw
  rw [← ref_keys]
  dsimp only [val_main_v51]
  generalize val_main_v43 (F := Ideal) x0 x1 x3 = z
  pointwise [val_main_v50, val_main_v49, val_main_v48, val_main_v47]
  simp only [Nat.mul_comm h.val 64]
  rfl

theorem ref_unit (b : Fin 128) (t : Fin 4) (h : Fin 32) (j : Fin 64) :
    val_main_v59 (F := Ideal) x0 x1 x3 x8 (ix4 b t h j) = unit (fun i => (refArgs x0 x1 x2 x3 x4 x5 x6 x7 x8 x9).raw b t h i) j := by
  have hz := fun i => ref_raw x0 x1 x2 x3 x4 x5 x6 x7 x8 x9 b t h i
  dsimp only [val_main_v59, val_main_v58, val_main_v57, val_main_v55, val_main_v54, val_main_v53, val_main_v52]
  generalize val_main_v51 (F := Ideal) x0 x1 x3 x8 = z at hz ⊢
  unfold unit
  simp only [← hz]
  pointwise [val_main_v56, val_main_cst_3, val_main_cst_2]
  simp [floor_eq]

theorem ref_key (b : Fin 128) (t : Fin 4) (h : Fin 32) (j : Fin 64) :
    val_main_v69 (F := Ideal) x0 x1 x3 x6 x7 x9 (ix4 b t h j)
      = key ((refArgs x0 x1 x2 x3 x4 x5 x6 x7 x8 x9).mixed b t ⟨2048 + (64 * h.val + j.val), by omega⟩) (Ideal.logistic ((refArgs x0 x1 x2 x3 x4 x5 x6 x7 x8 x9).af b t (Args.col h j))) ((refArgs x0 x1 x2 x3 x4 x5 x6 x7 x8 x9).ka (Args.col h j)) := by
  unfold key
  rw [← ref_keys, ← ref_rate]
  dsimp only [val_main_v69, val_main_v68, val_main_v66, val_main_v61]
  generalize val_main_v43 (F := Ideal) x0 x1 x3 = z
  generalize val_main_v45 (F := Ideal) x0 x1 x3 x6 x7 = y
  pointwise [val_main_v67, val_main_cst_5, val_main_v60, val_main_cst_4, val_main_v65, val_main_v64, val_main_v63, val_main_v62]
  simp only [Nat.mul_comm h.val 64]
  rfl

end Cert.Wkv

end
-- ==== Proof.Wkv.RefStep.lean ====
/- The reference's step of the recurrence, as one operation on the state and the step's vectors. -/
module

public import proofs.«01_k».proof.Proof.Wkv.Ref

@[expose] public section

noncomputable section

namespace Cert.Wkv

open Idealize.ShloMosaic Idealize.ShloMosaic.TcCoe Cert.Reference5Ideal Cert.Reference5Ideal.Gen Cert.Reference5Ideal.Read

/-- The vectors of one time. -/
def headAt (t : Fin 4) (x : Vec Ideal S128x4x32x64 .f32) : Vec Ideal S128x32x64 .f32 := fun i => x (ix4 (i 0) t (i 1) (i 2))

/-- One step of the recurrence on every sequence and head. -/
def stepAll (s : FVec Ideal S128x32x64x64 .f32) (w k v u a : FVec Ideal S128x32x64 .f32) : FVec Ideal S128x32x64x64 .f32 :=
  addf (addf (mulf s (broadcastInDim S128x32x64x64 ![0, 1, 2, 3] bcast_S128x32x1x64_S128x32x64x64_0_1_2_3 (broadcastInDim S128x32x1x64 ![0, 1, 3] bcast_S128x32x64_S128x32x1x64_0_1_3 w)))
      (mulf (broadcastInDim S128x32x64x64 ![0, 1, 2, 3] bcast_S128x32x64x1_S128x32x64x64_0_1_2_3 (broadcastInDim S128x32x64x1 ![0, 1, 2] bcast_S128x32x64_S128x32x64x1_0_1_2
          (Host.dotGeneral dot_S128x32x64x64_S128x32x64_S128x32x64_3_2_2_n_01_01 none s (Host.negf u))))
        (broadcastInDim S128x32x64x64 ![0, 1, 2, 3] bcast_S128x32x1x64_S128x32x64x64_0_1_2_3 (broadcastInDim S128x32x1x64 ![0, 1, 3] bcast_S128x32x64_S128x32x1x64_0_1_3 (mulf u a)))))
    (mulf (broadcastInDim S128x32x64x64 ![0, 1, 2, 3] bcast_S128x32x64x1_S128x32x64x64_0_1_2_3 (broadcastInDim S128x32x64x1 ![0, 1, 2] bcast_S128x32x64_S128x32x64x1_0_1_2 v))
      (broadcastInDim S128x32x64x64 ![0, 1, 2, 3] bcast_S128x32x1x64_S128x32x64x64_0_1_2_3 (broadcastInDim S128x32x1x64 ![0, 1, 3] bcast_S128x32x64_S128x32x1x64_0_1_3 k)))

theorem stepAll_apply (s : FVec Ideal S128x32x64x64 .f32) (w k v u a : FVec Ideal S128x32x64 .f32) (b : Fin 128) (h : Fin 32) (x j : Fin 64) :
    stepAll s w k v u a (ix4 b h x j) = step (fun i => s (ix4 b h x i)) (fun i => -(u (ix3 b h i))) (fun i => w (ix3 b h i))
      (fun i => u (ix3 b h i) * a (ix3 b h i)) (fun i => k (ix3 b h i)) (v (ix3 b h x)) j := by
  pointwise [stepAll, step]

theorem headAt_eq (t : Fin 4) (o : Fin 4 → Nat) (ho : o = ![0, t.val, 0, 0]) (hs : S128x4x32x64.Slices o S128x1x32x64) (x : Vec Ideal S128x4x32x64 .f32) :
    shapeCast S128x32x64 (extractStridedSlice S128x1x32x64 o x hs) shapeCasts_S128x1x32x64_S128x32x64 = headAt t x := by
  subst ho
  refine funext fun (y : S128x32x64.Idx) => ?_
  obtain ⟨b, h, j, rfl⟩ : ∃ (b : Fin 128) (h : Fin 32) (j : Fin 64), y = ix3 b h j :=
    ⟨y 0, y 1, y 2, funext fun a => match a with | ⟨0, _⟩ => rfl | ⟨1, _⟩ => rfl | ⟨2, _⟩ => rfl⟩
  show _ = x (ix4 b t h j)
  pointwise

end Cert.Wkv

end
-- ==== Proof.Wkv.RefState.lean ====
/- The reference's state after the four steps, and its run. -/
module

public import proofs.«01_k».proof.Proof.Wkv.RefHeads
public import proofs.«01_k».proof.Proof.Wkv.RefStep

@[expose] public section

noncomputable section

namespace Cert.Wkv

open Idealize.ShloMosaic Idealize.ShloMosaic.TcCoe Idealize.SL.Sem Idealize.ShloMosaic.StableHlo Cert.Reference5Ideal Cert.Reference5Ideal.Gen Cert.Reference5Ideal.Read

variable (x0 : Vec Ideal S4x128x8320 .f32) (x1 : Vec Ideal S1x128x6272 .f32) (x2 : Vec Ideal S1x128x32x64x64 .f32)
  (x3 : Vec Ideal S1x6272 .f32) (x4 : Vec Ideal S1x2048 .f32) (x5 : Vec Ideal S1x64x2048 .f32) (x6 : Vec Ideal S1x2048 .f32)
  (x7 : Vec Ideal S1x64x2048 .f32) (x8 x9 : Vec Ideal S1x2048 .f32)

theorem ref_step0 : val_main_v98 (F := Ideal) x0 x1 x2 x3 x4 x5 x6 x7 x8 x9 = stepAll (val_main_v70 (F := Ideal) x2) (headAt 0 (val_main_v46 (F := Ideal) x0 x1 x3 x4 x5))
    (headAt 0 (val_main_v69 (F := Ideal) x0 x1 x3 x6 x7 x9)) (headAt 0 (val_main_v44 (F := Ideal) x0 x1 x3)) (headAt 0 (val_main_v59 (F := Ideal) x0 x1 x3 x8))
    (headAt 0 (val_main_v45 (F := Ideal) x0 x1 x3 x6 x7)) := by
  simp only [← headAt_eq 0 ![0, 0, 0, 0] rfl slices_S128x4x32x64_S128x1x32x64_0_0_0_0]
  rfl

theorem ref_step1 : val_main_v126 (F := Ideal) x0 x1 x2 x3 x4 x5 x6 x7 x8 x9 = stepAll (val_main_v98 (F := Ideal) x0 x1 x2 x3 x4 x5 x6 x7 x8 x9) (headAt 1 (val_main_v46 (F := Ideal) x0 x1 x3 x4 x5))
    (headAt 1 (val_main_v69 (F := Ideal) x0 x1 x3 x6 x7 x9)) (headAt 1 (val_main_v44 (F := Ideal) x0 x1 x3)) (headAt 1 (val_main_v59 (F := Ideal) x0 x1 x3 x8))
    (headAt 1 (val_main_v45 (F := Ideal) x0 x1 x3 x6 x7)) := by
  simp only [← headAt_eq 1 ![0, 1, 0, 0] rfl slices_S128x4x32x64_S128x1x32x64_0_1_0_0]
  rfl

theorem ref_step2 : val_main_v154 (F := Ideal) x0 x1 x2 x3 x4 x5 x6 x7 x8 x9 = stepAll (val_main_v126 (F := Ideal) x0 x1 x2 x3 x4 x5 x6 x7 x8 x9) (headAt 2 (val_main_v46 (F := Ideal) x0 x1 x3 x4 x5))
    (headAt 2 (val_main_v69 (F := Ideal) x0 x1 x3 x6 x7 x9)) (headAt 2 (val_main_v44 (F := Ideal) x0 x1 x3)) (headAt 2 (val_main_v59 (F := Ideal) x0 x1 x3 x8))
    (headAt 2 (val_main_v45 (F := Ideal) x0 x1 x3 x6 x7)) := by
  simp only [← headAt_eq 2 ![0, 2, 0, 0] rfl slices_S128x4x32x64_S128x1x32x64_0_2_0_0]
  rfl

theorem ref_step3 : val_main_v182 (F := Ideal) x0 x1 x2 x3 x4 x5 x6 x7 x8 x9 = stepAll (val_main_v154 (F := Ideal) x0 x1 x2 x3 x4 x5 x6 x7 x8 x9) (headAt 3 (val_main_v46 (F := Ideal) x0 x1 x3 x4 x5))
    (headAt 3 (val_main_v69 (F := Ideal) x0 x1 x3 x6 x7 x9)) (headAt 3 (val_main_v44 (F := Ideal) x0 x1 x3)) (headAt 3 (val_main_v59 (F := Ideal) x0 x1 x3 x8))
    (headAt 3 (val_main_v45 (F := Ideal) x0 x1 x3 x6 x7)) := by
  simp only [← headAt_eq 3 ![0, 3, 0, 0] rfl slices_S128x4x32x64_S128x1x32x64_0_3_0_0]
  rfl

theorem ref_start (b : Fin 128) (h : Fin 32) (v j : Fin 64) : val_main_v70 (F := Ideal) x2 (ix4 b h v j) = (refArgs x0 x1 x2 x3 x4 x5 x6 x7 x8 x9).s b h v j := by
  pointwise [val_main_v70]
  rfl

/-- The vectors of a step, as the new row takes them. -/
theorem ref_vectors (t : Fin 4) (b : Fin 128) (h : Fin 32) (s : Fin 64 → EReal) (v j : Fin 64) :
    step s (fun i => -(headAt t (val_main_v59 (F := Ideal) x0 x1 x3 x8) (ix3 b h i))) (fun i => headAt t (val_main_v46 (F := Ideal) x0 x1 x3 x4 x5) (ix3 b h i))
        (fun i => headAt t (val_main_v59 (F := Ideal) x0 x1 x3 x8) (ix3 b h i) * headAt t (val_main_v45 (F := Ideal) x0 x1 x3 x6 x7) (ix3 b h i))
        (fun i => headAt t (val_main_v69 (F := Ideal) x0 x1 x3 x6 x7 x9) (ix3 b h i)) (headAt t (val_main_v44 (F := Ideal) x0 x1 x3) (ix3 b h v)) j
      = (refArgs x0 x1 x2 x3 x4 x5 x6 x7 x8 x9).stepAt b h v t s j := by
  unfold Args.stepAt
  have e : ∀ (x : Vec Ideal S128x4x32x64 .f32) (i : Fin 64), headAt t x (ix3 b h i) = x (ix4 b t h i) := fun _ _ => rfl
  simp only [e, ref_unit x0 x1 x2 x3 x4 x5 x6 x7 x8 x9, ref_decays x0 x1 x2 x3 x4 x5 x6 x7 x8 x9, ref_rate x0 x1 x2 x3 x4 x5 x6 x7 x8 x9,
    ref_key x0 x1 x2 x3 x4 x5 x6 x7 x8 x9, ref_values x0 x1 x2 x3 x4 x5 x6 x7 x8 x9]

/-- The state after the four steps is the new state of the arguments. -/
theorem ref_state (b : Fin 128) (h : Fin 32) (v j : Fin 64) : val_main_v182 (F := Ideal) x0 x1 x2 x3 x4 x5 x6 x7 x8 x9 (ix4 b h v j) = (refArgs x0 x1 x2 x3 x4 x5 x6 x7 x8 x9).newState b h v j := by
  rw [ref_step3, stepAll_apply, ref_vectors x0 x1 x2 x3 x4 x5 x6 x7 x8 x9]
  simp only [ref_step2, stepAll_apply, ref_vectors x0 x1 x2 x3 x4 x5 x6 x7 x8 x9]
  simp only [ref_step1, stepAll_apply, ref_vectors x0 x1 x2 x3 x4 x5 x6 x7 x8 x9]
  simp only [ref_step0, stepAll_apply, ref_vectors x0 x1 x2 x3 x4 x5 x6 x7 x8 x9]
  simp only [ref_start x0 x1 x2 x3 x4 x5 x6 x7 x8 x9]
  rfl

/-- The new state in the layout in which it came. -/
theorem ref_out : val_main_v183 (F := Ideal) x0 x1 x2 x3 x4 x5 x6 x7 x8 x9 = fun i => (refArgs x0 x1 x2 x3 x4 x5 x6 x7 x8 x9).newState (i 1) (i 2) (i 3) (i 4) := by
  refine funext fun (y : S1x128x32x64x64.Idx) => ?_
  obtain ⟨a, b, h, v, j, rfl⟩ : ∃ (a : Fin 1) (b : Fin 128) (h : Fin 32) (v j : Fin 64), y = ix5 a b h v j :=
    ⟨y 0, y 1, y 2, y 3, y 4, funext fun a => match a with | ⟨0, _⟩ => rfl | ⟨1, _⟩ => rfl | ⟨2, _⟩ => rfl | ⟨3, _⟩ => rfl | ⟨4, _⟩ => rfl⟩
  refine Eq.trans ?_ (ref_state x0 x1 x2 x3 x4 x5 x6 x7 x8 x9 b h v j)
  dsimp only [val_main_v183]
  generalize val_main_v182 (F := Ideal) x0 x1 x2 x3 x4 x5 x6 x7 x8 x9 = z
  pointwise

/-- The reference's run, with the state read. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v183)
        = (fun i => (refArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).newState (i 1) (i 2) (i 3) (i 4) : Vec Ideal S1x128x32x64x64 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans ((val_main_v183_eq (F := Ideal) (launchContents m c)).trans (ref_out _ _ _ _ _ _ _ _ _ _)), (h c).2⟩)
    (Cert.Reference5Ideal.Value.run (F := Ideal) m ρ)

end Cert.Wkv

end
-- ==== Proof.Wkv.Finite.lean ====
/- What the precondition says of an entry: an entry whose size is below infinity is a real number. -/
module

public import proofs.«01_k».proof.Proof.Gen.Pre_finite
public import proofs.«01_k».proof.Proof.Wkv.Args
public import Idealize.ShloMosaic.Lib.ReduceAll
public import Idealize.ShloMosaic.Lib.Pointwise
public import Idealize.ShloMosaic.PureOps.Ideal.Laws

@[expose] public section

noncomputable section

namespace Cert.Wkv

open Idealize.ShloMosaic Cert.Pre_finite

theorem real_of_lt (x : EReal) (h : max x (-x) < ⊤) : ∃ r : ℝ, x = (r : EReal) := by
  induction x with
  | bot => simp at h
  | top => simp at h
  | coe r => exact ⟨r, rfl⟩

theorem inf_eq : Ideal.ofBits .f32 0x7F800000#32 = (⊤ : EReal) := by
  simp [Ideal.ofBits, Ideal.ieee]

variable {s : Shape}

/-- An array all of whose entries are below infinity in size has real entries. -/
theorem real_of_all (x : FVec Ideal s .f32) (hb : S_.BroadcastsInDim s (![] : Fin 0 → Fin s.rank)) {axes} (hred : s.ReducesTo axes S_) (h0 : 0 < S_.numel)
    (e : Host.reduce IntOp.andi (cmpf .olt (Host.absf x) (broadcastInDim s ![] hb (constant S_ .f32 0x7F800000#32))) (constantI S_ 1 1#1) hred h0 (fun a => a.elim0) = 1#1)
    (i : s.Idx) : ∃ r : ℝ, x i = (r : EReal) := by
  have : Subsingleton S_.Idx := ⟨fun a b => funext fun k => k.elim0⟩
  have h := Host.reduce_andi_all _ _ _ _ _ e i
  refine real_of_lt _ ?_
  rw [← inf_eq]
  exact (Ideal.cmp_olt_eq_one _ _).1 h

theorem andi_one {x y : BitVec 1} (h : x &&& y = 1#1) : x = 1#1 ∧ y = 1#1 := by
  revert x y; decide

/-- Under the precondition, the four arrays that the removal key is made from have real entries. -/
theorem real_of_pre (x0 : FVec Ideal S4x128x8320 .f32) (x1 : FVec Ideal S1x128x6272 .f32) (x2 : FVec Ideal S1x128x32x64x64 .f32)
    (x3 : FVec Ideal S1x6272 .f32) (x4 : FVec Ideal S1x2048 .f32) (x5 : FVec Ideal S1x64x2048 .f32) (x6 : FVec Ideal S1x2048 .f32)
    (x7 : FVec Ideal S1x64x2048 .f32) (x8 x9 : FVec Ideal S1x2048 .f32) (x10 : FVec Ideal S1x32x64 .f32) (x11 x12 : FVec Ideal S1x2048 .f32)
    (h : fn (F := Ideal) x0 x1 x2 x3 x4 x5 x6 x7 x8 x9 x10 x11 x12 = fun _ => 1#1) :
    (∀ i, ∃ r : ℝ, x0 i = (r : EReal)) ∧ (∀ i, ∃ r : ℝ, x1 i = (r : EReal)) ∧ (∀ i, ∃ r : ℝ, x3 i = (r : EReal)) ∧ ∀ i, ∃ r : ℝ, x8 i = (r : EReal) := by
  obtain ⟨h, h8⟩ := andi_one (congrFun h (fun a => a.elim0))
  obtain ⟨h, h3⟩ := andi_one h
  obtain ⟨h0, h1⟩ := andi_one h
  exact ⟨real_of_all _ _ _ _ h0, real_of_all _ _ _ _ h1, real_of_all _ _ _ _ h3, real_of_all _ _ _ _ h8⟩

end Cert.Wkv

end
-- ==== Proof.lean ====
/- The proof of the claims: the frames, and that at the ideal instance each kernel and its reference end with the same arrays,
   which both modules state as one function of the arguments. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Array
public import proofs.«01_k».proof.Proof.Ref
public import proofs.«01_k».proof.Proof.NormProj.Tail
public import proofs.«01_k».proof.Proof.NormProj.Ref
public import proofs.«01_k».proof.Proof.Sample.Array
public import proofs.«01_k».proof.Proof.Sample.Ref
public import proofs.«01_k».proof.Proof.OutProj.Tail
public import proofs.«01_k».proof.Proof.OutProj.Ref
public import proofs.«01_k».proof.Proof.Wkv.FrameBits
public import proofs.«01_k».proof.Proof.Wkv.Tail
public import proofs.«01_k».proof.Proof.Wkv.RefState
public import proofs.«01_k».proof.Proof.Wkv.Finite
public import Idealize.ShloMosaic.Lib.Quiescent

@[expose] public section

noncomputable section

namespace Cert.Proof

open Idealize.ShloMosaic Idealize.SL.Sem

/-- The reference runs and keeps its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.Mixer.ref_run m ρ)

theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.NormProj.ref_run m ρ)

theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Sample.ref_run m ρ)

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.OutProj.ref_run m ρ)

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Wkv.ref_run m ρ)

/-- Both programs end with the layer of the arguments. -/
theorem algebraic : Cert.algebraic_KernelIdeal_ReferenceIdeal (hKernelIdeal := Cert.KernelIdeal.Gen.facts)
    (hReferenceIdeal := Cert.ReferenceIdeal.Gen.facts) := fun m ρ m' ρ' _ hagree =>
  ⟨Cert.Mixer.result m, Cert.Mixer.run m ρ,
    (θ_run Cert.ReferenceIdeal.defs _ _).mono (fun _ h c => ⟨(h c).1.trans (by
      obtain ⟨h0, h1, h2, h3, h4, h5, h6, h7, h8, h9, h10⟩ := hagree c
      rw [h0, h1, h2, h3, h4, h5, h6, h7, h8, h9, h10]), (h c).2⟩) (Cert.Mixer.ref_run m' ρ')⟩

/-- Both programs end with the sample's projection and its last token's half. -/
theorem algebraic2 : Cert.algebraic_Kernel2Ideal_Reference2Ideal (hKernel2Ideal := Cert.Kernel2Ideal.Gen.facts)
    (hReference2Ideal := Cert.Reference2Ideal.Gen.facts) := fun m ρ m' ρ' _ hagree =>
  ⟨Cert.NormProj.result7 m, Cert.NormProj.result10 m, Cert.NormProj.run m ρ,
    (θ_run Cert.Reference2Ideal.defs _ _).mono (fun _ h c => by
      obtain ⟨h0, h1, h2⟩ := hagree c
      exact ⟨(h c).1.trans (by rw [h0, h1, h2]), (h c).2.1.trans (by rw [h0, h1, h2]), (h c).2.2⟩) (Cert.NormProj.ref_run m' ρ')⟩

/-- Both programs end with the sample's layer and its gated half. -/
theorem algebraic3 : Cert.algebraic_Kernel3Ideal_Reference3Ideal (hKernel3Ideal := Cert.Kernel3Ideal.Gen.facts)
    (hReference3Ideal := Cert.Reference3Ideal.Gen.facts) := fun m ρ m' ρ' _ hagree =>
  ⟨Cert.Sample.result0 m, Cert.Sample.result1 m, Cert.Sample.run m ρ,
    (θ_run Cert.Reference3Ideal.defs _ _).mono (fun _ h c => by
      obtain ⟨h0, h1, h2, h3, h4, h5, h6, h7, h8⟩ := hagree c
      exact ⟨(h c).1.trans (by rw [h0, h1, h2, h3, h4, h5, h6, h7, h8]), (h c).2.1.trans (by rw [h0, h1, h3, h4, h5, h6, h7, h8]), (h c).2.2⟩)
      (Cert.Sample.ref_run m' ρ')⟩

/-- Both programs end with the sample's output projection. -/
theorem algebraic4 : Cert.algebraic_Kernel4Ideal_Reference4Ideal (hKernel4Ideal := Cert.Kernel4Ideal.Gen.facts)
    (hReference4Ideal := Cert.Reference4Ideal.Gen.facts) := fun m ρ m' ρ' _ hagree =>
  ⟨Cert.OutProj.result m, Cert.OutProj.run m ρ,
    (θ_run Cert.Reference4Ideal.defs _ _).mono (fun _ h c => by
      obtain ⟨h0, h1, h2⟩ := hagree c
      exact ⟨(h c).1.trans (by rw [h0, h1, h2]), (h c).2⟩) (Cert.OutProj.ref_run m' ρ')⟩

/-- Both programs end with the state after the sample's four tokens. -/
theorem algebraic5 : Cert.algebraic_Kernel5Ideal_Reference5Ideal_pre_finite (hKernel5Ideal := Cert.Kernel5Ideal.Gen.facts)
    (hReference5Ideal := Cert.Reference5Ideal.Gen.facts) (hPre_finite := Cert.Pre_finite.Gen.facts) := fun m ρ m' ρ' hpre hagree =>
  ⟨fun c => (Cert.Wkv.args m c).stateOut,
    Cert.Wkv.run m ρ (fun c b t h j => by
      obtain ⟨hp, hq, hm, hk⟩ := Cert.Wkv.real_of_pre _ _ _ _ _ _ _ _ _ _ _ _ _ (hpre c)
      exact Cert.Wkv.Args.raw_real _ (fun _ _ _ => hp _) (fun _ _ => hq _) (fun _ => hm _) (fun _ => hk _) b t h j),
    (θ_run Cert.Reference5Ideal.defs _ _).mono (fun _ h c => ⟨(h c).1.trans (by
      obtain ⟨h0, h1, h2, h3, h4, h5, h6, h7, h8, h9, _⟩ := hagree c
      rw [h0, h1, h2, h3, h4, h5, h6, h7, h8, h9]
      rfl), (h c).2⟩) (Cert.Wkv.ref_run m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, fun m ρ _ => Cert.Kernel5Ideal.Gen.frame m ρ,
    frame_reference5, fun m ρ _ => frame_reference5 m ρ trivial,
    trivial, algebraic, trivial, algebraic2, trivial, algebraic3, trivial, algebraic4,
    IdealRules.named_const.statement Cert.Kernel5Ideal.κ "cap" .f32 0x5368D4A5#32 _ rfl, algebraic5⟩

end Cert.Proof

end
